-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v136) = v0 c
          ∧ r.2.mem ((c.tc : Thread Cert.Reference4Ideal.nD Cert.Reference4Ideal.τ).loc Cert.Reference4Ideal.main_v138) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "qscale" .f32 0x3E0293EE#32 (((11863283 / 134217728) * (Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_v79) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S8448x1024 : Shape := ⟨2, ![8448, 1024]⟩
abbrev S8448x256 : Shape := ⟨2, ![8448, 256]⟩
abbrev S_ : Shape := ⟨0, ![]⟩

class Facts : Prop where
  bcast_S_S8448x1024 : S_.BroadcastsInDim S8448x1024 (![] : Fin 0 → Fin S8448x1024.rank)
  bcast_S_S8448x256 : S_.BroadcastsInDim S8448x256 (![] : Fin 0 → Fin S8448x256.rank)

variable [Facts]

def fn {F : FTy → Type} [FloatOps F] (main_arg0 : FVec F S8448x1024 .f32) (main_arg1 : FVec F S8448x256 .f32) (main_arg2 : FVec F S8448x256 .f32) : IVec S8448x1024 1 × IVec S8448x256 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  (main_v2, main_v5)
-- ==== Pre_finite6.lean ====
abbrev S8x2048 : Shape := ⟨2, ![8, 2048]⟩
abbrev S4x2048x6144 : Shape := ⟨3, ![4, 2048, 6144]⟩
abbrev S4x6144 : Shape := ⟨2, ![4, 6144]⟩
abbrev S_ : Shape := ⟨0, ![]⟩

class Facts : Prop where
  bcast_S_S8x2048 : S_.BroadcastsInDim S8x2048 (![] : Fin 0 → Fin S8x2048.rank)
  bcast_S_S4x2048x6144 : S_.BroadcastsInDim S4x2048x6144 (![] : Fin 0 → Fin S4x2048x6144.rank)

variable [Facts]

def fn {F : FTy → Type} [FloatOps F] (main_arg0 : FVec F S8x2048 .f32) (main_arg1 : FVec F S4x2048x6144 .f32) (main_arg2 : FVec F S4x6144 .f32) : IVec S8x2048 1 × IVec S4x2048x6144 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_v3 : FVec F S4x2048x6144 .f32 := Host.absf main_arg1
  let main_cst_0 : FVec F S_ .f32 := constant S_ .f32 0x7F800000#32
  let main_v4 : FVec F S4x2048x6144 .f32 := broadcastInDim S4x2048x6144 ![] bcast_S_S4x2048x6144 main_cst_0
  let main_v5 : IVec S4x2048x6144 1 := cmpf .olt main_v3 main_v4
  (main_v2, main_v5)
-- ==== Pre_finite7.lean ====
abbrev S8448x1024 : Shape := ⟨2, ![8448, 1024]⟩
abbrev S8448x256 : Shape := ⟨2, ![8448, 256]⟩
abbrev S256x1024 : Shape := ⟨2, ![256, 1024]⟩
abbrev S_ : Shape := ⟨0, ![]⟩
abbrev S256x256 : Shape := ⟨2, ![256, 256]⟩

class Facts : Prop where
  slices_S8448x1024_S256x1024_0_0 : S8448x1024.Slices ![0, 0] S256x1024
  bcast_S_S256x1024 : S_.BroadcastsInDim S256x1024 (![] : Fin 0 → Fin S256x1024.rank)
  slices_S8448x256_S256x256_0_0 : S8448x256.Slices ![0, 0] S256x256
  bcast_S_S256x256 : S_.BroadcastsInDim S256x256 (![] : Fin 0 → Fin S256x256.rank)

variable [Facts]

def fn {F : FTy → Type} [FloatOps F] (main_arg0 : FVec F S8448x1024 .f32) (main_arg1 : FVec F S8448x256 .f32) (main_arg2 : FVec F S8448x256 .f32) : IVec S256x1024 1 × IVec S256x256 1 :=
  let main_v0 : FVec F S256x1024 .f32 := (extractStridedSlice S256x1024 ![0, 0] · slices_S8448x1024_S256x1024_0_0) main_arg0
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S256x256 .f32 := (extractStridedSlice S256x256 ![0, 0] · slices_S8448x256_S256x256_0_0) main_arg1
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  (main_v3, main_v7)
-- ==== Pre_finite8.lean ====
abbrev S8448x5760 : Shape := ⟨2, ![8448, 5760]⟩
abbrev S8192x64 : Shape := ⟨2, ![8192, 64]⟩
abbrev S1x128 : Shape := ⟨2, ![1, 128]⟩
abbrev S8448x1024 : Shape := ⟨2, ![8448, 1024]⟩
abbrev S_ : Shape := ⟨0, ![]⟩
abbrev S8448x256 : Shape := ⟨2, ![8448, 256]⟩

class Facts : Prop where
  slices_S8448x5760_S8448x1024_0_0 : S8448x5760.Slices ![0, 0] S8448x1024
  bcast_S_S8448x1024 : S_.BroadcastsInDim S8448x1024 (![] : Fin 0 → Fin S8448x1024.rank)
  slices_S8448x5760_S8448x256_0_2048 : S8448x5760.Slices ![0, 2048] S8448x256
  bcast_S_S8448x256 : S_.BroadcastsInDim S8448x256 (![] : Fin 0 → Fin S8448x256.rank)

variable [Facts]

def fn {F : FTy → Type} [FloatOps F] (main_arg0 : FVec F S8448x5760 .f32) (main_arg1 : FVec F S8192x64 .f32) (main_arg2 : FVec F S8192x64 .f32) (main_arg3 : FVec F S1x128 .f32) (main_arg4 : FVec F S1x128 .f32) : IVec S8448x1024 1 × IVec S8448x256 1 :=
  let main_v0 : FVec F S8448x1024 .f32 := (extractStridedSlice S8448x1024 ![0, 0] · slices_S8448x5760_S8448x1024_0_0) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S8448x256 .f32 := (extractStridedSlice S8448x256 ![0, 2048] · slices_S8448x5760_S8448x256_0_2048) main_arg0
  let main_v5 : FVec F S8448x256 .f32 := Host.absf main_v4
  let main_cst_0 : FVec F S_ .f32 := constant S_ .f32 0x7F800000#32
  let main_v6 : FVec F S8448x256 .f32 := broadcastInDim S8448x256 ![] bcast_S_S8448x256 main_cst_0
  let main_v7 : IVec S8448x256 1 := cmpf .olt main_v5 main_v6
  (main_v3, main_v7)
-- ==== Kernel.lean ====
abbrev S8448x1024 : Shape := ⟨2, ![8448, 1024]⟩
abbrev S8448x256 : Shape := ⟨2, ![8448, 256]⟩
abbrev S33x256x2x128 : Shape := ⟨4, ![33, 256, 2, 128]⟩
abbrev S33x2x128x256 : Shape := ⟨4, ![33, 2, 128, 256]⟩
abbrev S_ : Shape := ⟨0, ![]⟩
abbrev S33x2x16x256 : Shape := ⟨4, ![33, 2, 16, 256]⟩
abbrev S33x2x144x256 : Shape := ⟨4, ![33, 2, 144, 256]⟩
abbrev S8192x1024 : Shape := ⟨2, ![8192, 1024]⟩
abbrev S256x512 : Shape := ⟨2, ![256, 512]⟩
abbrev S8448x128 : Shape := ⟨2, ![8448, 128]⟩
abbrev S33x1x144x256 : Shape := ⟨4, ![33, 1, 144, 256]⟩
abbrev S4x256x256 : Shape := ⟨3, ![4, 256, 256]⟩
abbrev S4x512x256 : Shape := ⟨3, ![4, 512, 256]⟩
abbrev S4x144x256 : Shape := ⟨3, ![4, 144, 256]⟩
abbrev S256x128 : Shape := ⟨2, ![256, 128]⟩
abbrev S512x128 : Shape := ⟨2, ![512, 128]⟩
abbrev S512x256 : Shape := ⟨2, ![512, 256]⟩
abbrev S1x512x256 : Shape := ⟨3, ![1, 512, 256]⟩
abbrev S1x1x144x256 : Shape := ⟨4, ![1, 1, 144, 256]⟩
abbrev S144x256 : Shape := ⟨2, ![144, 256]⟩
abbrev S256 : Shape := ⟨1, ![256]⟩
abbrev S1x256 : Shape := ⟨2, ![1, 256]⟩
abbrev S256x256 : Shape := ⟨2, ![256, 256]⟩
abbrev S1x144x256 : Shape := ⟨3, ![1, 144, 256]⟩
abbrev S1x256x256 : Shape := ⟨3, ![1, 256, 256]⟩
abbrev S128x256 : Shape := ⟨2, ![128, 256]⟩

abbrev nBuf : Space → Nat
  | .hbm => 11
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x256, .bf16⟩
  | .hbm, ⟨4, _⟩ => ⟨S33x256x2x128, .f32⟩
  | .hbm, ⟨5, _⟩ => ⟨S33x2x128x256, .f32⟩
  | .hbm, ⟨6, _⟩ => ⟨S_, .f32⟩
  | .hbm, ⟨7, _⟩ => ⟨S33x2x16x256, .f32⟩
  | .hbm, ⟨8, _⟩ => ⟨S33x2x144x256, .f32⟩
  | .hbm, ⟨9, _⟩ => ⟨S33x2x144x256, .bf16⟩
  | .hbm, ⟨10, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S8448x128, .bf16⟩
  | .local _ .vmem, ⟨3, _⟩ => ⟨S8448x128, .bf16⟩
  | .local _ .vmem, ⟨4, _⟩ => ⟨S33x1x144x256, .bf16⟩
  | .local _ .vmem, ⟨5, _⟩ => ⟨S33x1x144x256, .bf16⟩
  | .local _ .vmem, ⟨6, _⟩ => ⟨S256x512, .f32⟩
  | .local _ .vmem, ⟨7, _⟩ => ⟨S256x512, .f32⟩
  | .local _ .vmem, ⟨8, _⟩ => ⟨S4x256x256, .f32⟩
  | .local _ .vmem, ⟨9, _⟩ => ⟨S4x512x256, .f32⟩
  | .local _ .vmem, ⟨10, _⟩ => ⟨S4x512x256, .f32⟩
  | .local _ .vmem, ⟨11, _⟩ => ⟨S4x144x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_mult1 : BitVec 32 :=
  let c256_i32 : BitVec 32 := 256#32
  c256_i32
def k0_mult2 : BitVec 32 :=
  let c768_i32 : BitVec 32 := 768#32
  c768_i32
def k0_mult3 : BitVec 32 :=
  let c1280_i32 : BitVec 32 := 1280#32
  c1280_i32
@[reducible] def k0_t1_loop : Scf.Loop 32 :=
  let c0_i32 : BitVec 32 := 0#32
  let c2_i32 : BitVec 32 := 2#32
  let v244 : BitVec 32 := Scalar.addi c0_i32 c2_i32
  let c1_i32 : BitVec 32 := 1#32
  ⟨c0_i32, v244, c1_i32⟩
def k0_mult4 (k0_t1 : Fin k0_t1_loop.trips) : BitVec 32 :=
  let c256_i32_370 : BitVec 32 := 256#32
  let c2_i32_367 : BitVec 32 := 2#32
  let c3_i32 : BitVec 32 := 3#32
  let c0_i32 : BitVec 32 := 0#32
  let c1_i32 : BitVec 32 := 1#32
  let arg10 : BitVec 32 := Scf.iv c0_i32 c1_i32 k0_t1
  let v598 : BitVec 32 := Scalar.muli c3_i32 arg10
  let c0_i32_366 : BitVec 32 := 0#32
  let v599 : BitVec 32 := Scalar.addi v598 c0_i32_366
  let v600 : BitVec 32 := Scalar.muli c2_i32_367 v599
  let c2_i32_368 : BitVec 32 := 2#32
  let v601 : BitVec 32 := Scalar.addi v600 c2_i32_368
  let c1_i32_369 : BitVec 32 := 1#32
  let v602 : BitVec 32 := Scalar.addi v601 c1_i32_369
  let c512_i32 : BitVec 32 := 512#32
  let v603 : BitVec 32 := Scalar.muli v602 c512_i32
  let v604 : BitVec 32 := Scalar.addi c256_i32_370 v603
  v604
def k0_off1 (k0_t1 : Fin k0_t1_loop.trips) (c0_i32_366 : BitVec 32) (c1_i32_369 : BitVec 32) : Fin 2 → Nat :=
  let c256_i32_370 : BitVec 32 := 256#32
  let c2_i32_367 : BitVec 32 := 2#32
  let c3_i32 : BitVec 32 := 3#32
  let c0_i32 : BitVec 32 := 0#32
  let c1_i32 : BitVec 32 := 1#32
  let arg10 : BitVec 32 := Scf.iv c0_i32 c1_i32 k0_t1
  let v598 : BitVec 32 := Scalar.muli c3_i32 arg10
  let v599 : BitVec 32 := Scalar.addi v598 c0_i32_366
  let v600 : BitVec 32 := Scalar.muli c2_i32_367 v599
  let c2_i32_368 : BitVec 32 := 2#32
  let v601 : BitVec 32 := Scalar.addi v600 c2_i32_368
  let v602 : BitVec 32 := Scalar.addi v601 c1_i32_369
  let c512_i32 : BitVec 32 := 512#32
  let v603 : BitVec 32 := Scalar.muli v602 c512_i32
  let v604 : BitVec 32 := Scalar.addi c256_i32_370 v603
  let v605 : BitVec 32 := v604
  let v606 : Index := Scalar.indexCast v605
  let c0_371 : Index := 0#32
  ![v606.toNat, 0]
def k0_off2 (k0_t1 : Fin k0_t1_loop.trips) (c0_i32_366 : BitVec 32) (c0_i32_390 : BitVec 32) : Fin 4 → Nat :=
  let c1_i32_389 : BitVec 32 := 1#32
  let c2_i32_388 : BitVec 32 := 2#32
  let c2_i32_367 : BitVec 32 := 2#32
  let c3_i32 : BitVec 32 := 3#32
  let c0_i32 : BitVec 32 := 0#32
  let c1_i32 : BitVec 32 := 1#32
  let arg10 : BitVec 32 := Scf.iv c0_i32 c1_i32 k0_t1
  let v598 : BitVec 32 := Scalar.muli c3_i32 arg10
  let v599 : BitVec 32 := Scalar.addi v598 c0_i32_366
  let v600 : BitVec 32 := Scalar.muli c2_i32_367 v599
  let c2_i32_368 : BitVec 32 := 2#32
  let v601 : BitVec 32 := Scalar.addi v600 c2_i32_368
  let v625 : BitVec 32 := Scalar.muli c2_i32_388 v601
  let v626 : BitVec 32 := Scalar.addi c1_i32_389 v625
  let v627 : BitVec 32 := Scalar.addi v626 c0_i32_390
  let v628 : Index := Scalar.indexCast v627
  let c0_391 : Index := 0#32
  let c0_392 : Index := 0#32
  let c0_393 : Index := 0#32
  ![v628.toNat, 0, 0, 0]
def k0_mult5 (k0_t1 : Fin k0_t1_loop.trips) : BitVec 32 :=
  let c256_i32_448 : BitVec 32 := 256#32
  let c2_i32_367 : BitVec 32 := 2#32
  let c3_i32 : BitVec 32 := 3#32
  let c0_i32 : BitVec 32 := 0#32
  let c1_i32 : BitVec 32 := 1#32
  let arg10 : BitVec 32 := Scf.iv c0_i32 c1_i32 k0_t1
  let v598 : BitVec 32 := Scalar.muli c3_i32 arg10
  let c0_i32_366 : BitVec 32 := 0#32
  let v599 : BitVec 32 := Scalar.addi v598 c0_i32_366
  let v600 : BitVec 32 := Scalar.muli c2_i32_367 v599
  let c2_i32_368 : BitVec 32 := 2#32
  let v601 : BitVec 32 := Scalar.addi v600 c2_i32_368
  let c2_i32_446 : BitVec 32 := 2#32
  let v731 : BitVec 32 := Scalar.addi v601 c2_i32_446
  let c512_i32_447 : BitVec 32 := 512#32
  let v732 : BitVec 32 := Scalar.muli v731 c512_i32_447
  let v733 : BitVec 32 := Scalar.addi c256_i32_448 v732
  v733
def k0_off3 (k0_t1 : Fin k0_t1_loop.trips) (c0_i32_366 : BitVec 32) (c0_i32_469 : BitVec 32) : Fin 4 → Nat :=
  let c1_i32_467 : BitVec 32 := 1#32
  let c2_i32_466 : BitVec 32 := 2#32
  let c2_i32_367 : BitVec 32 := 2#32
  let c3_i32 : BitVec 32 := 3#32
  let c0_i32 : BitVec 32 := 0#32
  let c1_i32 : BitVec 32 := 1#32
  let arg10 : BitVec 32 := Scf.iv c0_i32 c1_i32 k0_t1
  let v598 : BitVec 32 := Scalar.muli c3_i32 arg10
  let v599 : BitVec 32 := Scalar.addi v598 c0_i32_366
  let v600 : BitVec 32 := Scalar.muli c2_i32_367 v599
  let c2_i32_368 : BitVec 32 := 2#32
  let v601 : BitVec 32 := Scalar.addi v600 c2_i32_368
  let v754 : BitVec 32 := Scalar.muli c2_i32_466 v601
  let v755 : BitVec 32 := Scalar.addi c1_i32_467 v754
  let c2_i32_468 : BitVec 32 := 2#32
  let v756 : BitVec 32 := Scalar.addi v755 c2_i32_468
  let v757 : BitVec 32 := Scalar.addi v756 c0_i32_469
  let v758 : Index := Scalar.indexCast v757
  let c0_470 : Index := 0#32
  let c0_471 : Index := 0#32
  let c0_472 : Index := 0#32
  ![v758.toNat, 0, 0, 0]
def k0_mult6 (k0_t1 : Fin k0_t1_loop.trips) : BitVec 32 :=
  let c256_i32_531 : BitVec 32 := 256#32
  let c2_i32_527 : BitVec 32 := 2#32
  let c3_i32_525 : BitVec 32 := 3#32
  let c0_i32 : BitVec 32 := 0#32
  let c1_i32 : BitVec 32 := 1#32
  let arg10 : BitVec 32 := Scf.iv c0_i32 c1_i32 k0_t1
  let v861 : BitVec 32 := Scalar.muli c3_i32_525 arg10
  let c1_i32_526 : BitVec 32 := 1#32
  let v862 : BitVec 32 := Scalar.addi v861 c1_i32_526
  let v863 : BitVec 32 := Scalar.muli c2_i32_527 v862
  let c2_i32_528 : BitVec 32 := 2#32
  let v864 : BitVec 32 := Scalar.addi v863 c2_i32_528
  let c1_i32_529 : BitVec 32 := 1#32
  let v865 : BitVec 32 := Scalar.addi v864 c1_i32_529
  let c512_i32_530 : BitVec 32 := 512#32
  let v866 : BitVec 32 := Scalar.muli v865 c512_i32_530
  let v867 : BitVec 32 := Scalar.addi c256_i32_531 v866
  v867
def k0_mult7 (k0_t1 : Fin k0_t1_loop.trips) : BitVec 32 :=
  let c256_i32_609 : BitVec 32 := 256#32
  let c2_i32_527 : BitVec 32 := 2#32
  let c3_i32_525 : BitVec 32 := 3#32
  let c0_i32 : BitVec 32 := 0#32
  let c1_i32 : BitVec 32 := 1#32
  let arg10 : BitVec 32 := Scf.iv c0_i32 c1_i32 k0_t1
  let v861 : BitVec 32 := Scalar.muli c3_i32_525 arg10
  let c1_i32_526 : BitVec 32 := 1#32
  let v862 : BitVec 32 := Scalar.addi v861 c1_i32_526
  let v863 : BitVec 32 := Scalar.muli c2_i32_527 v862
  let c2_i32_528 : BitVec 32 := 2#32
  let v864 : BitVec 32 := Scalar.addi v863 c2_i32_528
  let c2_i32_607 : BitVec 32 := 2#32
  let v994 : BitVec 32 := Scalar.addi v864 c2_i32_607
  let c512_i32_608 : BitVec 32 := 512#32
  let v995 : BitVec 32 := Scalar.muli v994 c512_i32_608
  let v996 : BitVec 32 := Scalar.addi c256_i32_609 v995
  v996
def k0_mult8 (k0_t1 : Fin k0_t1_loop.trips) : BitVec 32 :=
  let c256_i32_692 : BitVec 32 := 256#32
  let c2_i32_688 : BitVec 32 := 2#32
  let c3_i32_686 : BitVec 32 := 3#32
  let c0_i32 : BitVec 32 := 0#32
  let c1_i32 : BitVec 32 := 1#32
  let arg10 : BitVec 32 := Scf.iv c0_i32 c1_i32 k0_t1
  let v1124 : BitVec 32 := Scalar.muli c3_i32_686 arg10
  let c2_i32_687 : BitVec 32 := 2#32
  let v1125 : BitVec 32 := Scalar.addi v1124 c2_i32_687
  let v1126 : BitVec 32 := Scalar.muli c2_i32_688 v1125
  let c2_i32_689 : BitVec 32 := 2#32
  let v1127 : BitVec 32 := Scalar.addi v1126 c2_i32_689
  let c1_i32_690 : BitVec 32 := 1#32
  let v1128 : BitVec 32 := Scalar.addi v1127 c1_i32_690
  let c512_i32_691 : BitVec 32 := 512#32
  let v1129 : BitVec 32 := Scalar.muli v1128 c512_i32_691
  let v1130 : BitVec 32 := Scalar.addi c256_i32_692 v1129
  v1130
def k0_mult9 (k0_t1 : Fin k0_t1_loop.trips) : BitVec 32 :=
  let c256_i32_770 : BitVec 32 := 256#32
  let c2_i32_688 : BitVec 32 := 2#32
  let c3_i32_686 : BitVec 32 := 3#32
  let c0_i32 : BitVec 32 := 0#32
  let c1_i32 : BitVec 32 := 1#32
  let arg10 : BitVec 32 := Scf.iv c0_i32 c1_i32 k0_t1
  let v1124 : BitVec 32 := Scalar.muli c3_i32_686 arg10
  let c2_i32_687 : BitVec 32 := 2#32
  let v1125 : BitVec 32 := Scalar.addi v1124 c2_i32_687
  let v1126 : BitVec 32 := Scalar.muli c2_i32_688 v1125
  let c2_i32_689 : BitVec 32 := 2#32
  let v1127 : BitVec 32 := Scalar.addi v1126 c2_i32_689
  let c2_i32_768 : BitVec 32 := 2#32
  let v1257 : BitVec 32 := Scalar.addi v1127 c2_i32_768
  let c512_i32_769 : BitVec 32 := 512#32
  let v1258 : BitVec 32 := Scalar.muli v1257 c512_i32_769
  let v1259 : BitVec 32 := Scalar.addi c256_i32_770 v1258
  v1259
def k0_mult10 : BitVec 32 :=
  let c7936_i32 : BitVec 32 := 7936#32
  c7936_i32
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S33x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "qscale" => some (((11863283 / 134217728) * (Real.log 2)⁻¹ : ℝ) : EReal)
  | _ => none
-- ==== ReferenceIdeal.lean ====
abbrev S8448x1024 : Shape := ⟨2, ![8448, 1024]⟩
abbrev S8448x256 : Shape := ⟨2, ![8448, 256]⟩
abbrev S8192x1024 : Shape := ⟨2, ![8192, 1024]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8192x2x4x128, .f32⟩
  | .hbm, ⟨5, _⟩ => ⟨S8448x2x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x8448, .f32⟩
  | .hbm, ⟨19, _⟩ => ⟨S2x4x8192x8448, .f32⟩
  | .hbm, ⟨20, _⟩ => ⟨S2x4x8192x8448, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x8448, .f32⟩
  | .hbm, ⟨25, _⟩ => ⟨S2x4x8192x8448, .f32⟩
  | .hbm, ⟨26, _⟩ => ⟨S2x128x4x8192, .f32⟩
  | .hbm, ⟨27, _⟩ => ⟨S8192x2x4x128, .f32⟩
  | .hbm, ⟨28, _⟩ => ⟨S8192x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S8448x2048 : Shape := ⟨2, ![8448, 2048]⟩
abbrev S4x5760x2048 : Shape := ⟨3, ![4, 5760, 2048]⟩
abbrev S8448x5760 : Shape := ⟨2, ![8448, 5760]⟩
abbrev S1408x2048 : Shape := ⟨2, ![1408, 2048]⟩
abbrev S1x1920x2048 : Shape := ⟨3, ![1, 1920, 2048]⟩
abbrev S1408x1920 : Shape := ⟨2, ![1408, 1920]⟩
abbrev S1920x2048 : Shape := ⟨2, ![1920, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S4x5760x2048, .f32⟩
  | .hbm, ⟨2, _⟩ => ⟨S8448x2048, .bf16⟩
  | .hbm, ⟨3, _⟩ => ⟨S4x5760x2048, .bf16⟩
  | .hbm, ⟨4, _⟩ => ⟨S8448x5760, .f32⟩
  | .local _ .vmem, ⟨0, _⟩ => ⟨S1408x2048, .bf16⟩
  | .local _ .vmem, ⟨1, _⟩ => ⟨S1408x2048, .bf16⟩
  | .local _ .vmem, ⟨2, _⟩ => ⟨S1x1920x2048, .bf16⟩
  | .local _ .vmem, ⟨3, _⟩ => ⟨S1x1920x2048, .bf16⟩
  | .local _ .vmem, ⟨4, _⟩ => ⟨S1408x1920, .f32⟩
  | .local _ .vmem, ⟨5, _⟩ => ⟨S1408x1920, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1920x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x2048 : Shape := ⟨2, ![8448, 2048]⟩
abbrev S4x5760x2048 : Shape := ⟨3, ![4, 5760, 2048]⟩
abbrev S1x5760x2048 : Shape := ⟨3, ![1, 5760, 2048]⟩
abbrev S5760x2048 : Shape := ⟨2, ![5760, 2048]⟩
abbrev S2048x5760 : Shape := ⟨2, ![2048, 5760]⟩
abbrev S8448x5760 : Shape := ⟨2, ![8448, 5760]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x5760x2048, .f32⟩
  | .hbm, ⟨2, _⟩ => ⟨S1x5760x2048, .f32⟩
  | .hbm, ⟨3, _⟩ => ⟨S5760x2048, .f32⟩
  | .hbm, ⟨4, _⟩ => ⟨S2048x5760, .f32⟩
  | .hbm, ⟨5, _⟩ => ⟨S8448x5760, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S4x8448x128 : Shape := ⟨3, ![4, 8448, 128]⟩
abbrev S8448x512 : Shape := ⟨2, ![8448, 512]⟩
abbrev S8192x1024 : Shape := ⟨2, ![8192, 1024]⟩
abbrev S8448x5760 : Shape := ⟨2, ![8448, 5760]⟩
abbrev S8448x2048 : Shape := ⟨2, ![8448, 2048]⟩
abbrev S8x6144 : Shape := ⟨2, ![8, 6144]⟩
abbrev S1x128 : Shape := ⟨2, ![1, 128]⟩
abbrev S4x2048x2048 : Shape := ⟨3, ![4, 2048, 2048]⟩
abbrev S1x2048 : Shape := ⟨2, ![1, 2048]⟩
abbrev S8192x2048 : Shape := ⟨2, ![8192, 2048]⟩
abbrev S4x256x128 : Shape := ⟨3, ![4, 256, 128]⟩
abbrev S256x512 : Shape := ⟨2, ![256, 512]⟩
abbrev S256x1024 : Shape := ⟨2, ![256, 1024]⟩
abbrev S256x2048 : Shape := ⟨2, ![256, 2048]⟩
abbrev S1x2048x2048 : Shape := ⟨3, ![1, 2048, 2048]⟩
abbrev S1x256x128 : Shape := ⟨3, ![1, 256, 128]⟩
abbrev S256x128 : Shape := ⟨2, ![256, 128]⟩
abbrev S1x512x2048 : Shape := ⟨3, ![1, 512, 2048]⟩
abbrev S512x2048 : Shape := ⟨2, ![512, 2048]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩

abbrev nBuf : Space → Nat
  | .hbm => 13
  | .vmem => 27
  | .smem => 0
  | _ => 0

abbrev bufTy : (tb : Table) → Fin (tcTables nBuf tb) → BufTy
  | .hbm, ⟨0, _⟩ => ⟨S4x8448x128, .f32⟩
  | .hbm, ⟨1, _⟩ => ⟨S4x8448x128, .f32⟩
  | .hbm, ⟨2, _⟩ => ⟨S8448x512, .f32⟩
  | .hbm, ⟨3, _⟩ => ⟨S8448x512, .f32⟩
  | .hbm, ⟨4, _⟩ => ⟨S8192x1024, .f32⟩
  | .hbm, ⟨5, _⟩ => ⟨S8448x5760, .f32⟩
  | .hbm, ⟨6, _⟩ => ⟨S8448x2048, .f32⟩
  | .hbm, ⟨7, _⟩ => ⟨S8x6144, .f32⟩
  | .hbm, ⟨8, _⟩ => ⟨S1x128, .f32⟩
  | .hbm, ⟨9, _⟩ => ⟨S4x2048x2048, .f32⟩
  | .hbm, ⟨10, _⟩ => ⟨S1x2048, .f32⟩
  | .hbm, ⟨11, _⟩ => ⟨S4x2048x2048, .bf16⟩
  | .hbm, ⟨12, _⟩ => ⟨S8192x2048, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x2048, .f32⟩
  | .local _ .vmem, ⟨19, _⟩ => ⟨S256x2048, .f32⟩
  | .local _ .vmem, ⟨20, _⟩ => ⟨S8x6144, .f32⟩
  | .local _ .vmem, ⟨21, _⟩ => ⟨S1x128, .f32⟩
  | .local _ .vmem, ⟨22, _⟩ => ⟨S1x2048x2048, .bf16⟩
  | .local _ .vmem, ⟨23, _⟩ => ⟨S1x2048, .f32⟩
  | .local _ .vmem, ⟨24, _⟩ => ⟨S8x6144, .f32⟩
  | .local _ .vmem, ⟨25, _⟩ => ⟨S256x2048, .f32⟩
  | .local _ .vmem, ⟨26, _⟩ => ⟨S256x2048, .f32⟩
  | _, _ => ⟨S4x8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.minsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let c0_i32 : BitVec 32 := 0#32
  ![v0.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c10_i32 : BitVec 32 := 10#32
  let c0_i32 : BitVec 32 := 0#32
  ![v0.toNat, c10_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x8448x128 : Shape := ⟨3, ![4, 8448, 128]⟩
abbrev S8448x512 : Shape := ⟨2, ![8448, 512]⟩
abbrev S8192x1024 : Shape := ⟨2, ![8192, 1024]⟩
abbrev S8448x5760 : Shape := ⟨2, ![8448, 5760]⟩
abbrev S8448x2048 : Shape := ⟨2, ![8448, 2048]⟩
abbrev S8x6144 : Shape := ⟨2, ![8, 6144]⟩
abbrev S1x128 : Shape := ⟨2, ![1, 128]⟩
abbrev S4x2048x2048 : Shape := ⟨3, ![4, 2048, 2048]⟩
abbrev S1x2048 : Shape := ⟨2, ![1, 2048]⟩
abbrev S4x8192x128 : Shape := ⟨3, ![4, 8192, 128]⟩
abbrev S8192x4x128 : Shape := ⟨3, ![8192, 4, 128]⟩
abbrev S8192x512 : Shape := ⟨2, ![8192, 512]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S2048 : Shape := ⟨1, ![2048]⟩
abbrev S8192x2048 : Shape := ⟨2, ![8192, 2048]⟩
abbrev S1x2048x2048 : Shape := ⟨3, ![1, 2048, 2048]⟩
abbrev S2048x2048 : Shape := ⟨2, ![2048, 2048]⟩
abbrev S8192 : Shape := ⟨1, ![8192]⟩
abbrev S8192x1 : Shape := ⟨2, ![8192, 1]⟩

abbrev nBuf : Space → Nat
  | .hbm => 97
  | .vmem => 0
  | .smem => 0
  | _ => 0

abbrev bufTy : (tb : Table) → Fin (tcTables nBuf tb) → BufTy
  | .hbm, ⟨0, _⟩ => ⟨S4x8448x128, .f32⟩
  | .hbm, ⟨1, _⟩ => ⟨S4x8448x128, .f32⟩
  | .hbm, ⟨2, _⟩ => ⟨S8448x512, .f32⟩
  | .hbm, ⟨3, _⟩ => ⟨S8448x512, .f32⟩
  | .hbm, ⟨4, _⟩ => ⟨S8192x1024, .f32⟩
  | .hbm, ⟨5, _⟩ => ⟨S8448x5760, .f32⟩
  | .hbm, ⟨6, _⟩ => ⟨S8448x2048, .f32⟩
  | .hbm, ⟨7, _⟩ => ⟨S8x6144, .f32⟩
  | .hbm, ⟨8, _⟩ => ⟨S1x128, .f32⟩
  | .hbm, ⟨9, _⟩ => ⟨S4x2048x2048, .f32⟩
  | .hbm, ⟨10, _⟩ => ⟨S1x2048, .f32⟩
  | .hbm, ⟨11, _⟩ => ⟨S4x8448x128, .f32⟩
  | .hbm, ⟨12, _⟩ => ⟨S4x8192x128, .f32⟩
  | .hbm, ⟨13, _⟩ => ⟨S8192x4x128, .f32⟩
  | .hbm, ⟨14, _⟩ => ⟨S8192x512, .f32⟩
  | .hbm, ⟨15, _⟩ => ⟨S8448x512, .f32⟩
  | .hbm, ⟨16, _⟩ => ⟨S8192x512, .f32⟩
  | .hbm, ⟨17, _⟩ => ⟨S8192x4x128, .f32⟩
  | .hbm, ⟨18, _⟩ => ⟨S128, .f32⟩
  | .hbm, ⟨19, _⟩ => ⟨S8192x4x128, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S8192x4x1, .f32⟩
  | .hbm, ⟨30, _⟩ => ⟨S8192x4x128, .f32⟩
  | .hbm, ⟨31, _⟩ => ⟨S8192x4x128, .f32⟩
  | .hbm, ⟨32, _⟩ => ⟨S1x1x128, .f32⟩
  | .hbm, ⟨33, _⟩ => ⟨S8192x4x128, .f32⟩
  | .hbm, ⟨34, _⟩ => ⟨S8192x4x128, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S1x2048, .f32⟩
  | .hbm, ⟨40, _⟩ => ⟨S2048, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x2048, .f32⟩
  | .hbm, ⟨72, _⟩ => ⟨S1x2048x2048, .f32⟩
  | .hbm, ⟨73, _⟩ => ⟨S2048x2048, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S2048, .f32⟩
  | .hbm, ⟨81, _⟩ => ⟨S8192x2048, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x2048, .f32⟩
  | .hbm, ⟨93, _⟩ => ⟨S8192x2048, .f32⟩
  | .hbm, ⟨94, _⟩ => ⟨S1x2048, .f32⟩
  | .hbm, ⟨95, _⟩ => ⟨S8192x2048, .f32⟩
  | .hbm, ⟨96, _⟩ => ⟨S8192x2048, .f32⟩
  | _, _ => ⟨S4x8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v29 : Ref sig .tc := ⟨.hbm, 59, rfl⟩
abbrev main_v30 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_2 : Ref sig .tc := ⟨.hbm, 82, rfl⟩
abbrev main_v44 : Ref sig .tc := ⟨.hbm, 83, rfl⟩
abbrev main_v45 : Ref sig .tc := ⟨.hbm, 84, rfl⟩
abbrev main_cst_3 : Ref sig .tc := ⟨.hbm, 85, rfl⟩
abbrev main_v46 : Ref sig .tc := ⟨.hbm, 86, rfl⟩
abbrev main_v47 : Ref sig .tc := ⟨.hbm, 87, rfl⟩
abbrev main_cst_4 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]
-- ==== Kernel4.lean ====
abbrev S4x8448x128 : Shape := ⟨3, ![4, 8448, 128]⟩
abbrev S8448x512 : Shape := ⟨2, ![8448, 512]⟩
abbrev S256x1024 : Shape := ⟨2, ![256, 1024]⟩
abbrev S8192x1024 : Shape := ⟨2, ![8192, 1024]⟩
abbrev S8448x5760 : Shape := ⟨2, ![8448, 5760]⟩
abbrev S8448x2048 : Shape := ⟨2, ![8448, 2048]⟩
abbrev S8x6144 : Shape := ⟨2, ![8, 6144]⟩
abbrev S1x128 : Shape := ⟨2, ![1, 128]⟩
abbrev S4x2048x2048 : Shape := ⟨3, ![4, 2048, 2048]⟩
abbrev S1x2048 : Shape := ⟨2, ![1, 2048]⟩
abbrev S4x256x128 : Shape := ⟨3, ![4, 256, 128]⟩
abbrev S256x512 : Shape := ⟨2, ![256, 512]⟩
abbrev S256x2048 : Shape := ⟨2, ![256, 2048]⟩
abbrev S1x2048x2048 : Shape := ⟨3, ![1, 2048, 2048]⟩
abbrev S1x256x128 : Shape := ⟨3, ![1, 256, 128]⟩
abbrev S256x128 : Shape := ⟨2, ![256, 128]⟩
abbrev S1x512x2048 : Shape := ⟨3, ![1, 512, 2048]⟩
abbrev S512x2048 : Shape := ⟨2, ![512, 2048]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩

abbrev nBuf : Space → Nat
  | .hbm => 16
  | .vmem => 29
  | .smem => 0
  | _ => 0

abbrev bufTy : (tb : Table) → Fin (tcTables nBuf tb) → BufTy
  | .hbm, ⟨0, _⟩ => ⟨S4x8448x128, .f32⟩
  | .hbm, ⟨1, _⟩ => ⟨S4x8448x128, .f32⟩
  | .hbm, ⟨2, _⟩ => ⟨S8448x512, .f32⟩
  | .hbm, ⟨3, _⟩ => ⟨S8448x512, .f32⟩
  | .hbm, ⟨4, _⟩ => ⟨S256x1024, .f32⟩
  | .hbm, ⟨5, _⟩ => ⟨S8192x1024, .f32⟩
  | .hbm, ⟨6, _⟩ => ⟨S8448x5760, .f32⟩
  | .hbm, ⟨7, _⟩ => ⟨S8448x2048, .f32⟩
  | .hbm, ⟨8, _⟩ => ⟨S8x6144, .f32⟩
  | .hbm, ⟨9, _⟩ => ⟨S1x128, .f32⟩
  | .hbm, ⟨10, _⟩ => ⟨S4x2048x2048, .f32⟩
  | .hbm, ⟨11, _⟩ => ⟨S1x2048, .f32⟩
  | .hbm, ⟨12, _⟩ => ⟨S8x6144, .f32⟩
  | .hbm, ⟨13, _⟩ => ⟨S4x2048x2048, .bf16⟩
  | .hbm, ⟨14, _⟩ => ⟨S8448x2048, .f32⟩
  | .hbm, ⟨15, _⟩ => ⟨S8448x2048, .bf16⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x2048, .f32⟩
  | .local _ .vmem, ⟨19, _⟩ => ⟨S256x2048, .f32⟩
  | .local _ .vmem, ⟨20, _⟩ => ⟨S8x6144, .f32⟩
  | .local _ .vmem, ⟨21, _⟩ => ⟨S1x128, .f32⟩
  | .local _ .vmem, ⟨22, _⟩ => ⟨S1x2048x2048, .bf16⟩
  | .local _ .vmem, ⟨23, _⟩ => ⟨S1x2048, .f32⟩
  | .local _ .vmem, ⟨24, _⟩ => ⟨S8x6144, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | _, _ => ⟨S4x8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c9_i32 : BitVec 32 := 9#32
  let c0_i32_0 : BitVec 32 := 0#32
  ![v0.toNat, c9_i32.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let c0_i32_0 : BitVec 32 := 0#32
  ![v0.toNat, c10_i32.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S4x8448x128 : Shape := ⟨3, ![4, 8448, 128]⟩
abbrev S8448x512 : Shape := ⟨2, ![8448, 512]⟩
abbrev S256x1024 : Shape := ⟨2, ![256, 1024]⟩
abbrev S8192x1024 : Shape := ⟨2, ![8192, 1024]⟩
abbrev S8448x5760 : Shape := ⟨2, ![8448, 5760]⟩
abbrev S8448x2048 : Shape := ⟨2, ![8448, 2048]⟩
abbrev S8x6144 : Shape := ⟨2, ![8, 6144]⟩
abbrev S1x128 : Shape := ⟨2, ![1, 128]⟩
abbrev S4x2048x2048 : Shape := ⟨3, ![4, 2048, 2048]⟩
abbrev S1x2048 : Shape := ⟨2, ![1, 2048]⟩
abbrev S1x2048x2048 : Shape := ⟨3, ![1, 2048, 2048]⟩
abbrev S2048x2048 : Shape := ⟨2, ![2048, 2048]⟩
abbrev S4x8192x128 : Shape := ⟨3, ![4, 8192, 128]⟩
abbrev S8192x512 : Shape := ⟨2, ![8192, 512]⟩
abbrev S8192x5760 : Shape := ⟨2, ![8192, 5760]⟩
abbrev S8192x2048 : Shape := ⟨2, ![8192, 2048]⟩
abbrev S1x6144 : Shape := ⟨2, ![1, 6144]⟩
abbrev S6144 : Shape := ⟨1, ![6144]⟩
abbrev S128 : Shape := ⟨1, ![128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S2048 : Shape := ⟨1, ![2048]⟩
abbrev S4x256x128 : Shape := ⟨3, ![4, 256, 128]⟩
abbrev S256x512 : Shape := ⟨2, ![256, 512]⟩
abbrev S256x5760 : Shape := ⟨2, ![256, 5760]⟩
abbrev S256x2048 : Shape := ⟨2, ![256, 2048]⟩
abbrev S256x4x128 : Shape := ⟨3, ![256, 4, 128]⟩
abbrev S256x4 : Shape := ⟨2, ![256, 4]⟩
abbrev S256x4x1 : Shape := ⟨3, ![256, 4, 1]⟩
abbrev S8192 : Shape := ⟨1, ![8192]⟩
abbrev S8192x1 : Shape := ⟨2, ![8192, 1]⟩
abbrev S256 : Shape := ⟨1, ![256]⟩
abbrev S256x1 : Shape := ⟨2, ![256, 1]⟩

abbrev nBuf : Space → Nat
  | .hbm => 214
  | .vmem => 0
  | .smem => 0
  | _ => 0

abbrev hbmTy0_0 (i : Nat) : BufTy := match i % 128 with
  | 0 => ⟨S4x8448x128, .f32⟩
  | 1 => ⟨S4x8448x128, .f32⟩
  | 2 => ⟨S8448x512, .f32⟩
  | 3 => ⟨S8448x512, .f32⟩
  | 4 => ⟨S256x1024, .f32⟩
  | 5 => ⟨S8192x1024, .f32⟩
  | 6 => ⟨S8448x5760, .f32⟩
  | 7 => ⟨S8448x2048, .f32⟩
  | 8 => ⟨S8x6144, .f32⟩
  | 9 => ⟨S1x128, .f32⟩
  | 10 => ⟨S4x2048x2048, .f32⟩
  | 11 => ⟨S1x2048, .f32⟩
  | 12 => ⟨S8x6144, .f32⟩
  | 13 => ⟨S4x8448x128, .f32⟩
  | 14 => ⟨S8448x512, .f32⟩
  | 15 => ⟨S1x2048x2048, .f32⟩
  | 16 => ⟨S2048x2048, .f32⟩
  | 17 => ⟨S4x8192x128, .f32⟩
  | 18 => ⟨S8192x512, .f32⟩
  | 19 => ⟨S8192x5760, .f32⟩
  | 20 => ⟨S8192x2048, .f32⟩
  | 21 => ⟨S1x6144, .f32⟩
  | 22 => ⟨S6144, .f32⟩
  | 23 => ⟨S128, .f32⟩
  | 24 => ⟨S8192x4x128, .f32⟩
  | 25 => ⟨S8192x512, .f32⟩
  | 26 => ⟨S8192x4x128, .f32⟩
  | 27 => ⟨S8192x4x128, .f32⟩
  | 28 => ⟨S_, .f32⟩
  | 29 => ⟨S8192x4, .f32⟩
  | 30 => ⟨S8192x4x1, .f32⟩
  | 31 => ⟨S_, .f32⟩
  | 32 => ⟨S8192x4x1, .f32⟩
  | 33 => ⟨S8192x4x1, .f32⟩
  | 34 => ⟨S_, .f32⟩
  | 35 => ⟨S8192x4x1, .f32⟩
  | 36 => ⟨S8192x4x1, .f32⟩
  | 37 => ⟨S8192x4x1, .f32⟩
  | 38 => ⟨S8192x4x128, .f32⟩
  | 39 => ⟨S8192x4x128, .f32⟩
  | 40 => ⟨S1x1x128, .f32⟩
  | 41 => ⟨S8192x4x128, .f32⟩
  | 42 => ⟨S8192x4x128, .f32⟩
  | 43 => ⟨S8192x512, .f32⟩
  | 44 => ⟨S8192x512, .f32⟩
  | 45 => ⟨S8192x512, .f32⟩
  | 46 => ⟨S8192x1024, .f32⟩
  | 47 => ⟨S2048, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S8192x512, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x2048, .f32⟩
  | 79 => ⟨S8192x2048, .f32⟩
  | 80 => ⟨S1x2048, .f32⟩
  | 81 => ⟨S8192x2048, .f32⟩
  | 82 => ⟨S8192x2048, .f32⟩
  | 83 => ⟨S8192x2048, .f32⟩
  | 84 => ⟨S4x256x128, .f32⟩
  | 85 => ⟨S256x512, .f32⟩
  | 86 => ⟨S256x5760, .f32⟩
  | 87 => ⟨S256x2048, .f32⟩
  | 88 => ⟨S1x6144, .f32⟩
  | 89 => ⟨S6144, .f32⟩
  | 90 => ⟨S128, .f32⟩
  | 91 => ⟨S256x4x128, .f32⟩
  | 92 => ⟨S256x512, .f32⟩
  | 93 => ⟨S256x4x128, .f32⟩
  | 94 => ⟨S256x4x128, .f32⟩
  | 95 => ⟨S_, .f32⟩
  | 96 => ⟨S256x4, .f32⟩
  | 97 => ⟨S256x4x1, .f32⟩
  | 98 => ⟨S_, .f32⟩
  | 99 => ⟨S256x4x1, .f32⟩
  | 100 => ⟨S256x4x1, .f32⟩
  | 101 => ⟨S_, .f32⟩
  | 102 => ⟨S256x4x1, .f32⟩
  | 103 => ⟨S256x4x1, .f32⟩
  | 104 => ⟨S256x4x1, .f32⟩
  | 105 => ⟨S256x4x128, .f32⟩
  | 106 => ⟨S256x4x128, .f32⟩
  | 107 => ⟨S1x1x128, .f32⟩
  | 108 => ⟨S256x4x128, .f32⟩
  | 109 => ⟨S256x4x128, .f32⟩
  | 110 => ⟨S256x512, .f32⟩
  | 111 => ⟨S256x512, .f32⟩
  | 112 => ⟨S256x512, .f32⟩
  | 113 => ⟨S256x1024, .f32⟩
  | 114 => ⟨S2048, .f32⟩
  | 115 => ⟨S256x512, .f32⟩
  | 116 => ⟨S256x512, .f32⟩
  | 117 => ⟨S_, .f32⟩
  | 118 => ⟨S256x512, .f32⟩
  | 119 => ⟨S256x512, .f32⟩
  | 120 => ⟨S_, .f32⟩
  | 121 => ⟨S256x512, .f32⟩
  | 122 => ⟨S256x512, .f32⟩
  | 123 => ⟨S256x512, .f32⟩
  | 124 => ⟨S256x512, .f32⟩
  | 125 => ⟨S256x512, .f32⟩
  | 126 => ⟨S256x512, .f32⟩
  | 127 => ⟨S_, .f32⟩
  | _ => ⟨S4x8448x128, .f32⟩

abbrev hbmTy0_1 (i : Nat) : BufTy := match i % 128 with
  | 0 => ⟨S256x512, .f32⟩
  | 1 => ⟨S256x512, .f32⟩
  | 2 => ⟨S_, .f32⟩
  | 3 => ⟨S256x512, .f32⟩
  | 4 => ⟨S256x512, .f32⟩
  | 5 => ⟨S256x512, .f32⟩
  | 6 => ⟨S256x512, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S256x1024, .f32⟩
  | 16 => ⟨S256x1024, .f32⟩
  | 17 => ⟨S256x2048, .f32⟩
  | 18 => ⟨S256x2048, .f32⟩
  | 19 => ⟨S1x2048, .f32⟩
  | 20 => ⟨S256x2048, .f32⟩
  | 21 => ⟨S256x2048, .f32⟩
  | 22 => ⟨S256x2048, .f32⟩
  | 23 => ⟨S2048, .f32⟩
  | 24 => ⟨S1x6144, .f32⟩
  | 25 => ⟨S6144, .f32⟩
  | 26 => ⟨S2048, .f32⟩
  | 27 => ⟨S2048, .f32⟩
  | 28 => ⟨S8192x2048, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x2048, .f32⟩
  | 40 => ⟨S8192x2048, .f32⟩
  | 41 => ⟨S1x2048, .f32⟩
  | 42 => ⟨S8192x2048, .f32⟩
  | 43 => ⟨S8192x2048, .f32⟩
  | 44 => ⟨S_, .f32⟩
  | 45 => ⟨S2048, .f32⟩
  | 46 => ⟨S2048, .f32⟩
  | 47 => ⟨S1x2048, .f32⟩
  | 48 => ⟨S8192x2048, .f32⟩
  | 49 => ⟨S8192x2048, .f32⟩
  | 50 => ⟨S1x2048, .f32⟩
  | 51 => ⟨S8192x2048, .f32⟩
  | 52 => ⟨S8192x2048, .f32⟩
  | 53 => ⟨S2048, .f32⟩
  | 54 => ⟨S1x6144, .f32⟩
  | 55 => ⟨S6144, .f32⟩
  | 56 => ⟨S2048, .f32⟩
  | 57 => ⟨S2048, .f32⟩
  | 58 => ⟨S256x2048, .f32⟩
  | 59 => ⟨S_, .f32⟩
  | 60 => ⟨S256, .f32⟩
  | 61 => ⟨S256x1, .f32⟩
  | 62 => ⟨S_, .f32⟩
  | 63 => ⟨S256x1, .f32⟩
  | 64 => ⟨S256x1, .f32⟩
  | 65 => ⟨S_, .f32⟩
  | 66 => ⟨S256x1, .f32⟩
  | 67 => ⟨S256x1, .f32⟩
  | 68 => ⟨S256x1, .f32⟩
  | 69 => ⟨S256x2048, .f32⟩
  | 70 => ⟨S256x2048, .f32⟩
  | 71 => ⟨S1x2048, .f32⟩
  | 72 => ⟨S256x2048, .f32⟩
  | 73 => ⟨S256x2048, .f32⟩
  | 74 => ⟨S_, .f32⟩
  | 75 => ⟨S2048, .f32⟩
  | 76 => ⟨S2048, .f32⟩
  | 77 => ⟨S1x2048, .f32⟩
  | 78 => ⟨S256x2048, .f32⟩
  | 79 => ⟨S256x2048, .f32⟩
  | 80 => ⟨S1x2048, .f32⟩
  | 81 => ⟨S256x2048, .f32⟩
  | 82 => ⟨S256x2048, .f32⟩
  | 83 => ⟨S8448x2048, .f32⟩
  | 84 => ⟨S8448x2048, .f32⟩
  | 85 => ⟨S8448x2048, .bf16⟩
  | _ => ⟨S4x8448x128, .f32⟩

abbrev hbmTy (i : Nat) : BufTy := match i / 128 with
  | 0 => hbmTy0_0 i
  | 1 => hbmTy0_1 i
  | _ => ⟨S4x8448x128, .f32⟩

abbrev bufTy : (tb : Table) → Fin (tcTables nBuf tb) → BufTy
  | .hbm, ⟨i, _⟩ => hbmTy i
  | _, _ => ⟨S4x8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v34 : Ref sig .tc := ⟨.hbm, 66, rfl⟩
abbrev main_v35 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_2 : Ref sig .tc := ⟨.hbm, 95, rfl⟩
abbrev main_v55 : Ref sig .tc := ⟨.hbm, 96, rfl⟩
abbrev main_v56 : Ref sig .tc := ⟨.hbm, 97, rfl⟩
abbrev main_cst_3 : Ref sig .tc := ⟨.hbm, 98, rfl⟩
abbrev main_v57 : Ref sig .tc := ⟨.hbm, 99, rfl⟩
abbrev main_v58 : Ref sig .tc := ⟨.hbm, 100, rfl⟩
abbrev main_cst_4 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call3_v0 : Ref sig .tc := ⟨.hbm, 115, rfl⟩
abbrev main_call3_v1 : Ref sig .tc := ⟨.hbm, 116, rfl⟩
abbrev main_call3_cst : Ref sig .tc := ⟨.hbm, 117, rfl⟩
abbrev main_call3_v2 : Ref sig .tc := ⟨.hbm, 118, rfl⟩
abbrev main_call3_v3 : Ref sig .tc := ⟨.hbm, 119, rfl⟩
abbrev main_call3_cst_0 : Ref sig .tc := ⟨.hbm, 120, rfl⟩
abbrev main_call3_v4 : Ref sig .tc := ⟨.hbm, 121, rfl⟩
abbrev main_call3_v5 : Ref sig .tc := ⟨.hbm, 122, rfl⟩
abbrev main_v72 : Ref sig .tc := ⟨.hbm, 123, rfl⟩
abbrev main_v73 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v74 : Ref sig .tc := ⟨.hbm, 133, rfl⟩
abbrev main_v75 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_5 : Ref sig .tc := ⟨.hbm, 157, rfl⟩
abbrev main_v90 : Ref sig .tc := ⟨.hbm, 158, rfl⟩
abbrev main_v91 : Ref sig .tc := ⟨.hbm, 159, rfl⟩
abbrev main_cst_6 : Ref sig .tc := ⟨.hbm, 160, rfl⟩
abbrev main_v92 : Ref sig .tc := ⟨.hbm, 161, rfl⟩
abbrev main_v93 : Ref sig .tc := ⟨.hbm, 162, rfl⟩
abbrev main_cst_7 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_8 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_9 : Ref sig .tc := ⟨.hbm, 187, rfl⟩
abbrev main_v116 : Ref sig .tc := ⟨.hbm, 188, rfl⟩
abbrev main_v117 : Ref sig .tc := ⟨.hbm, 189, rfl⟩
abbrev main_cst_10 : Ref sig .tc := ⟨.hbm, 190, rfl⟩
abbrev main_v118 : Ref sig .tc := ⟨.hbm, 191, rfl⟩
abbrev main_v119 : Ref sig .tc := ⟨.hbm, 192, rfl⟩
abbrev main_cst_11 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_12 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩

abbrev nD : Nat := 1
abbrev τ : Topo := Topo.v7x

variable {F : FTy → Type} [FloatOps F]
-- ==== Kernel5.lean ====
abbrev S1x256x2048 : Shape := ⟨3, ![1, 256, 2048]⟩
abbrev S1x8192x2048 : Shape := ⟨3, ![1, 8192, 2048]⟩
abbrev S8x6144 : Shape := ⟨2, ![8, 6144]⟩
abbrev S1x2048 : Shape := ⟨2, ![1, 2048]⟩
abbrev S8448x2048 : Shape := ⟨2, ![8448, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x256x2048, .f32⟩
  | .hbm, ⟨1, _⟩ => ⟨S1x8192x2048, .f32⟩
  | .hbm, ⟨2, _⟩ => ⟨S8x6144, .f32⟩
  | .hbm, ⟨3, _⟩ => ⟨S1x2048, .f32⟩
  | .hbm, ⟨4, _⟩ => ⟨S8448x2048, .f32⟩
  | .hbm, ⟨5, _⟩ => ⟨S8448x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S8x6144, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S1x256x2048 : Shape := ⟨3, ![1, 256, 2048]⟩
abbrev S1x8192x2048 : Shape := ⟨3, ![1, 8192, 2048]⟩
abbrev S8x6144 : Shape := ⟨2, ![8, 6144]⟩
abbrev S1x2048 : Shape := ⟨2, ![1, 2048]⟩
abbrev S8192x2048 : Shape := ⟨2, ![8192, 2048]⟩
abbrev S2048 : Shape := ⟨1, ![2048]⟩
abbrev S1x6144 : Shape := ⟨2, ![1, 6144]⟩
abbrev S6144 : Shape := ⟨1, ![6144]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256 : Shape := ⟨1, ![256]⟩
abbrev S256x1 : Shape := ⟨2, ![256, 1]⟩
abbrev S8448x2048 : Shape := ⟨2, ![8448, 2048]⟩

abbrev nBuf : Space → Nat
  | .hbm => 71
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x8192x2048, .f32⟩
  | .hbm, ⟨2, _⟩ => ⟨S8x6144, .f32⟩
  | .hbm, ⟨3, _⟩ => ⟨S1x2048, .f32⟩
  | .hbm, ⟨4, _⟩ => ⟨S8192x2048, .f32⟩
  | .hbm, ⟨5, _⟩ => ⟨S2048, .f32⟩
  | .hbm, ⟨6, _⟩ => ⟨S1x6144, .f32⟩
  | .hbm, ⟨7, _⟩ => ⟨S6144, .f32⟩
  | .hbm, ⟨8, _⟩ => ⟨S2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S256x2048, .f32⟩
  | .hbm, ⟨36, _⟩ => ⟨S2048, .f32⟩
  | .hbm, ⟨37, _⟩ => ⟨S1x6144, .f32⟩
  | .hbm, ⟨38, _⟩ => ⟨S6144, .f32⟩
  | .hbm, ⟨39, _⟩ => ⟨S2048, .f32⟩
  | .hbm, ⟨40, _⟩ => ⟨S2048, .f32⟩
  | .hbm, ⟨41, _⟩ => ⟨S256x2048, .f32⟩
  | .hbm, ⟨42, _⟩ => ⟨S_, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x2048, .f32⟩
  | .hbm, ⟨53, _⟩ => ⟨S256x2048, .f32⟩
  | .hbm, ⟨54, _⟩ => ⟨S1x2048, .f32⟩
  | .hbm, ⟨55, _⟩ => ⟨S256x2048, .f32⟩
  | .hbm, ⟨56, _⟩ => ⟨S256x2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S1x2048, .f32⟩
  | .hbm, ⟨61, _⟩ => ⟨S256x2048, .f32⟩
  | .hbm, ⟨62, _⟩ => ⟨S256x2048, .f32⟩
  | .hbm, ⟨63, _⟩ => ⟨S1x2048, .f32⟩
  | .hbm, ⟨64, _⟩ => ⟨S256x2048, .f32⟩
  | .hbm, ⟨65, _⟩ => ⟨S256x2048, .f32⟩
  | .hbm, ⟨66, _⟩ => ⟨S256x2048, .f32⟩
  | .hbm, ⟨67, _⟩ => ⟨S8192x2048, .f32⟩
  | .hbm, ⟨68, _⟩ => ⟨S8448x2048, .f32⟩
  | .hbm, ⟨69, _⟩ => ⟨S8448x2048, .f32⟩
  | .hbm, ⟨70, _⟩ => ⟨S8448x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel6.lean ====
abbrev S8x2048 : Shape := ⟨2, ![8, 2048]⟩
abbrev S4x2048x6144 : Shape := ⟨3, ![4, 2048, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048 : Shape := ⟨2, ![8, 2048]⟩
abbrev S4x2048x6144 : Shape := ⟨3, ![4, 2048, 6144]⟩
abbrev S4x6144 : Shape := ⟨2, ![4, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 76
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x6144, .f32⟩
  | .hbm, ⟨13, _⟩ => ⟨S2048x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x6144, .f32⟩
  | .hbm, ⟨30, _⟩ => ⟨S2048x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S1x2048x6144, .f32⟩
  | .hbm, ⟨47, _⟩ => ⟨S2048x6144, .f32⟩
  | .hbm, ⟨48, _⟩ => ⟨S8x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S8x6144, .f32⟩
  | .hbm, ⟨53, _⟩ => ⟨S8x6144, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S1x2048x6144, .f32⟩
  | .hbm, ⟨64, _⟩ => ⟨S2048x6144, .f32⟩
  | .hbm, ⟨65, _⟩ => ⟨S8x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S8x6144, .f32⟩
  | .hbm, ⟨70, _⟩ => ⟨S8x6144, .f32⟩
  | .hbm, ⟨71, _⟩ => ⟨S1x8x6144, .f32⟩
  | .hbm, ⟨72, _⟩ => ⟨S1x8x6144, .f32⟩
  | .hbm, ⟨73, _⟩ => ⟨S1x8x6144, .f32⟩
  | .hbm, ⟨74, _⟩ => ⟨S1x8x6144, .f32⟩
  | .hbm, ⟨75, _⟩ => ⟨S4x8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Kernel7.lean ====
abbrev S8448x1024 : Shape := ⟨2, ![8448, 1024]⟩
abbrev S8448x256 : Shape := ⟨2, ![8448, 256]⟩
abbrev S33x256x2x128 : Shape := ⟨4, ![33, 256, 2, 128]⟩
abbrev S33x2x128x256 : Shape := ⟨4, ![33, 2, 128, 256]⟩
abbrev S_ : Shape := ⟨0, ![]⟩
abbrev S33x2x16x256 : Shape := ⟨4, ![33, 2, 16, 256]⟩
abbrev S33x2x144x256 : Shape := ⟨4, ![33, 2, 144, 256]⟩
abbrev S256x1024 : Shape := ⟨2, ![256, 1024]⟩
abbrev S256x512 : Shape := ⟨2, ![256, 512]⟩
abbrev S256x128 : Shape := ⟨2, ![256, 128]⟩
abbrev S1x1x144x256 : Shape := ⟨4, ![1, 1, 144, 256]⟩
abbrev S4x256x256 : Shape := ⟨3, ![4, 256, 256]⟩
abbrev S1x8x128 : Shape := ⟨3, ![1, 8, 128]⟩
abbrev S4x144x256 : Shape := ⟨3, ![4, 144, 256]⟩
abbrev S256x256 : Shape := ⟨2, ![256, 256]⟩
abbrev S1x256x256 : Shape := ⟨3, ![1, 256, 256]⟩
abbrev S144x256 : Shape := ⟨2, ![144, 256]⟩
abbrev S256 : Shape := ⟨1, ![256]⟩
abbrev S1x256 : Shape := ⟨2, ![1, 256]⟩
abbrev S1x144x256 : Shape := ⟨3, ![1, 144, 256]⟩
abbrev S128x256 : Shape := ⟨2, ![128, 256]⟩

abbrev nBuf : Space → Nat
  | .hbm => 11
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x256, .bf16⟩
  | .hbm, ⟨4, _⟩ => ⟨S33x256x2x128, .f32⟩
  | .hbm, ⟨5, _⟩ => ⟨S33x2x128x256, .f32⟩
  | .hbm, ⟨6, _⟩ => ⟨S_, .f32⟩
  | .hbm, ⟨7, _⟩ => ⟨S33x2x16x256, .f32⟩
  | .hbm, ⟨8, _⟩ => ⟨S33x2x144x256, .f32⟩
  | .hbm, ⟨9, _⟩ => ⟨S33x2x144x256, .bf16⟩
  | .hbm, ⟨10, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x128, .bf16⟩
  | .local _ .vmem, ⟨3, _⟩ => ⟨S256x128, .bf16⟩
  | .local _ .vmem, ⟨4, _⟩ => ⟨S1x1x144x256, .bf16⟩
  | .local _ .vmem, ⟨5, _⟩ => ⟨S1x1x144x256, .bf16⟩
  | .local _ .vmem, ⟨6, _⟩ => ⟨S256x512, .f32⟩
  | .local _ .vmem, ⟨7, _⟩ => ⟨S256x512, .f32⟩
  | .local _ .vmem, ⟨8, _⟩ => ⟨S4x256x256, .f32⟩
  | .local _ .vmem, ⟨9, _⟩ => ⟨S1x8x128, .f32⟩
  | .local _ .vmem, ⟨10, _⟩ => ⟨S1x8x128, .f32⟩
  | .local _ .vmem, ⟨11, _⟩ => ⟨S4x144x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel7Ideal.lean ====
variable {F : FTy → Type} [FloatOps F] [Named F]
def κ : String → Option EReal := fun
  | "qscale" => some (((11863283 / 134217728) * (Real.log 2)⁻¹ : ℝ) : EReal)
  | _ => none
-- ==== Reference7Ideal.lean ====
abbrev S8448x1024 : Shape := ⟨2, ![8448, 1024]⟩
abbrev S8448x256 : Shape := ⟨2, ![8448, 256]⟩
abbrev S256x1024 : Shape := ⟨2, ![256, 1024]⟩
abbrev S256x2x4x128 : Shape := ⟨4, ![256, 2, 4, 128]⟩
abbrev S256x256 : Shape := ⟨2, ![256, 256]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x128x4x256 : Shape := ⟨4, ![2, 128, 4, 256]⟩

abbrev nBuf : Space → Nat
  | .hbm => 31
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S256x1024, .f32⟩
  | .hbm, ⟨4, _⟩ => ⟨S256x2x4x128, .f32⟩
  | .hbm, ⟨5, _⟩ => ⟨S256x256, .f32⟩
  | .hbm, ⟨6, _⟩ => ⟨S256x2x128, .f32⟩
  | .hbm, ⟨7, _⟩ => ⟨S256x256, .f32⟩
  | .hbm, ⟨8, _⟩ => ⟨S256x2x128, .f32⟩
  | .hbm, ⟨9, _⟩ => ⟨S2x256x256x4, .f32⟩
  | .hbm, ⟨10, _⟩ => ⟨S2x4x256x256, .f32⟩
  | .hbm, ⟨11, _⟩ => ⟨S_, .f32⟩
  | .hbm, ⟨12, _⟩ => ⟨S2x4x256x256, .f32⟩
  | .hbm, ⟨13, _⟩ => ⟨S2x4x256x256, .f32⟩
  | .hbm, ⟨14, _⟩ => ⟨S_, .f32⟩
  | .hbm, ⟨15, _⟩ => ⟨S2x4x256, .f32⟩
  | .hbm, ⟨16, _⟩ => ⟨S_, .f32⟩
  | .hbm, ⟨17, _⟩ => ⟨S2x4x256, .f32⟩
  | .hbm, ⟨18, _⟩ => ⟨S2x4x256, .f32⟩
  | .hbm, ⟨19, _⟩ => ⟨S2x4x256x1, .f32⟩
  | .hbm, ⟨20, _⟩ => ⟨S2x4x256x256, .f32⟩
  | .hbm, ⟨21, _⟩ => ⟨S2x4x256x256, .f32⟩
  | .hbm, ⟨22, _⟩ => ⟨S2x4x256x256, .f32⟩
  | .hbm, ⟨23, _⟩ => ⟨S_, .f32⟩
  | .hbm, ⟨24, _⟩ => ⟨S2x4x256, .f32⟩
  | .hbm, ⟨25, _⟩ => ⟨S2x4x256x1, .f32⟩
  | .hbm, ⟨26, _⟩ => ⟨S2x4x256x256, .f32⟩
  | .hbm, ⟨27, _⟩ => ⟨S2x4x256x256, .f32⟩
  | .hbm, ⟨28, _⟩ => ⟨S2x128x4x256, .f32⟩
  | .hbm, ⟨29, _⟩ => ⟨S256x2x4x128, .f32⟩
  | .hbm, ⟨30, _⟩ => ⟨S256x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel8.lean ====
abbrev S8448x5760 : Shape := ⟨2, ![8448, 5760]⟩
abbrev S8192x64 : Shape := ⟨2, ![8192, 64]⟩
abbrev S1x128 : Shape := ⟨2, ![1, 128]⟩
abbrev S_ : Shape := ⟨0, ![]⟩
abbrev S256x128 : Shape := ⟨2, ![256, 128]⟩
abbrev S8192x128 : Shape := ⟨2, ![8192, 128]⟩
abbrev S8448x128 : Shape := ⟨2, ![8448, 128]⟩
abbrev S8448x1024 : Shape := ⟨2, ![8448, 1024]⟩
abbrev S8448x256 : Shape := ⟨2, ![8448, 256]⟩
abbrev S33x2x144x256 : Shape := ⟨4, ![33, 2, 144, 256]⟩
abbrev S256x1024 : Shape := ⟨2, ![256, 1024]⟩
abbrev S256x512 : Shape := ⟨2, ![256, 512]⟩
abbrev S256x256 : Shape := ⟨2, ![256, 256]⟩
abbrev S1x2x144x256 : Shape := ⟨4, ![1, 2, 144, 256]⟩
abbrev S128x128 : Shape := ⟨2, ![128, 128]⟩
abbrev S16x256 : Shape := ⟨2, ![16, 256]⟩
abbrev S128x256 : Shape := ⟨2, ![128, 256]⟩
abbrev S144x256 : Shape := ⟨2, ![144, 256]⟩
abbrev S1x1x144x256 : Shape := ⟨4, ![1, 1, 144, 256]⟩

abbrev nBuf : Space → Nat
  | .hbm => 17
  | .vmem => 16
  | .smem => 0
  | _ => 0

abbrev bufTy : (tb : Table) → Fin (tcTables nBuf tb) → BufTy
  | .hbm, ⟨0, _⟩ => ⟨S8448x5760, .f32⟩
  | .hbm, ⟨1, _⟩ => ⟨S8192x64, .f32⟩
  | .hbm, ⟨2, _⟩ => ⟨S8192x64, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S256x128, .f32⟩
  | .hbm, ⟨7, _⟩ => ⟨S8192x128, .f32⟩
  | .hbm, ⟨8, _⟩ => ⟨S8448x128, .f32⟩
  | .hbm, ⟨9, _⟩ => ⟨S_, .f32⟩
  | .hbm, ⟨10, _⟩ => ⟨S256x128, .f32⟩
  | .hbm, ⟨11, _⟩ => ⟨S8192x64, .f32⟩
  | .hbm, ⟨12, _⟩ => ⟨S8192x128, .f32⟩
  | .hbm, ⟨13, _⟩ => ⟨S8448x128, .f32⟩
  | .hbm, ⟨14, _⟩ => ⟨S8448x1024, .bf16⟩
  | .hbm, ⟨15, _⟩ => ⟨S8448x256, .bf16⟩
  | .hbm, ⟨16, _⟩ => ⟨S33x2x144x256, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S256x256, .bf16⟩
  | .local _ .vmem, ⟨13, _⟩ => ⟨S256x256, .bf16⟩
  | .local _ .vmem, ⟨14, _⟩ => ⟨S1x2x144x256, .bf16⟩
  | .local _ .vmem, ⟨15, _⟩ => ⟨S1x2x144x256, .bf16⟩
  | _, _ => ⟨S8448x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x144x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8448x5760 : Shape := ⟨2, ![8448, 5760]⟩
abbrev S8192x64 : Shape := ⟨2, ![8192, 64]⟩
abbrev S1x128 : Shape := ⟨2, ![1, 128]⟩
abbrev S8448x1024 : Shape := ⟨2, ![8448, 1024]⟩
abbrev S8448x8x128 : Shape := ⟨3, ![8448, 8, 128]⟩
abbrev S128 : Shape := ⟨1, ![128]⟩
abbrev S_ : Shape := ⟨0, ![]⟩
abbrev S8448x8 : Shape := ⟨2, ![8448, 8]⟩
abbrev S8448x8x1 : Shape := ⟨3, ![8448, 8, 1]⟩
abbrev S1x1x128 : Shape := ⟨3, ![1, 1, 128]⟩
abbrev S8448x256 : Shape := ⟨2, ![8448, 256]⟩
abbrev S8448x2x128 : Shape := ⟨3, ![8448, 2, 128]⟩
abbrev S8448x2 : Shape := ⟨2, ![8448, 2]⟩
abbrev S8448x2x1 : Shape := ⟨3, ![8448, 2, 1]⟩
abbrev S256x8x128 : Shape := ⟨3, ![256, 8, 128]⟩
abbrev S8192x8x128 : Shape := ⟨3, ![8192, 8, 128]⟩
abbrev S8192x8x64 : Shape := ⟨3, ![8192, 8, 64]⟩
abbrev S8192x1x64 : Shape := ⟨3, ![8192, 1, 64]⟩
abbrev S256x2x128 : Shape := ⟨3, ![256, 2, 128]⟩
abbrev S8192x2x128 : Shape := ⟨3, ![8192, 2, 128]⟩
abbrev S8192x2x64 : Shape := ⟨3, ![8192, 2, 64]⟩
abbrev S33x256x2x128 : Shape := ⟨4, ![33, 256, 2, 128]⟩
abbrev S33x2x16x256 : Shape := ⟨4, ![33, 2, 16, 256]⟩
abbrev S33x2x128x256 : Shape := ⟨4, ![33, 2, 128, 256]⟩
abbrev S33x2x144x256 : Shape := ⟨4, ![33, 2, 144, 256]⟩

abbrev nBuf : Space → Nat
  | .hbm => 93
  | .vmem => 0
  | .smem => 0
  | _ => 0

abbrev bufTy : (tb : Table) → Fin (tcTables nBuf tb) → BufTy
  | .hbm, ⟨0, _⟩ => ⟨S8448x5760, .f32⟩
  | .hbm, ⟨1, _⟩ => ⟨S8192x64, .f32⟩
  | .hbm, ⟨2, _⟩ => ⟨S8192x64, .f32⟩
  | .hbm, ⟨3, _⟩ => ⟨S1x128, .f32⟩
  | .hbm, ⟨4, _⟩ => ⟨S1x128, .f32⟩
  | .hbm, ⟨5, _⟩ => ⟨S8448x1024, .f32⟩
  | .hbm, ⟨6, _⟩ => ⟨S8448x8x128, .f32⟩
  | .hbm, ⟨7, _⟩ => ⟨S128, .f32⟩
  | .hbm, ⟨8, _⟩ => ⟨S8448x8x128, .f32⟩
  | .hbm, ⟨9, _⟩ => ⟨S_, .f32⟩
  | .hbm, ⟨10, _⟩ => ⟨S8448x8, .f32⟩
  | .hbm, ⟨11, _⟩ => ⟨S8448x8x1, .f32⟩
  | .hbm, ⟨12, _⟩ => ⟨S_, .f32⟩
  | .hbm, ⟨13, _⟩ => ⟨S8448x8x1, .f32⟩
  | .hbm, ⟨14, _⟩ => ⟨S8448x8x1, .f32⟩
  | .hbm, ⟨15, _⟩ => ⟨S_, .f32⟩
  | .hbm, ⟨16, _⟩ => ⟨S8448x8x1, .f32⟩
  | .hbm, ⟨17, _⟩ => ⟨S8448x8x1, .f32⟩
  | .hbm, ⟨18, _⟩ => ⟨S8448x8x1, .f32⟩
  | .hbm, ⟨19, _⟩ => ⟨S8448x8x128, .f32⟩
  | .hbm, ⟨20, _⟩ => ⟨S8448x8x128, .f32⟩
  | .hbm, ⟨21, _⟩ => ⟨S1x1x128, .f32⟩
  | .hbm, ⟨22, _⟩ => ⟨S8448x8x128, .f32⟩
  | .hbm, ⟨23, _⟩ => ⟨S8448x8x128, .f32⟩
  | .hbm, ⟨24, _⟩ => ⟨S8448x256, .f32⟩
  | .hbm, ⟨25, _⟩ => ⟨S8448x2x128, .f32⟩
  | .hbm, ⟨26, _⟩ => ⟨S128, .f32⟩
  | .hbm, ⟨27, _⟩ => ⟨S8448x2x128, .f32⟩
  | .hbm, ⟨28, _⟩ => ⟨S_, .f32⟩
  | .hbm, ⟨29, _⟩ => ⟨S8448x2, .f32⟩
  | .hbm, ⟨30, _⟩ => ⟨S8448x2x1, .f32⟩
  | .hbm, ⟨31, _⟩ => ⟨S_, .f32⟩
  | .hbm, ⟨32, _⟩ => ⟨S8448x2x1, .f32⟩
  | .hbm, ⟨33, _⟩ => ⟨S8448x2x1, .f32⟩
  | .hbm, ⟨34, _⟩ => ⟨S_, .f32⟩
  | .hbm, ⟨35, _⟩ => ⟨S8448x2x1, .f32⟩
  | .hbm, ⟨36, _⟩ => ⟨S8448x2x1, .f32⟩
  | .hbm, ⟨37, _⟩ => ⟨S8448x2x1, .f32⟩
  | .hbm, ⟨38, _⟩ => ⟨S8448x2x128, .f32⟩
  | .hbm, ⟨39, _⟩ => ⟨S8448x2x128, .f32⟩
  | .hbm, ⟨40, _⟩ => ⟨S1x1x128, .f32⟩
  | .hbm, ⟨41, _⟩ => ⟨S8448x2x128, .f32⟩
  | .hbm, ⟨42, _⟩ => ⟨S8448x2x128, .f32⟩
  | .hbm, ⟨43, _⟩ => ⟨S256x8x128, .f32⟩
  | .hbm, ⟨44, _⟩ => ⟨S8192x8x128, .f32⟩
  | .hbm, ⟨45, _⟩ => ⟨S8192x8x64, .f32⟩
  | .hbm, ⟨46, _⟩ => ⟨S8192x8x64, .f32⟩
  | .hbm, ⟨47, _⟩ => ⟨S8192x1x64, .f32⟩
  | .hbm, ⟨48, _⟩ => ⟨S8192x1x64, .f32⟩
  | .hbm, ⟨49, _⟩ => ⟨S8192x8x64, .f32⟩
  | .hbm, ⟨50, _⟩ => ⟨S8192x8x64, .f32⟩
  | .hbm, ⟨51, _⟩ => ⟨S8192x8x64, .f32⟩
  | .hbm, ⟨52, _⟩ => ⟨S8192x8x64, .f32⟩
  | .hbm, ⟨53, _⟩ => ⟨S8192x8x64, .f32⟩
  | .hbm, ⟨54, _⟩ => ⟨S8192x8x64, .f32⟩
  | .hbm, ⟨55, _⟩ => ⟨S8192x8x64, .f32⟩
  | .hbm, ⟨56, _⟩ => ⟨S8192x8x64, .f32⟩
  | .hbm, ⟨57, _⟩ => ⟨S8192x8x64, .f32⟩
  | .hbm, ⟨58, _⟩ => ⟨S8192x8x64, .f32⟩
  | .hbm, ⟨59, _⟩ => ⟨S8192x8x128, .f32⟩
  | .hbm, ⟨60, _⟩ => ⟨S8448x8x128, .f32⟩
  | .hbm, ⟨61, _⟩ => ⟨S_, .f32⟩
  | .hbm, ⟨62, _⟩ => ⟨S8448x8x128, .f32⟩
  | .hbm, ⟨63, _⟩ => ⟨S8448x8x128, .f32⟩
  | .hbm, ⟨64, _⟩ => ⟨S256x2x128, .f32⟩
  | .hbm, ⟨65, _⟩ => ⟨S8192x2x128, .f32⟩
  | .hbm, ⟨66, _⟩ => ⟨S8192x2x64, .f32⟩
  | .hbm, ⟨67, _⟩ => ⟨S8192x2x64, .f32⟩
  | .hbm, ⟨68, _⟩ => ⟨S8192x1x64, .f32⟩
  | .hbm, ⟨69, _⟩ => ⟨S8192x1x64, .f32⟩
  | .hbm, ⟨70, _⟩ => ⟨S8192x2x64, .f32⟩
  | .hbm, ⟨71, _⟩ => ⟨S8192x2x64, .f32⟩
  | .hbm, ⟨72, _⟩ => ⟨S8192x2x64, .f32⟩
  | .hbm, ⟨73, _⟩ => ⟨S8192x2x64, .f32⟩
  | .hbm, ⟨74, _⟩ => ⟨S8192x2x64, .f32⟩
  | .hbm, ⟨75, _⟩ => ⟨S8192x2x64, .f32⟩
  | .hbm, ⟨76, _⟩ => ⟨S8192x2x64, .f32⟩
  | .hbm, ⟨77, _⟩ => ⟨S8192x2x64, .f32⟩
  | .hbm, ⟨78, _⟩ => ⟨S8192x2x64, .f32⟩
  | .hbm, ⟨79, _⟩ => ⟨S8192x2x64, .f32⟩
  | .hbm, ⟨80, _⟩ => ⟨S8192x2x128, .f32⟩
  | .hbm, ⟨81, _⟩ => ⟨S8448x2x128, .f32⟩
  | .hbm, ⟨82, _⟩ => ⟨S8448x256, .f32⟩
  | .hbm, ⟨83, _⟩ => ⟨S33x256x2x128, .f32⟩
  | .hbm, ⟨84, _⟩ => ⟨S_, .f32⟩
  | .hbm, ⟨85, _⟩ => ⟨S33x2x16x256, .f32⟩
  | .hbm, ⟨86, _⟩ => ⟨S33x2x128x256, .f32⟩
  | .hbm, ⟨87, _⟩ => ⟨S33x2x144x256, .f32⟩
  | .hbm, ⟨88, _⟩ => ⟨S8448x1024, .f32⟩
  | .hbm, ⟨89, _⟩ => ⟨S8448x1024, .bf16⟩
  | .hbm, ⟨90, _⟩ => ⟨S8448x256, .f32⟩
  | .hbm, ⟨91, _⟩ => ⟨S8448x256, .bf16⟩
  | .hbm, ⟨92, _⟩ => ⟨S33x2x144x256, .bf16⟩
  | _, _ => ⟨S8448x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_6 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩

abbrev nD : Nat := 1
abbrev τ : Topo := Topo.v7x

variable {F : FTy → Type} [FloatOps F]
-- ==== Proof.Model.lean ====
/-
  The attention kernel's arithmetic, head by head, free of its memory: the scores of a block of keys, the running
  maximum, the weighted values, and one update of the pair (maximum, accumulator) by a block of 512 keys.
-/
module

public import proofs.«01_k».proof.Proof.Gen.KernelIdeal.Skeleton

@[expose] public section

noncomputable section

namespace Cert.Attn

open Idealize.ShloMosaic Idealize.ShloMosaic.TcCoe Cert.KernelIdeal Cert.KernelIdeal.Gen

variable {F : FTy → Type} [FloatOps F]

/-- The scores of a block of 512 keys against a tile of 256 scaled queries. -/
def score (kb : FVec F S512x128 .bf16) (q : FVec F S256x128 .bf16) : FVec F S512x256 .f32 :=
  matmul dot_S512x128_S256x128_S512x256_1_1_0_0_n_n none kb q (constant S512x256 .f32 0x00000000#32)

/-- A block's largest score, query by query. -/
def maxOver (st : FVec F S512x256 .f32) : FVec F S256 .f32 :=
  multiReduction .maximumf [0] S256 st 0xFF800000#32 reduces_S512x256_S256 (.inl rfl) rfl

/-- The same, as a row. -/
def top (st : FVec F S512x256 .f32) : FVec F S1x256 .f32 := shapeCast S1x256 (maxOver st) shapeCasts_S256_S1x256

/-- The block's values, weighted by the scores' powers of two above the maximum `m`. -/
def weigh (v : FVec F S144x256 .bf16 × FVec F S144x256 .bf16) (st : FVec F S512x256 .f32) (m : FVec F S1x256 .f32) :
    FVec F S144x256 .f32 :=
  addf
    (matmul dot_S144x256_S256x256_S144x256_1_0_0_1_n_n none v.1
      (extractStridedSlice S256x256 ![0, 0] (truncf .bf16 (exp2 (subf st (broadcastTo S512x256 m broadcasts_S1x256_S512x256))) bitsLt_bf16_f32)
        slices_S512x256_o0_0_S256x256) (constant S144x256 .f32 0x00000000#32))
    (matmul dot_S144x256_S256x256_S144x256_1_0_0_1_n_n none v.2
      (extractStridedSlice S256x256 ![256, 0] (truncf .bf16 (exp2 (subf st (broadcastTo S512x256 m broadcasts_S1x256_S512x256))) bitsLt_bf16_f32)
        slices_S512x256_o256_0_S256x256) (constant S144x256 .f32 0x00000000#32))

/-- One head's running maximum and accumulator. -/
abbrev Run (F : FTy → Type) : Type := FVec F S1x256 .f32 × FVec F S144x256 .f32

/-- The first block of 512 keys. -/
def first (v : FVec F S144x256 .bf16 × FVec F S144x256 .bf16) (st : FVec F S512x256 .f32) : Run F :=
  (top st, weigh v st (top st))

/-- A further block of 512 keys: the accumulator is brought to the new maximum, the block's weighted values are added. -/
def upd (v : FVec F S144x256 .bf16 × FVec F S144x256 .bf16) (st : FVec F S512x256 .f32) (p : Run F) : Run F :=
  (maximumf p.1 (top st),
    addf (mulf (broadcastTo S144x256 (exp2 (subf p.1 (maximumf p.1 (top st)))) broadcasts_S1x256_S144x256) p.2)
      (weigh v st (maximumf p.1 (top st))))

/-- A tile of 256 queries of one head, scaled for powers of two. -/
def queries [Named F] (x : FVec F S256x128 .f32) : FVec F S256x128 .bf16 :=
  truncf .bf16 (mulf x (broadcast S256x128 (Named.named κ "qscale" 0x3E0293EE#32))) bitsLt_bf16_f32

/-- The scores of the block of 256 context keys. -/
def score0 (kb : FVec F S256x128 .bf16) (q : FVec F S256x128 .bf16) : FVec F S256x256 .f32 :=
  matmul dot_S256x128_S256x128_S256x256_1_1_0_0_n_n none kb q (constant S256x256 .f32 0x00000000#32)

/-- Its largest score, query by query. -/
def maxOver0 (st : FVec F S256x256 .f32) : FVec F S256 .f32 :=
  multiReduction .maximumf [0] S256 st 0xFF800000#32 reduces_S256x256_S256 (.inl rfl) rfl

/-- The same, as a row. -/
def top0 (st : FVec F S256x256 .f32) : FVec F S1x256 .f32 := shapeCast S1x256 (maxOver0 st) shapeCasts_S256_S1x256

/-- The accumulator after the last block, the 256 context keys. -/
def last (v : FVec F S144x256 .bf16) (st : FVec F S256x256 .f32) (p : Run F) : FVec F S144x256 .f32 :=
  addf (mulf (broadcastTo S144x256 (exp2 (subf p.1 (maximumf p.1 (top0 st)))) broadcasts_S1x256_S144x256) p.2)
    (matmul dot_S144x256_S256x256_S144x256_1_0_0_1_n_n none v
      (truncf .bf16 (exp2 (subf st (broadcastTo S256x256 (maximumf p.1 (top0 st)) broadcasts_S1x256_S256x256))) bitsLt_bf16_f32)
      (constant S144x256 .f32 0x00000000#32))

/-- The weighted values over the weights' sum, a query to a row. -/
def finish (a : FVec F S144x256 .f32) : FVec F S256x128 .f32 :=
  transpose S256x128 [1, 0]
    (divf (extractStridedSlice S128x256 ![0, 0] a slices_S144x256_o0_0_S128x256)
      (broadcastTo S128x256 (extractStridedSlice S1x256 ![128, 0] a slices_S144x256_o128_0_S1x256) broadcasts_S1x256_S128x256))
    transposes_S128x256_p1_0_S256x128

end Cert.Attn

end
-- ==== Proof.Trip.lean ====
/-
  One trip of the kernel's loop over the keys: six updates of every head.
-/
module

public import proofs.«01_k».proof.Proof.Model
public import proofs.«01_k».proof.Proof.Gen.KernelIdeal.Loops
public import Idealize.ShloMosaic.Lib.Pipeline.ReadBack
public import Idealize.ShloMosaic.Lib.Pipeline.Value

@[expose] public section

noncomputable section

namespace Cert.Attn

open Idealize.ShloMosaic Idealize.ShloMosaic.TcCoe Cert.KernelIdeal Cert.KernelIdeal.Gen

variable {F : FTy → Type} [FloatOps F] [Named F]

/-- Six blocks of 512 keys. -/
def six (v : Fin 6 → FVec F S144x256 .bf16 × FVec F S144x256 .bf16) (st : Fin 6 → FVec F S512x256 .f32) (p : Run F) : Run F :=
  upd (v 5) (st 5) (upd (v 4) (st 4) (upd (v 3) (st 3) (upd (v 2) (st 2) (upd (v 1) (st 1) (upd (v 0) (st 0) p)))))

/-- A head's block of scores in a scratch buffer. -/
def scoresAt (arg7 : Memref sig .tc .vmem S4x512x256 .f32) (f : BufTy.Contents (Elt F) arg7.view.ty) (off : Fin 3 → Nat)
    (h : ∀ a, off a + S1x512x256.size a ≤ S4x512x256.size a) : FVec F S512x256 .f32 :=
  shapeCast S512x256 (View.readAt (Elt F) arg7.view (Rect.unit (s := S4x512x256) off S1x512x256.size h).toLoadRect f)
    shapeCasts_S1x512x256_S512x256

/-- A head's accumulator in the scratch buffer. -/
def accAt (arg9 : Memref sig .tc .vmem S4x144x256 .f32) (f : BufTy.Contents (Elt F) arg9.view.ty) (off : Fin 3 → Nat)
    (h : ∀ a, off a + S1x144x256.size a ≤ S4x144x256.size a) : FVec F S144x256 .f32 :=
  shapeCast S144x256 (View.readAt (Elt F) arg9.view (Rect.unit (s := S4x144x256) off S1x144x256.size h).toLoadRect f)
    shapeCasts_S1x144x256_S144x256

/-- 512 rows of the keys. -/
def keysAt (arg3 : Memref sig .tc .vmem S8448x128 .bf16) (X : BufTy.Contents (Elt F) arg3.view.ty) (off : Fin 2 → Nat)
    (h : ∀ a, off a + S512x128.size a ≤ S8448x128.size a) : FVec F S512x128 .bf16 :=
  shapeCast S512x128 (View.readAt (Elt F) arg3.view (Rect.unit (s := S8448x128) off S512x128.size h).toLoadRect X)
    shapeCasts_S512x128_S512x128

/-- One tile of 256 keys' values, with the rows of ones. -/
def valsAt (arg4 : Memref sig .tc .vmem S33x1x144x256 .bf16) (X : BufTy.Contents (Elt F) arg4.view.ty) (off : Fin 4 → Nat)
    (h : ∀ a, off a + S1x1x144x256.size a ≤ S33x1x144x256.size a) : FVec F S144x256 .bf16 :=
  shapeCast S144x256 (View.readAt (Elt F) arg4.view (Rect.unit (s := S33x1x144x256) off S1x1x144x256.size h).toLoadRect X)
    shapeCasts_S1x1x144x256_S144x256

/-- The block's largest score as the kernel's trip spells it. -/
theorem maxOver_eq (st : FVec F S512x256 .f32) (h1 : S512x256.Reduces [0] S256) (h2 : FKind.Formats FTy.f32)
    (h3 : (4286578688#32 : BitVec 32) = 4286578688#32) :
    multiReduction .maximumf [0] S256 st 4286578688#32 h1 h2 h3 = maxOver st := rfl

/-- A load through the last store's rectangle reads what it stored. -/
theorem readAt_hit {κ : Kind} {sp : Space} {s : Shape} {e : EltTy} (v : View sig κ sp s e) (f : BufTy.Contents (Elt F) v.ty)
    (r : Rect s) (w : r.shape.Idx → Elt F e) (L : List (View.Piece (Elt F) s e)) :
    View.readAt (Elt F) v r.toLoadRect (v.writes (Elt F) f (⟨r, w⟩ :: L)) = w :=
  funext fun x => View.read_writes_cons_emb v f r w L x

/-- A load apart from the last store's rectangle reads what was there before. -/
theorem readAt_skip {κ : Kind} {sp : Space} {s : Shape} {e : EltTy} (v : View sig κ sp s e) (f : BufTy.Contents (Elt F) v.ty)
    (r : Rect s) (w : r.shape.Idx → Elt F e) (L : List (View.Piece (Elt F) s e)) (B : LoadRect s) (h : LoadRect.disj r B = true) :
    View.readAt (Elt F) v B (v.writes (Elt F) f (⟨r, w⟩ :: L)) = View.readAt (Elt F) v B (v.writes (Elt F) f L) :=
  funext fun j => View.read_writes_cons_miss v f ⟨r, w⟩ L (B.idx j) (LoadRect.idx_not_mem_of_disj h j)

variable (𝒱 : Variants) (c : Dev nD) (bd : Option 𝒱.V) (i : grid0.Coords) (arg2 : Memref sig .tc .vmem S256x512 .f32) (harg2 : arg2.IsWhole)
  (arg3 : Memref sig .tc .vmem S8448x128 .bf16) (harg3 : arg3.IsWhole) (arg4 : Memref sig .tc .vmem S33x1x144x256 .bf16) (harg4 : arg4.IsWhole)
  (arg5 : Memref sig .tc .vmem S256x512 .f32) (harg5 : arg5.IsWhole) (arg6 : Memref sig .tc .vmem S4x256x256 .f32) (harg6 : arg6.IsWhole)
  (arg7 : Memref sig .tc .vmem S4x512x256 .f32) (harg7 : arg7.IsWhole) (arg8 : Memref sig .tc .vmem S4x512x256 .f32) (harg8 : arg8.IsWhole)
  (arg9 : Memref sig .tc .vmem S4x144x256 .f32) (harg9 : arg9.IsWhole)
  (v3 v7 v11 v15 : FVec F S256x128 .bf16) (v152 v176 v200 v224 : FVec F S1x256 .f32) (v233 : FVec F S144x256 .f32) (v235 : FVec F S1x256 .f32)
  (X3 : BufTy.Contents (Elt F) arg3.view.ty) (X4 : BufTy.Contents (Elt F) arg4.view.ty) (k : Fin k0_t1_loop.trips)

/-- The six pairs of value tiles of trip `k`. -/
def tripVals : Fin 6 → FVec F S144x256 .bf16 × FVec F S144x256 .bf16 :=
  ![(valsAt arg4 X4 _ (k0_off2_inb k 0 0), valsAt arg4 X4 _ (k0_off2_inb k 0 1)),
    (valsAt arg4 X4 _ (k0_off3_inb k 0 0), valsAt arg4 X4 _ (k0_off3_inb k 0 1)),
    (valsAt arg4 X4 _ (k0_off2_inb k 1 0), valsAt arg4 X4 _ (k0_off2_inb k 1 1)),
    (valsAt arg4 X4 _ (k0_off3_inb k 1 0), valsAt arg4 X4 _ (k0_off3_inb k 1 1)),
    (valsAt arg4 X4 _ (k0_off2_inb k 2 0), valsAt arg4 X4 _ (k0_off2_inb k 2 1)),
    (valsAt arg4 X4 _ (k0_off3_inb k 2 0), valsAt arg4 X4 _ (k0_off3_inb k 2 1))]

/-- The six blocks of scores of trip `k` against the queries `q`: the first is the one the trip finds. -/
def tripScores (q : FVec F S256x128 .bf16) (st : FVec F S512x256 .f32) : Fin 6 → FVec F S512x256 .f32 :=
  ![st, score (keysAt arg3 X3 _ (k0_off1_inb k 0 0)) q, score (keysAt arg3 X3 _ (k0_off1_inb k 0 1)) q,
    score (keysAt arg3 X3 _ (k0_off1_inb k 1 0)) q, score (keysAt arg3 X3 _ (k0_off1_inb k 1 1)) q,
    score (keysAt arg3 X3 _ (k0_off1_inb k 2 0)) q]

variable (acc : FVec F S1x256 .f32 × FVec F S1x256 .f32 × FVec F S1x256 .f32 × FVec F S1x256 .f32)
  (f7 : BufTy.Contents (Elt F) arg7.view.ty) (f8 : BufTy.Contents (Elt F) arg8.view.ty) (f9 : BufTy.Contents (Elt F) arg9.view.ty)

set_option maxRecDepth 16384 in
/-- What the trip carries on: each head's running maximum. -/
theorem trip_top :
    (tripR_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).1
      = (six (tripVals arg4 X4 k) (tripScores arg3 X3 k v3 (scoresAt arg7 f7 _ inb_S4x512x256_S1x512x256_0_0_0)) (acc.1, accAt arg9 f9 _ inb_S4x144x256_S1x144x256_0_0_0)).1
    ∧ (tripR_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.1
      = (six (tripVals arg4 X4 k) (tripScores arg3 X3 k v7 (scoresAt arg7 f7 _ inb_S4x512x256_S1x512x256_1_0_0)) (acc.2.1, accAt arg9 f9 _ inb_S4x144x256_S1x144x256_1_0_0)).1
    ∧ (tripR_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2.1
      = (six (tripVals arg4 X4 k) (tripScores arg3 X3 k v11 (scoresAt arg7 f7 _ inb_S4x512x256_S1x512x256_2_0_0)) (acc.2.2.1, accAt arg9 f9 _ inb_S4x144x256_S1x144x256_2_0_0)).1
    ∧ (tripR_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2.2
      = (six (tripVals arg4 X4 k) (tripScores arg3 X3 k v15 (scoresAt arg7 f7 _ inb_S4x512x256_S1x512x256_3_0_0)) (acc.2.2.2, accAt arg9 f9 _ inb_S4x144x256_S1x144x256_3_0_0)).1 := by
  refine ⟨?_, ?_, ?_, ?_⟩ <;>
  · unfold tripR_k0_t1 trip_k0_t1
    dsimp only
    sl_unfold_run_names
    simp (disch := decide) only [↓maxOver_eq, ↓View.readCov_cons_toLoadRect, ↓View.readCov_skip, shapeCast_shapeCast]
    rfl

set_option maxRecDepth 16384 in
/-- The accumulators the trip leaves. -/
theorem trip_acc :
    accAt arg9 (arg9.view.writes (Elt F) f9 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2) _ inb_S4x144x256_S1x144x256_0_0_0
      = (six (tripVals arg4 X4 k) (tripScores arg3 X3 k v3 (scoresAt arg7 f7 _ inb_S4x512x256_S1x512x256_0_0_0)) (acc.1, accAt arg9 f9 _ inb_S4x144x256_S1x144x256_0_0_0)).2
    ∧ accAt arg9 (arg9.view.writes (Elt F) f9 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2) _ inb_S4x144x256_S1x144x256_1_0_0
      = (six (tripVals arg4 X4 k) (tripScores arg3 X3 k v7 (scoresAt arg7 f7 _ inb_S4x512x256_S1x512x256_1_0_0)) (acc.2.1, accAt arg9 f9 _ inb_S4x144x256_S1x144x256_1_0_0)).2
    ∧ accAt arg9 (arg9.view.writes (Elt F) f9 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2) _ inb_S4x144x256_S1x144x256_2_0_0
      = (six (tripVals arg4 X4 k) (tripScores arg3 X3 k v11 (scoresAt arg7 f7 _ inb_S4x512x256_S1x512x256_2_0_0)) (acc.2.2.1, accAt arg9 f9 _ inb_S4x144x256_S1x144x256_2_0_0)).2
    ∧ accAt arg9 (arg9.view.writes (Elt F) f9 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).2.2) _ inb_S4x144x256_S1x144x256_3_0_0
      = (six (tripVals arg4 X4 k) (tripScores arg3 X3 k v15 (scoresAt arg7 f7 _ inb_S4x512x256_S1x512x256_3_0_0)) (acc.2.2.2, accAt arg9 f9 _ inb_S4x144x256_S1x144x256_3_0_0)).2 := by
  refine ⟨?_, ?_, ?_, ?_⟩ <;>
  · unfold accAt tripL_k0_t1 trip_k0_t1
    dsimp only
    sl_unfold_run_names
    simp (disch := decide) only [↓maxOver_eq, ↓View.readCov_cons_toLoadRect, ↓View.readCov_skip, ↓readAt_hit, ↓readAt_skip, shapeCast_shapeCast]
    refine (shapeCast_shapeCast _ _ _).trans ?_
    simp only [six, upd, weigh, top, tripVals, tripScores, scoresAt, score, keysAt, valsAt, Matrix.cons_val]
    rfl

set_option maxRecDepth 16384 in
/-- The block of scores the trip leaves for the next. -/
theorem trip_scores :
    scoresAt arg7 (arg7.view.writes (Elt F) f7 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).1) _ inb_S4x512x256_S1x512x256_0_0_0
      = score (keysAt arg3 X3 _ (k0_off1_inb k 2 1)) v3
    ∧ scoresAt arg7 (arg7.view.writes (Elt F) f7 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).1) _ inb_S4x512x256_S1x512x256_1_0_0
      = score (keysAt arg3 X3 _ (k0_off1_inb k 2 1)) v7
    ∧ scoresAt arg7 (arg7.view.writes (Elt F) f7 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).1) _ inb_S4x512x256_S1x512x256_2_0_0
      = score (keysAt arg3 X3 _ (k0_off1_inb k 2 1)) v11
    ∧ scoresAt arg7 (arg7.view.writes (Elt F) f7 (tripL_k0_t1 (F := F) 𝒱 c bd i arg2 harg2 arg3 harg3 arg4 harg4 arg5 harg5 arg6 harg6 arg7 harg7 arg8 harg8 arg9 harg9 v3 v7 v11 v15 v152 v176 v200 v224 v233 v235 X3 X4 k acc f7 f8 f9).1) _ inb_S4x512x256_S1x512x256_3_0_0
      = score (keysAt arg3 X3 _ (k0_off1_inb k 2 1)) v15 := by
  refine ⟨?_, ?_, ?_, ?_⟩ <;>
  · unfold scoresAt tripL_k0_t1 trip_k0_t1
    dsimp only
    sl_unfold_run_names
    simp (disch := decide) only [↓maxOver_eq, ↓View.readCov_cons_toLoadRect, ↓View.readCov_skip, ↓readAt_hit, ↓readAt_skip, shapeCast_shapeCast]
    exact (shapeCast_shapeCast _ _ _).trans rfl

end Cert.Attn
-- ==== Proof.Loop.lean ====
/-
  The kernel's loop over the keys: two trips, so twelve updates of every head.
-/
module

public import proofs.«01_k».proof.Proof.Trip

@[expose] public section

noncomputable section

namespace Cert.Attn

open Idealize.ShloMosaic Idealize.ShloMosaic.TcCoe Cert.KernelIdeal Cert.KernelIdeal.Gen

variable {F : FTy → Type} [FloatOps F] [Named F]

/-- The loop's first trip. -/
def trip0 : Fin k0_t1_loop.trips := ⟨0, by decide⟩

/-- The loop's second trip. -/
def trip1 : Fin k0_t1_loop.trips := ⟨1, by decide⟩

variable (𝒱 : Variants) (c : Dev nD) (bd : Option 𝒱.V) (i : grid0.Coords) (arg2 : Memref sig .tc .vmem S256x512 .f32) (harg2 : arg2.IsWhole)
  (arg3 : Memref sig .tc .vmem S8448x128 .bf16) (harg3 : arg3.IsWhole) (arg4 : Memref sig .tc .vmem S33x1x144x256 .bf16) (harg4 : arg4.IsWhole)
  (arg5 : Memref sig .tc .vmem S256x512 .f32) (harg5 : arg5.IsWhole) (arg6 : Memref sig .tc .vmem S4x256x256 .f32) (harg6 : arg6.IsWhole)
  (arg7 : Memref sig .tc .vmem S4x512x256 .f32) (harg7 : arg7.IsWhole) (arg8 : Memref sig .tc .vmem S4x512x256 .f32) (harg8 : arg8.IsWhole)
  (arg9 : Memref sig .tc .vmem S4x144x256 .f32) (harg9 : arg9.IsWhole)
  (v3 v7 v11 v15 : FVec F S256x128 .bf16) (v152 v176 v200 v224 : FVec F S1x256 .f32) (v233 : FVec F S144x256 .f32) (v235 : FVec F S1x256 .f32)
  (X3 : BufTy.Contents (Elt F) arg3.view.ty) (X4 : BufTy.Contents (Elt F) arg4.view.ty)

/-- The loop for one head: queries `q`, the block of scores it finds and the pair it starts from. -/
def pass (q : FVec F S256x128 .bf16) (st : FVec F S512x256 .f32) (p : Run F) : Run F :=
  six (tripVals arg4 X4 trip1) (tripScores arg3 X3 trip1 q (score (keysAt arg3 X3 _ (k0_off1_inb trip0 2 1)) q))
    (six (tripVals arg4 X4 trip0) (tripScores arg3 X3 trip0 q st) p)

variable (G7 : BufTy.Contents (Elt F) arg7.view.ty) (G8 : BufTy.Contents (Elt F) arg8.view.ty) (G9 : BufTy.Contents (Elt F) arg9.view.ty)
  (init : FVec F S1x256 .f32 × FVec F S1x256 .f32 × FVec F S1x256 .f32 × FVec F S1x256 .f32)

theorem step_top (k : Fin k0_t1_loop.trips) :
    (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).1.1
      = (six (tripVals arg4 X4 k) (tripScores arg3 X3 k v3 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_0_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_0_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).1.2.1
      = (six (tripVals arg4 X4 k) (tripScores arg3 X3 k v7 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_1_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_1_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).1.2.2.1
      = (six (tripVals arg4 X4 k) (tripScores arg3 X3 k v11 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_2_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.2.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_2_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).1.2.2.2
      = (six (tripVals arg4 X4 k) (tripScores arg3 X3 k v15 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_3_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.2.2, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_3_0_0)).1 := by
  rw [st_k0_t1_succ]
  exact trip_top (F := F) 𝒱 c bd i arg2 harg2 arg3 harg3 arg4 harg4 arg5 harg5 arg6 harg6 arg7 harg7 arg8 harg8 arg9 harg9 v3 v7 v11 v15 v152 v176 v200 v224 v233 v235 X3 X4 k _ _ _ _

theorem step_acc (k : Fin k0_t1_loop.trips) :
    accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.2.2) _ inb_S4x144x256_S1x144x256_0_0_0
      = (six (tripVals arg4 X4 k) (tripScores arg3 X3 k v3 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_0_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_0_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.2.2) _ inb_S4x144x256_S1x144x256_1_0_0
      = (six (tripVals arg4 X4 k) (tripScores arg3 X3 k v7 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_1_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_1_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.2.2) _ inb_S4x144x256_S1x144x256_2_0_0
      = (six (tripVals arg4 X4 k) (tripScores arg3 X3 k v11 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_2_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.2.1, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_2_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.2.2) _ inb_S4x144x256_S1x144x256_3_0_0
      = (six (tripVals arg4 X4 k) (tripScores arg3 X3 k v15 (scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.1) _ inb_S4x512x256_S1x512x256_3_0_0)) ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).1.2.2.2, accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init k.val).2.2.2) _ inb_S4x144x256_S1x144x256_3_0_0)).2 := by
  rw [st_k0_t1_succ]
  simp only [View.writes_append]
  exact trip_acc (F := F) 𝒱 c bd i arg2 harg2 arg3 harg3 arg4 harg4 arg5 harg5 arg6 harg6 arg7 harg7 arg8 harg8 arg9 harg9 v3 v7 v11 v15 v152 v176 v200 v224 v233 v235 X3 X4 k _ _ _ _

theorem step_scores (k : Fin k0_t1_loop.trips) :
    scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.1) _ inb_S4x512x256_S1x512x256_0_0_0
      = score (keysAt arg3 X3 _ (k0_off1_inb k 2 1)) v3
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.1) _ inb_S4x512x256_S1x512x256_1_0_0
      = score (keysAt arg3 X3 _ (k0_off1_inb k 2 1)) v7
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.1) _ inb_S4x512x256_S1x512x256_2_0_0
      = score (keysAt arg3 X3 _ (k0_off1_inb k 2 1)) v11
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (k.val + 1)).2.1) _ inb_S4x512x256_S1x512x256_3_0_0
      = score (keysAt arg3 X3 _ (k0_off1_inb k 2 1)) v15 := by
  rw [st_k0_t1_succ]
  simp only [View.writes_append]
  exact trip_scores (F := F) 𝒱 c bd i arg2 harg2 arg3 harg3 arg4 harg4 arg5 harg5 arg6 harg6 arg7 harg7 arg8 harg8 arg9 harg9 v3 v7 v11 v15 v152 v176 v200 v224 v233 v235 X3 X4 k _ _ _ _

theorem loop_top :
    (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).1.1
      = (pass arg3 arg4 X3 X4 v3 (scoresAt arg7 G7 _ inb_S4x512x256_S1x512x256_0_0_0) (init.1, accAt arg9 G9 _ inb_S4x144x256_S1x144x256_0_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).1.2.1
      = (pass arg3 arg4 X3 X4 v7 (scoresAt arg7 G7 _ inb_S4x512x256_S1x512x256_1_0_0) (init.2.1, accAt arg9 G9 _ inb_S4x144x256_S1x144x256_1_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).1.2.2.1
      = (pass arg3 arg4 X3 X4 v11 (scoresAt arg7 G7 _ inb_S4x512x256_S1x512x256_2_0_0) (init.2.2.1, accAt arg9 G9 _ inb_S4x144x256_S1x144x256_2_0_0)).1
    ∧ (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).1.2.2.2
      = (pass arg3 arg4 X3 X4 v15 (scoresAt arg7 G7 _ inb_S4x512x256_S1x512x256_3_0_0) (init.2.2.2, accAt arg9 G9 _ inb_S4x144x256_S1x144x256_3_0_0)).1 := by
  have h0t := step_top (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h0a := step_acc (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h0s := step_scores (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h1 := step_top (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip1
  have e : trip1.val = trip0.val + 1 := rfl
  rw [e, h0t.1, h0t.2.1, h0t.2.2.1, h0t.2.2.2, h0a.1, h0a.2.1, h0a.2.2.1, h0a.2.2.2, h0s.1, h0s.2.1, h0s.2.2.1, h0s.2.2.2] at h1
  exact h1

theorem loop_acc :
    accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.2.2) _ inb_S4x144x256_S1x144x256_0_0_0
      = (pass arg3 arg4 X3 X4 v3 (scoresAt arg7 G7 _ inb_S4x512x256_S1x512x256_0_0_0) (init.1, accAt arg9 G9 _ inb_S4x144x256_S1x144x256_0_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.2.2) _ inb_S4x144x256_S1x144x256_1_0_0
      = (pass arg3 arg4 X3 X4 v7 (scoresAt arg7 G7 _ inb_S4x512x256_S1x512x256_1_0_0) (init.2.1, accAt arg9 G9 _ inb_S4x144x256_S1x144x256_1_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.2.2) _ inb_S4x144x256_S1x144x256_2_0_0
      = (pass arg3 arg4 X3 X4 v11 (scoresAt arg7 G7 _ inb_S4x512x256_S1x512x256_2_0_0) (init.2.2.1, accAt arg9 G9 _ inb_S4x144x256_S1x144x256_2_0_0)).2
    ∧ accAt arg9 (arg9.view.writes (Elt F) G9 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.2.2) _ inb_S4x144x256_S1x144x256_3_0_0
      = (pass arg3 arg4 X3 X4 v15 (scoresAt arg7 G7 _ inb_S4x512x256_S1x512x256_3_0_0) (init.2.2.2, accAt arg9 G9 _ inb_S4x144x256_S1x144x256_3_0_0)).2 := by
  have h0t := step_top (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h0a := step_acc (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h0s := step_scores (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip0
  have h1 := step_acc (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip1
  have e : trip1.val = trip0.val + 1 := rfl
  rw [e, h0t.1, h0t.2.1, h0t.2.2.1, h0t.2.2.2, h0a.1, h0a.2.1, h0a.2.2.1, h0a.2.2.2, h0s.1, h0s.2.1, h0s.2.2.1, h0s.2.2.2] at h1
  exact h1

theorem loop_scores :
    scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.1) _ inb_S4x512x256_S1x512x256_0_0_0
      = score (keysAt arg3 X3 _ (k0_off1_inb trip1 2 1)) v3
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.1) _ inb_S4x512x256_S1x512x256_1_0_0
      = score (keysAt arg3 X3 _ (k0_off1_inb trip1 2 1)) v7
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.1) _ inb_S4x512x256_S1x512x256_2_0_0
      = score (keysAt arg3 X3 _ (k0_off1_inb trip1 2 1)) v11
    ∧ scoresAt arg7 (arg7.view.writes (Elt F) G7 (st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init (Scf.trips k0_t1_loop.lb k0_t1_loop.ub k0_t1_loop.st)).2.1) _ inb_S4x512x256_S1x512x256_3_0_0
      = score (keysAt arg3 X3 _ (k0_off1_inb trip1 2 1)) v15 :=
  step_scores (F := F) 𝒱 c bd i arg2 harg2 arg3 harg3 arg4 harg4 arg5 harg5 arg6 harg6 arg7 harg7 arg8 harg8 arg9 harg9 v3 v7 v11 v15 v152 v176 v200 v224 v233 v235 X3 X4 G7 G8 G9 init trip1

end Cert.Attn

end
-- ==== Proof.Body.lean ====
/-
  What the kernel's body leaves in the output's block: per head, the updates in order and the last quotient.
-/
module

public import proofs.«01_k».proof.Proof.Loop
public import proofs.«01_k».proof.Proof.Gen.KernelIdeal.Frame
public import Idealize.ShloMosaic.Lib.Pointwise

@[expose] public section

noncomputable section

namespace Cert.Attn

open Idealize.ShloMosaic Idealize.ShloMosaic.TcCoe Cert.KernelIdeal Cert.KernelIdeal.Gen

variable {F : FTy → Type} [FloatOps F] [Named F]

theorem maxOver0_eq (st : FVec F S256x256 .f32) (h1 : S256x256.Reduces [0] S256) (h2 : FKind.Formats FTy.f32)
    (h3 : (4286578688#32 : BitVec 32) = 4286578688#32) :
    multiReduction .maximumf [0] S256 st 4286578688#32 h1 h2 h3 = maxOver0 st := rfl

theorem top_eq (st : FVec F S512x256 .f32) (h : S256.ShapeCasts S1x256) : shapeCast S1x256 (maxOver st) h = top st := rfl

theorem top0_eq (st : FVec F S256x256 .f32) (h : S256.ShapeCasts S1x256) : shapeCast S1x256 (maxOver0 st) h = top0 st := rfl

theorem queries_eq (x : FVec F S256x128 .f32) (h : FTy.bf16.bits < FTy.f32.bits) :
    truncf .bf16 (mulf x (broadcast S256x128 (Named.named κ "qscale" 0x3E0293EE#32))) h = queries x := rfl

theorem score_eq (kb : FVec F S512x128 .bf16) (q : FVec F S256x128 .bf16) :
    matmul dot_S512x128_S256x128_S512x256_1_1_0_0_n_n none kb q (constant S512x256 .f32 0x00000000#32) = score kb q := rfl

theorem score0_eq (kb : FVec F S256x128 .bf16) (q : FVec F S256x128 .bf16) :
    matmul dot_S256x128_S256x128_S256x256_1_1_0_0_n_n none kb q (constant S256x256 .f32 0x00000000#32) = score0 kb q := rfl

theorem weigh_eq (v w : FVec F S144x256 .bf16) (st : FVec F S512x256 .f32) (m : FVec F S1x256 .f32)
    (hb : S1x256.Broadcasts S512x256) (h : FTy.bf16.bits < FTy.f32.bits) (h0 : S512x256.Slices ![0, 0] S256x256)
    (h1 : S512x256.Slices ![256, 0] S256x256) :
    addf
      (matmul dot_S144x256_S256x256_S144x256_1_0_0_1_n_n none v
        (extractStridedSlice S256x256 ![0, 0] (truncf .bf16 (exp2 (subf st (broadcastTo S512x256 m hb))) h) h0)
        (constant S144x256 .f32 0x00000000#32))
      (matmul dot_S144x256_S256x256_S144x256_1_0_0_1_n_n none w
        (extractStridedSlice S256x256 ![256, 0] (truncf .bf16 (exp2 (subf st (broadcastTo S512x256 m hb))) h) h1)
        (constant S144x256 .f32 0x00000000#32))
      = weigh (v, w) st m := rfl

theorem upd_snd_eq (v : FVec F S144x256 .bf16 × FVec F S144x256 .bf16) (st : FVec F S512x256 .f32) (m : FVec F S1x256 .f32)
    (a : FVec F S144x256 .f32) (h : S1x256.Broadcasts S144x256) :
    addf (mulf (broadcastTo S144x256 (exp2 (subf m (maximumf m (top st)))) h) a) (weigh v st (maximumf m (top st)))
      = (upd v st (m, a)).2 := rfl

theorem upd_pair (v : FVec F S144x256 .bf16 × FVec F S144x256 .bf16) (st : FVec F S512x256 .f32) (m : FVec F S1x256 .f32)
    (a : FVec F S144x256 .f32) : (maximumf m (top st), (upd v st (m, a)).2) = upd v st (m, a) := rfl

theorem first_snd_eq (v : FVec F S144x256 .bf16 × FVec F S144x256 .bf16) (st : FVec F S512x256 .f32) :
    weigh v st (top st) = (first v st).2 := rfl

theorem first_pair (v : FVec F S144x256 .bf16 × FVec F S144x256 .bf16) (st : FVec F S512x256 .f32) :
    (top st, (first v st).2) = first v st := rfl

theorem last_eq (v : FVec F S144x256 .bf16) (st : FVec F S256x256 .f32) (m : FVec F S1x256 .f32) (a : FVec F S144x256 .f32)
    (h : S1x256.Broadcasts S144x256) (h' : S1x256.Broadcasts S256x256) (h'' : FTy.bf16.bits < FTy.f32.bits) :
    addf (mulf (broadcastTo S144x256 (exp2 (subf m (maximumf m (top0 st)))) h) a)
      (matmul dot_S144x256_S256x256_S144x256_1_0_0_1_n_n none v
        (truncf .bf16 (exp2 (subf st (broadcastTo S256x256 (maximumf m (top0 st)) h'))) h'')
        (constant S144x256 .f32 0x00000000#32))
      = last v st (m, a) := rfl

theorem finish_eq (a : FVec F S144x256 .f32) (h : S144x256.Slices ![0, 0] S128x256) (h' : S144x256.Slices ![128, 0] S1x256)
    (hb : S1x256.Broadcasts S128x256) (ht : S128x256.Transposes [1, 0] S256x128) :
    transpose S256x128 [1, 0]
      (divf (extractStridedSlice S128x256 ![0, 0] a h) (broadcastTo S128x256 (extractStridedSlice S1x256 ![128, 0] a h') hb)) ht
      = finish a := rfl

theorem scoresAt_hit (arg7 : Memref sig .tc .vmem S4x512x256 .f32) (f : BufTy.Contents (Elt F) arg7.view.ty) (off : Fin 3 → Nat)
    (h : ∀ a, off a + S1x512x256.size a ≤ S4x512x256.size a) (w : (Rect.unit (s := S4x512x256) off S1x512x256.size h).shape.Idx → Elt F .f32)
    (L : List (View.Piece (Elt F) S4x512x256 .f32)) :
    scoresAt arg7 (arg7.view.writes (Elt F) f (⟨Rect.unit (s := S4x512x256) off S1x512x256.size h, w⟩ :: L)) off h = shapeCast (s := S1x512x256) S512x256 w shapeCasts_S1x512x256_S512x256 := by
  unfold scoresAt
  rw [readAt_hit]

theorem scoresAt_skip (arg7 : Memref sig .tc .vmem S4x512x256 .f32) (f : BufTy.Contents (Elt F) arg7.view.ty) (off : Fin 3 → Nat)
    (h : ∀ a, off a + S1x512x256.size a ≤ S4x512x256.size a) (r : Rect S4x512x256) (w : r.shape.Idx → Elt F .f32)
    (L : List (View.Piece (Elt F) S4x512x256 .f32))
    (hd : LoadRect.disj r (Rect.unit (s := S4x512x256) off S1x512x256.size h).toLoadRect = true) :
    scoresAt arg7 (arg7.view.writes (Elt F) f (⟨r, w⟩ :: L)) off h = scoresAt arg7 (arg7.view.writes (Elt F) f L) off h := by
  unfold scoresAt
  rw [readAt_skip _ _ _ _ _ _ hd]

theorem scoresAt_hit_lit (arg7 : Memref sig .tc .vmem S4x512x256 .f32) (f : BufTy.Contents (Elt F) arg7.view.ty) (off : Fin 3 → Nat)
    (h : ∀ a, off a + S1x512x256.size a ≤ S4x512x256.size a) (w : (Rect.unit (s := S4x512x256) off ![1, 512, 256] h).shape.Idx → Elt F .f32)
    (L : List (View.Piece (Elt F) S4x512x256 .f32)) :
    scoresAt arg7 (arg7.view.writes (Elt F) f (⟨Rect.unit (s := S4x512x256) off ![1, 512, 256] h, w⟩ :: L)) off h = shapeCast (s := S1x512x256) S512x256 w shapeCasts_S1x512x256_S512x256 :=
  scoresAt_hit arg7 f off h w L

theorem scoresAt_skip_lit (arg7 : Memref sig .tc .vmem S4x512x256 .f32) (f : BufTy.Contents (Elt F) arg7.view.ty) (off : Fin 3 → Nat)
    (h : ∀ a, off a + S1x512x256.size a ≤ S4x512x256.size a) (r : Rect S4x512x256) (w : r.shape.Idx → Elt F .f32)
    (L : List (View.Piece (Elt F) S4x512x256 .f32))
    (hd : LoadRect.disj r (Rect.unit (s := S4x512x256) off ![1, 512, 256] h).toLoadRect = true) :
    scoresAt arg7 (arg7.view.writes (Elt F) f (⟨r, w⟩ :: L)) off h = scoresAt arg7 (arg7.view.writes (Elt F) f L) off h :=
  scoresAt_skip arg7 f off h r w L hd

theorem accAt_hit (arg9 : Memref sig .tc .vmem S4x144x256 .f32) (f : BufTy.Contents (Elt F) arg9.view.ty) (off : Fin 3 → Nat)
    (h : ∀ a, off a + S1x144x256.size a ≤ S4x144x256.size a) (w : (Rect.unit (s := S4x144x256) off S1x144x256.size h).shape.Idx → Elt F .f32)
    (L : List (View.Piece (Elt F) S4x144x256 .f32)) :
    accAt arg9 (arg9.view.writes (Elt F) f (⟨Rect.unit (s := S4x144x256) off S1x144x256.size h, w⟩ :: L)) off h = shapeCast (s := S1x144x256) S144x256 w shapeCasts_S1x144x256_S144x256 := by
  unfold accAt
  rw [readAt_hit]

theorem accAt_skip (arg9 : Memref sig .tc .vmem S4x144x256 .f32) (f : BufTy.Contents (Elt F) arg9.view.ty) (off : Fin 3 → Nat)
    (h : ∀ a, off a + S1x144x256.size a ≤ S4x144x256.size a) (r : Rect S4x144x256) (w : r.shape.Idx → Elt F .f32)
    (L : List (View.Piece (Elt F) S4x144x256 .f32))
    (hd : LoadRect.disj r (Rect.unit (s := S4x144x256) off S1x144x256.size h).toLoadRect = true) :
    accAt arg9 (arg9.view.writes (Elt F) f (⟨r, w⟩ :: L)) off h = accAt arg9 (arg9.view.writes (Elt F) f L) off h := by
  unfold accAt
  rw [readAt_skip _ _ _ _ _ _ hd]

theorem accAt_hit_lit (arg9 : Memref sig .tc .vmem S4x144x256 .f32) (f : BufTy.Contents (Elt F) arg9.view.ty) (off : Fin 3 → Nat)
    (h : ∀ a, off a + S1x144x256.size a ≤ S4x144x256.size a) (w : (Rect.unit (s := S4x144x256) off ![1, 144, 256] h).shape.Idx → Elt F .f32)
    (L : List (View.Piece (Elt F) S4x144x256 .f32)) :
    accAt arg9 (arg9.view.writes (Elt F) f (⟨Rect.unit (s := S4x144x256) off ![1, 144, 256] h, w⟩ :: L)) off h = shapeCast (s := S1x144x256) S144x256 w shapeCasts_S1x144x256_S144x256 :=
  accAt_hit arg9 f off h w L

theorem accAt_skip_lit (arg9 : Memref sig .tc .vmem S4x144x256 .f32) (f : BufTy.Contents (Elt F) arg9.view.ty) (off : Fin 3 → Nat)
    (h : ∀ a, off a + S1x144x256.size a ≤ S4x144x256.size a) (r : Rect S4x144x256) (w : r.shape.Idx → Elt F .f32)
    (L : List (View.Piece (Elt F) S4x144x256 .f32))
    (hd : LoadRect.disj r (Rect.unit (s := S4x144x256) off ![1, 144, 256] h).toLoadRect = true) :
    accAt arg9 (arg9.view.writes (Elt F) f (⟨r, w⟩ :: L)) off h = accAt arg9 (arg9.view.writes (Elt F) f L) off h :=
  accAt_skip arg9 f off h r w L hd

section

variable (𝒱 : Variants) (c : Dev nD) (bd : Option 𝒱.V) (i : grid0.Coords) (arg2 : Memref sig .tc .vmem S256x512 .f32) (harg2 : arg2.IsWhole)
  (arg3 : Memref sig .tc .vmem S8448x128 .bf16) (harg3 : arg3.IsWhole) (arg4 : Memref sig .tc .vmem S33x1x144x256 .bf16) (harg4 : arg4.IsWhole)
  (arg5 : Memref sig .tc .vmem S256x512 .f32) (harg5 : arg5.IsWhole) (arg6 : Memref sig .tc .vmem S4x256x256 .f32) (harg6 : arg6.IsWhole)
  (arg7 : Memref sig .tc .vmem S4x512x256 .f32) (harg7 : arg7.IsWhole) (arg8 : Memref sig .tc .vmem S4x512x256 .f32) (harg8 : arg8.IsWhole)
  (arg9 : Memref sig .tc .vmem S4x144x256 .f32) (harg9 : arg9.IsWhole)
  (v3 v7 v11 v15 : FVec F S256x128 .bf16) (v152 v176 v200 v224 : FVec F S1x256 .f32) (v233 : FVec F S144x256 .f32) (v235 : FVec F S1x256 .f32)
  (X3 : BufTy.Contents (Elt F) arg3.view.ty) (X4 : BufTy.Contents (Elt F) arg4.view.ty)

  (L7 : List (View.Piece (Elt F) S4x512x256 .f32)) (L9 : List (View.Piece (Elt F) S4x144x256 .f32))
  (G7 : BufTy.Contents (Elt F) arg7.view.ty) (G8 : BufTy.Contents (Elt F) arg8.view.ty) (G9 : BufTy.Contents (Elt F) arg9.view.ty)
  (init : FVec F S1x256 .f32 × FVec F S1x256 .f32 × FVec F S1x256 .f32 × FVec F S1x256 .f32)

/-- The scores the loop leaves, as the body loads them. -/
theorem cov_scores :
    shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![0, 0, 0] S1x512x256.size inb_S4x512x256_S1x512x256_0_0_0).toLoadRect) shapeCasts_S1x512x256_S512x256
      = score (keysAt arg3 X3 _ (k0_off1_inb trip1 2 1)) v3
    ∧ shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![1, 0, 0] S1x512x256.size inb_S4x512x256_S1x512x256_1_0_0).toLoadRect) shapeCasts_S1x512x256_S512x256
      = score (keysAt arg3 X3 _ (k0_off1_inb trip1 2 1)) v7
    ∧ shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![2, 0, 0] S1x512x256.size inb_S4x512x256_S1x512x256_2_0_0).toLoadRect) shapeCasts_S1x512x256_S512x256
      = score (keysAt arg3 X3 _ (k0_off1_inb trip1 2 1)) v11
    ∧ shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![3, 0, 0] S1x512x256.size inb_S4x512x256_S1x512x256_3_0_0).toLoadRect) shapeCasts_S1x512x256_S512x256
      = score (keysAt arg3 X3 _ (k0_off1_inb trip1 2 1)) v15 := by
  have h := loop_scores (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init
  simp only [← View.writes_append] at h
  exact h

/-- The accumulators the loop leaves, as the body loads them. -/
theorem cov_acc :
    shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![0, 0, 0] S1x144x256.size inb_S4x144x256_S1x144x256_0_0_0).toLoadRect) shapeCasts_S1x144x256_S144x256
      = (pass arg3 arg4 X3 X4 v3 (scoresAt arg7 G7 _ inb_S4x512x256_S1x512x256_0_0_0) (init.1, accAt arg9 (arg9.view.writes (Elt F) arg9.view.junk L9) _ inb_S4x144x256_S1x144x256_0_0_0)).2
    ∧ shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![1, 0, 0] S1x144x256.size inb_S4x144x256_S1x144x256_1_0_0).toLoadRect) shapeCasts_S1x144x256_S144x256
      = (pass arg3 arg4 X3 X4 v7 (scoresAt arg7 G7 _ inb_S4x512x256_S1x512x256_1_0_0) (init.2.1, accAt arg9 (arg9.view.writes (Elt F) arg9.view.junk L9) _ inb_S4x144x256_S1x144x256_1_0_0)).2
    ∧ shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![2, 0, 0] S1x144x256.size inb_S4x144x256_S1x144x256_2_0_0).toLoadRect) shapeCasts_S1x144x256_S144x256
      = (pass arg3 arg4 X3 X4 v11 (scoresAt arg7 G7 _ inb_S4x512x256_S1x512x256_2_0_0) (init.2.2.1, accAt arg9 (arg9.view.writes (Elt F) arg9.view.junk L9) _ inb_S4x144x256_S1x144x256_2_0_0)).2
    ∧ shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![3, 0, 0] S1x144x256.size inb_S4x144x256_S1x144x256_3_0_0).toLoadRect) shapeCasts_S1x144x256_S144x256
      = (pass arg3 arg4 X3 X4 v15 (scoresAt arg7 G7 _ inb_S4x512x256_S1x512x256_3_0_0) (init.2.2.2, accAt arg9 (arg9.view.writes (Elt F) arg9.view.junk L9) _ inb_S4x144x256_S1x144x256_3_0_0)).2 := by
  have h := loop_acc (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init
  simp only [← View.writes_append] at h
  exact h

theorem cov_scores0 :
    shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![0, 0, 0] S1x512x256.size inb_S4x512x256_S1x512x256_0_0_0).toLoadRect) shapeCasts_S1x512x256_S512x256
      = score (keysAt arg3 X3 _ (k0_off1_inb trip1 2 1)) v3 :=
  (cov_scores 𝒱 c bd i arg2 harg2 arg3 harg3 arg4 harg4 arg5 harg5 arg6 harg6 arg7 harg7 arg8 harg8 arg9 harg9 v3 v7 v11 v15 v152 v176 v200 v224 v233 v235 X3 X4 L7 G8 G9 init).1

theorem cov_acc0 :
    shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![0, 0, 0] S1x144x256.size inb_S4x144x256_S1x144x256_0_0_0).toLoadRect) shapeCasts_S1x144x256_S144x256
      = (pass arg3 arg4 X3 X4 v3 (scoresAt arg7 G7 _ inb_S4x512x256_S1x512x256_0_0_0) (init.1, accAt arg9 (arg9.view.writes (Elt F) arg9.view.junk L9) _ inb_S4x144x256_S1x144x256_0_0_0)).2 :=
  (cov_acc 𝒱 c bd i arg2 harg2 arg3 harg3 arg4 harg4 arg5 harg5 arg6 harg6 arg7 harg7 arg8 harg8 arg9 harg9 v3 v7 v11 v15 v152 v176 v200 v224 v233 v235 X3 X4 L9 G7 G8 init).1

theorem cov_scores1 :
    shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![1, 0, 0] S1x512x256.size inb_S4x512x256_S1x512x256_1_0_0).toLoadRect) shapeCasts_S1x512x256_S512x256
      = score (keysAt arg3 X3 _ (k0_off1_inb trip1 2 1)) v7 :=
  (cov_scores 𝒱 c bd i arg2 harg2 arg3 harg3 arg4 harg4 arg5 harg5 arg6 harg6 arg7 harg7 arg8 harg8 arg9 harg9 v3 v7 v11 v15 v152 v176 v200 v224 v233 v235 X3 X4 L7 G8 G9 init).2.1

theorem cov_acc1 :
    shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![1, 0, 0] S1x144x256.size inb_S4x144x256_S1x144x256_1_0_0).toLoadRect) shapeCasts_S1x144x256_S144x256
      = (pass arg3 arg4 X3 X4 v7 (scoresAt arg7 G7 _ inb_S4x512x256_S1x512x256_1_0_0) (init.2.1, accAt arg9 (arg9.view.writes (Elt F) arg9.view.junk L9) _ inb_S4x144x256_S1x144x256_1_0_0)).2 :=
  (cov_acc 𝒱 c bd i arg2 harg2 arg3 harg3 arg4 harg4 arg5 harg5 arg6 harg6 arg7 harg7 arg8 harg8 arg9 harg9 v3 v7 v11 v15 v152 v176 v200 v224 v233 v235 X3 X4 L9 G7 G8 init).2.1

theorem cov_scores2 :
    shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![2, 0, 0] S1x512x256.size inb_S4x512x256_S1x512x256_2_0_0).toLoadRect) shapeCasts_S1x512x256_S512x256
      = score (keysAt arg3 X3 _ (k0_off1_inb trip1 2 1)) v11 :=
  (cov_scores 𝒱 c bd i arg2 harg2 arg3 harg3 arg4 harg4 arg5 harg5 arg6 harg6 arg7 harg7 arg8 harg8 arg9 harg9 v3 v7 v11 v15 v152 v176 v200 v224 v233 v235 X3 X4 L7 G8 G9 init).2.2.1

theorem cov_acc2 :
    shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![2, 0, 0] S1x144x256.size inb_S4x144x256_S1x144x256_2_0_0).toLoadRect) shapeCasts_S1x144x256_S144x256
      = (pass arg3 arg4 X3 X4 v11 (scoresAt arg7 G7 _ inb_S4x512x256_S1x512x256_2_0_0) (init.2.2.1, accAt arg9 (arg9.view.writes (Elt F) arg9.view.junk L9) _ inb_S4x144x256_S1x144x256_2_0_0)).2 :=
  (cov_acc 𝒱 c bd i arg2 harg2 arg3 harg3 arg4 harg4 arg5 harg5 arg6 harg6 arg7 harg7 arg8 harg8 arg9 harg9 v3 v7 v11 v15 v152 v176 v200 v224 v233 v235 X3 X4 L9 G7 G8 init).2.2.1

theorem cov_scores3 :
    shapeCast (s := S1x512x256) S512x256 (arg7.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 (arg7.view.writes (Elt F) arg7.view.junk L7) G8 G9 init (Scf.trips k0_t1_loop.lb k0_t1_loop.ub k0_t1_loop.st)).2.1 ++ L7) (Rect.unit (s := S4x512x256) ![3, 0, 0] S1x512x256.size inb_S4x512x256_S1x512x256_3_0_0).toLoadRect) shapeCasts_S1x512x256_S512x256
      = score (keysAt arg3 X3 _ (k0_off1_inb trip1 2 1)) v15 :=
  (cov_scores 𝒱 c bd i arg2 harg2 arg3 harg3 arg4 harg4 arg5 harg5 arg6 harg6 arg7 harg7 arg8 harg8 arg9 harg9 v3 v7 v11 v15 v152 v176 v200 v224 v233 v235 X3 X4 L7 G8 G9 init).2.2.2

theorem cov_acc3 :
    shapeCast (s := S1x144x256) S144x256 (arg9.view.readCov ((st_k0_t1 (F := F) 𝒱 c bd i arg2 harg2 arg3 harg3 arg4 harg4 arg5 harg5 arg6 harg6 arg7 harg7 arg8 harg8 arg9 harg9 v3 v7 v11 v15 v152 v176 v200 v224 v233 v235 X3 X4 G7 G8 (arg9.view.writes (Elt F) arg9.view.junk L9) init (Scf.trips k0_t1_loop.lb k0_t1_loop.ub k0_t1_loop.st)).2.2.2 ++ L9) (Rect.unit (s := S4x144x256) ![3, 0, 0] S1x144x256.size inb_S4x144x256_S1x144x256_3_0_0).toLoadRect) shapeCasts_S1x144x256_S144x256
      = (pass arg3 arg4 X3 X4 v15 (scoresAt arg7 G7 _ inb_S4x512x256_S1x512x256_3_0_0) (init.2.2.2, accAt arg9 (arg9.view.writes (Elt F) arg9.view.junk L9) _ inb_S4x144x256_S1x144x256_3_0_0)).2 :=
  (cov_acc 𝒱 c bd i arg2 harg2 arg3 harg3 arg4 harg4 arg5 harg5 arg6 harg6 arg7 harg7 arg8 harg8 arg9 harg9 v3 v7 v11 v15 v152 v176 v200 v224 v233 v235 X3 X4 L9 G7 G8 init).2.2.2

end

variable (c : Dev nD) (i : grid0.Coords) (arg2 : Memref sig .tc .vmem S256x512 .f32) (harg2 : arg2.IsWhole)
  (arg3 : Memref sig .tc .vmem S8448x128 .bf16) (harg3 : arg3.IsWhole) (arg4 : Memref sig .tc .vmem S33x1x144x256 .bf16) (harg4 : arg4.IsWhole)
  (arg5 : Memref sig .tc .vmem S256x512 .f32) (harg5 : arg5.IsWhole) (arg6 : Memref sig .tc .vmem S4x256x256 .f32) (harg6 : arg6.IsWhole)
  (arg7 : Memref sig .tc .vmem S4x512x256 .f32) (harg7 : arg7.IsWhole) (arg8 : Memref sig .tc .vmem S4x512x256 .f32) (harg8 : arg8.IsWhole)
  (arg9 : Memref sig .tc .vmem S4x144x256 .f32) (harg9 : arg9.IsWhole)
  (x0 : Vec F S256x512 .f32) (x1 : Vec F S8448x128 .bf16) (x2 : Vec F S33x1x144x256 .bf16)

/-- One head's accumulator when all keys are in: `q` the head's scaled queries, `X3` the keys, `X4` the values. -/
def headRun (arg3 : Memref sig .tc .vmem S8448x128 .bf16) (arg4 : Memref sig .tc .vmem S33x1x144x256 .bf16)
    (X3 : BufTy.Contents (Elt F) arg3.view.ty) (X4 : BufTy.Contents (Elt F) arg4.view.ty) (q : FVec F S256x128 .bf16) : FVec F S144x256 .f32 :=
  last (valsAt arg4 X4 _ inb_S33x1x144x256_S1x1x144x256_0_0_0_0)
    (score0 (shapeCast S256x128 (View.readAt (Elt F) arg3.view (Rect.unit (s := S8448x128) _ S256x128.size inb_S8448x128_S256x128_0_0).toLoadRect X3)
      shapeCasts_S256x128_S256x128) q)
    (upd (valsAt arg4 X4 _ inb_S33x1x144x256_S1x1x144x256_31_0_0_0, valsAt arg4 X4 _ inb_S33x1x144x256_S1x1x144x256_32_0_0_0)
      (score (keysAt arg3 X3 _ inb_S8448x128_S512x128_7936_0) q)
      (upd (valsAt arg4 X4 _ inb_S33x1x144x256_S1x1x144x256_29_0_0_0, valsAt arg4 X4 _ inb_S33x1x144x256_S1x1x144x256_30_0_0_0)
        (score (keysAt arg3 X3 _ (k0_off1_inb trip1 2 1)) q)
        (pass arg3 arg4 X3 X4 q (score (keysAt arg3 X3 _ inb_S8448x128_S512x128_1280_0) q)
          (upd (valsAt arg4 X4 _ inb_S33x1x144x256_S1x1x144x256_3_0_0_0, valsAt arg4 X4 _ inb_S33x1x144x256_S1x1x144x256_4_0_0_0)
            (score (keysAt arg3 X3 _ inb_S8448x128_S512x128_768_0) q)
            (first (valsAt arg4 X4 _ inb_S33x1x144x256_S1x1x144x256_1_0_0_0, valsAt arg4 X4 _ inb_S33x1x144x256_S1x1x144x256_2_0_0_0)
              (score (keysAt arg3 X3 _ inb_S8448x128_S512x128_256_0) q))))))

set_option maxRecDepth 16384 in
theorem head0 :
    k0_pay252 (kernelRun0_A.sl.v566 (F := F) c i arg2 harg2 arg3 harg3 arg4 harg4 arg5 harg5 arg6 harg6 arg7 harg7 arg8 harg8 arg9 harg9 x0 x1 x2)
      = finish (headRun arg3 arg4 (harg3.unread x1) (harg4.unread x2)
          (queries (View.readAt (Elt F) arg2.view (Rect.unit (s := S256x512) _ S256x128.size inb_S256x512_S256x128_0_0).toLoadRect (harg2.unread x0)))) := by
  sl_unfold_run_names
  unfold_payloads
  simp (disch := decide) only [↓maxOver_eq, ↓maxOver0_eq, ↓View.readCov_cons_toLoadRect, ↓View.readCov_skip, ↓scoresAt_hit, ↓scoresAt_skip, ↓accAt_hit, ↓accAt_skip,
    ↓loop_top, shapeCast_shapeCast]
  rw [cov_acc0, cov_scores0]
  simp (disch := decide) only [↓scoresAt_hit_lit, ↓scoresAt_skip_lit, ↓accAt_hit_lit, ↓accAt_skip_lit, shapeCast_shapeCast]
  simp only [top_eq, top0_eq, queries_eq, score_eq, score0_eq, weigh_eq, headRun, finish, keysAt, valsAt, upd_snd_eq, first_snd_eq, last_eq]
  simp only [↓upd_pair, ↓first_pair, Prod.mk.eta]

set_option maxRecDepth 16384 in
theorem head1 :
    k0_pay253 (kernelRun0_A.sl.v574 (F := F) c i arg2 harg2 arg3 harg3 arg4 harg4 arg5 harg5 arg6 harg6 arg7 harg7 arg8 harg8 arg9 harg9 x0 x1 x2)
      = finish (headRun arg3 arg4 (harg3.unread x1) (harg4.unread x2)
          (queries (View.readAt (Elt F) arg2.view (Rect.unit (s := S256x512) _ S256x128.size inb_S256x512_S256x128_0_128).toLoadRect (harg2.unread x0)))) := by
  sl_unfold_run_names
  unfold_payloads
  simp (disch := decide) only [↓maxOver_eq, ↓maxOver0_eq, ↓View.readCov_cons_toLoadRect, ↓View.readCov_skip, ↓scoresAt_hit, ↓scoresAt_skip, ↓accAt_hit, ↓accAt_skip,
    ↓loop_top, shapeCast_shapeCast]
  rw [cov_acc1, cov_scores1]
  simp (disch := decide) only [↓scoresAt_hit_lit, ↓scoresAt_skip_lit, ↓accAt_hit_lit, ↓accAt_skip_lit, shapeCast_shapeCast]
  simp only [top_eq, top0_eq, queries_eq, score_eq, score0_eq, weigh_eq, headRun, finish, keysAt, valsAt, upd_snd_eq, first_snd_eq, last_eq]
  simp only [↓upd_pair, ↓first_pair, Prod.mk.eta]

set_option maxRecDepth 16384 in
theorem head2 :
    k0_pay254 (kernelRun0_A.sl.v582 (F := F) c i arg2 harg2 arg3 harg3 arg4 harg4 arg5 harg5 arg6 harg6 arg7 harg7 arg8 harg8 arg9 harg9 x0 x1 x2)
      = finish (headRun arg3 arg4 (harg3.unread x1) (harg4.unread x2)
          (queries (View.readAt (Elt F) arg2.view (Rect.unit (s := S256x512) _ S256x128.size inb_S256x512_S256x128_0_256).toLoadRect (harg2.unread x0)))) := by
  sl_unfold_run_names
  unfold_payloads
  simp (disch := decide) only [↓maxOver_eq, ↓maxOver0_eq, ↓View.readCov_cons_toLoadRect, ↓View.readCov_skip, ↓scoresAt_hit, ↓scoresAt_skip, ↓accAt_hit, ↓accAt_skip,
    ↓loop_top, shapeCast_shapeCast]
  rw [cov_acc2, cov_scores2]
  simp (disch := decide) only [↓scoresAt_hit_lit, ↓scoresAt_skip_lit, ↓accAt_hit_lit, ↓accAt_skip_lit, shapeCast_shapeCast]
  simp only [top_eq, top0_eq, queries_eq, score_eq, score0_eq, weigh_eq, headRun, finish, keysAt, valsAt, upd_snd_eq, first_snd_eq, last_eq]
  simp only [↓upd_pair, ↓first_pair, Prod.mk.eta]

set_option maxRecDepth 16384 in
theorem head3 :
    k0_pay1 (kernelRun0_A.sl.v (F := F) c i arg2 harg2 arg3 harg3 arg4 harg4 arg5 harg5 arg6 harg6 arg7 harg7 arg8 harg8 arg9 harg9 x0 x1 x2)
      = finish (headRun arg3 arg4 (harg3.unread x1) (harg4.unread x2)
          (queries (View.readAt (Elt F) arg2.view (Rect.unit (s := S256x512) _ S256x128.size inb_S256x512_S256x128_0_384).toLoadRect (harg2.unread x0)))) := by
  sl_unfold_run_names
  unfold_payloads
  simp (disch := decide) only [↓maxOver_eq, ↓maxOver0_eq, ↓View.readCov_cons_toLoadRect, ↓View.readCov_skip, ↓scoresAt_hit, ↓scoresAt_skip, ↓accAt_hit, ↓accAt_skip,
    ↓loop_top, shapeCast_shapeCast]
  rw [cov_acc3, cov_scores3]
  simp (disch := decide) only [↓scoresAt_hit_lit, ↓scoresAt_skip_lit, ↓accAt_hit_lit, ↓accAt_skip_lit, shapeCast_shapeCast]
  simp only [top_eq, top0_eq, queries_eq, score_eq, score0_eq, weigh_eq, headRun, finish, keysAt, valsAt, upd_snd_eq, first_snd_eq, last_eq]
  simp only [↓upd_pair, ↓first_pair, Prod.mk.eta]

end Cert.Attn

end
-- ==== Proof.Online.lean ====
/-
  Weighted sums over a set of keys, each key `k` with weight `2 ^ (s k - μ)`: changing the shift `μ` rescales the sum, sums
  over disjoint sets of keys add, and the quotient of two such sums does not depend on the shift.
-/
module

public import Idealize.ShloMosaic.PureOps.Ideal
public import Mathlib.Algebra.BigOperators.Intervals
public import Mathlib.Analysis.SpecialFunctions.Pow.Real
public import Mathlib.Data.EReal.Operations

@[expose] public section

noncomputable section

namespace Cert.Attn

open Idealize.ShloMosaic Finset

/-- A non-negative real factor goes into a finite sum. -/
theorem coe_mul_sum {ι : Type*} (A : Finset ι) (c : ℝ) (hc : 0 ≤ c) (f : ι → EReal) :
    (c : EReal) * ∑ k ∈ A, f k = ∑ k ∈ A, (c : EReal) * f k := by
  classical
  induction A using Finset.induction_on with
  | empty => simp
  | insert a A ha ih =>
    rw [sum_insert ha, sum_insert ha, EReal.left_distrib_of_nonneg_of_ne_top (EReal.coe_nonneg.mpr hc) (EReal.coe_ne_top c), ih]

theorem coe_sum {ι : Type*} (A : Finset ι) (f : ι → ℝ) : ((∑ k ∈ A, f k : ℝ) : EReal) = ∑ k ∈ A, (f k : EReal) := by
  classical
  induction A using Finset.induction_on with
  | empty => simp
  | insert a A ha ih => rw [sum_insert ha, sum_insert ha, EReal.coe_add, ih]

/-- The largest of finitely many reals, at least one of them, is a real. -/
theorem fold_max_real {ι : Type*} (A : Finset ι) (hA : A.Nonempty) (f : ι → ℝ) :
    ∃ x : ℝ, A.fold max (⊥ : EReal) (fun k => (f k : EReal)) = x := by
  induction hA using Finset.Nonempty.cons_induction with
  | singleton a => exact ⟨f a, by simp⟩
  | cons a A ha _ ih =>
    obtain ⟨x, hx⟩ := ih
    exact ⟨max (f a) x, by rw [fold_cons, hx]; norm_cast⟩

/-- The values `v` of the keys in `A`, key `k` weighted by `2 ^ (s k - μ)`. -/
def wsum (s : ℕ → ℝ) (v : ℕ → EReal) (A : Finset ℕ) (μ : ℝ) : EReal :=
  ∑ k ∈ A, ((Real.rpow 2 (s k - μ) : ℝ) : EReal) * v k

theorem two_rpow_pos (x : ℝ) : 0 < Real.rpow 2 x := Real.rpow_pos_of_pos two_pos x

theorem two_rpow_mul (x y : ℝ) : Real.rpow 2 x * Real.rpow 2 y = Real.rpow 2 (x + y) := (Real.rpow_add two_pos x y).symm

/-- Another shift. -/
theorem wsum_shift (s : ℕ → ℝ) (v : ℕ → EReal) (A : Finset ℕ) (μ ν : ℝ) :
    ((Real.rpow 2 (μ - ν) : ℝ) : EReal) * wsum s v A μ = wsum s v A ν := by
  unfold wsum
  rw [coe_mul_sum A _ (two_rpow_pos _).le]
  refine sum_congr rfl fun k _ => ?_
  rw [← mul_assoc, ← EReal.coe_mul, two_rpow_mul, show μ - ν + (s k - μ) = s k - ν by ring]

theorem wsum_union (s : ℕ → ℝ) (v : ℕ → EReal) {A B : Finset ℕ} (h : Disjoint A B) (μ : ℝ) :
    wsum s v (A ∪ B) μ = wsum s v A μ + wsum s v B μ := sum_union h

/-- A block of consecutive keys. -/
theorem sum_block {M : Type*} [AddCommMonoid M] (f : ℕ → M) (b n : ℕ) :
    ∑ k : Fin n, f (b + k.val) = ∑ k ∈ Ico b (b + n), f k := by
  rw [sum_Ico_eq_sum_range, Nat.add_sub_cancel_left, Fin.sum_univ_eq_sum_range (fun k => f (b + k))]

theorem wsum_block (s : ℕ → ℝ) (v : ℕ → EReal) (b n : ℕ) (μ : ℝ) (f : Fin n → EReal)
    (h : ∀ k : Fin n, f k = v (b + k.val) * ((Real.rpow 2 (s (b + k.val) - μ) : ℝ) : EReal)) :
    ∑ k : Fin n, f k = wsum s v (Ico b (b + n)) μ := by
  unfold wsum
  rw [← sum_block (fun k => ((Real.rpow 2 (s k - μ) : ℝ) : EReal) * v k)]
  exact sum_congr rfl fun k _ => (h k).trans (mul_comm _ _)

/-- The total weight: the value one for every key. -/
theorem wsum_one (s : ℕ → ℝ) (A : Finset ℕ) (μ : ℝ) :
    wsum s (fun _ => 1) A μ = ((∑ k ∈ A, Real.rpow 2 (s k - μ) : ℝ) : EReal) := by
  unfold wsum
  rw [coe_sum]
  exact sum_congr rfl fun k _ => mul_one _

theorem weight_pos (s : ℕ → ℝ) {A : Finset ℕ} (hA : A.Nonempty) (μ : ℝ) : 0 < ∑ k ∈ A, Real.rpow 2 (s k - μ) :=
  sum_pos (fun k _ => two_rpow_pos _) hA

/-- The weighted mean: at any shift it is the sum of the values, each by its share of the total weight at any other. -/
theorem div_wsum (s : ℕ → ℝ) (v : ℕ → EReal) {A : Finset ℕ} (hA : A.Nonempty) (μ ν : ℝ) :
    Ideal.div (wsum s v A μ) (wsum s (fun _ => 1) A μ)
      = ∑ k ∈ A, v k * ((Real.rpow 2 (s k - ν) / (∑ j ∈ A, Real.rpow 2 (s j - ν)) : ℝ) : EReal) := by
  have hμ := weight_pos s hA μ
  have hν := weight_pos s hA ν
  have hsum : ∑ k ∈ A, Real.rpow 2 (s k - μ) = Real.rpow 2 (ν - μ) * ∑ k ∈ A, Real.rpow 2 (s k - ν) := by
    rw [mul_sum]
    refine sum_congr rfl fun k _ => ?_
    rw [two_rpow_mul]
    congr 1
    ring
  rw [wsum_one, Ideal.div_coe hμ.ne', mul_comm, wsum, coe_mul_sum A _ (one_div_nonneg.mpr hμ.le)]
  refine sum_congr rfl fun k _ => ?_
  rw [← mul_assoc, ← EReal.coe_mul, mul_comm]
  congr 2
  have hk : Real.rpow 2 (s k - μ) = Real.rpow 2 (ν - μ) * Real.rpow 2 (s k - ν) := by
    rw [two_rpow_mul]
    congr 1
    ring
  rw [hsum, hk]
  have := (two_rpow_pos (ν - μ)).ne'
  have := hν.ne'
  field_simp

/-- A power of two as an exponential. -/
theorem two_rpow_eq_exp (x M : ℝ) : Real.rpow 2 (x * (Real.log 2)⁻¹ - M * (Real.log 2)⁻¹) = Real.exp (x - M) := by
  have h : Real.log 2 ≠ 0 := (Real.log_pos one_lt_two).ne'
  rw [show Real.rpow 2 (x * (Real.log 2)⁻¹ - M * (Real.log 2)⁻¹) = (2 : ℝ) ^ (x * (Real.log 2)⁻¹ - M * (Real.log 2)⁻¹) from rfl,
    Real.rpow_def_of_pos two_pos]
  congr 1
  field_simp

end Cert.Attn

end
-- ==== Proof.Steps.lean ====
/-
  One head's updates at the extended reals: after each, the accumulator is the weighted sum of the values of the keys seen so
  far, at a real shift (the running maximum).
-/
module

public import proofs.«01_k».proof.Proof.Model
public import proofs.«01_k».proof.Proof.Online
public import Idealize.ShloMosaic.Lib.Pointwise

@[expose] public section

noncomputable section

namespace Cert.Attn

open Idealize.ShloMosaic Idealize.ShloMosaic.TcCoe Cert.KernelIdeal Cert.KernelIdeal.Gen Finset

theorem first_fst {F : FTy → Type} [FloatOps F] (v : FVec F S144x256 .bf16 × FVec F S144x256 .bf16) (st : FVec F S512x256 .f32) :
    (first v st).1 = top st := by
  simp only [first]

theorem first_snd {F : FTy → Type} [FloatOps F] (v : FVec F S144x256 .bf16 × FVec F S144x256 .bf16) (st : FVec F S512x256 .f32) :
    (first v st).2 = weigh v st (top st) := by
  simp only [first]

/-- The pair (maximum, accumulator) in column `c` when the keys in `A` are in: scores `s`, values `V`. -/
def Holds (s : ℕ → ℝ) (V : Fin 144 → ℕ → EReal) (c : Fin 256) (A : Finset ℕ) (p : Run Ideal) : Prop :=
  ∃ μ : ℝ, p.1 (ix2 0 c) = (μ : EReal) ∧ ∀ r : Fin 144, p.2 (ix2 r c) = wsum s (V r) A μ

/-- The block `st` holds the scores of the 512 keys from `b`. -/
def Scores (s : ℕ → ℝ) (c : Fin 256) (b : ℕ) (st : FVec Ideal S512x256 .f32) : Prop :=
  ∀ k : Fin 512, st (ix2 k c) = (s (b + k.val) : EReal)

/-- The tile `v` holds the values of the 256 keys from `b`. -/
def Vals (V : Fin 144 → ℕ → EReal) (b : ℕ) (v : FVec Ideal S144x256 .bf16) : Prop :=
  ∀ (r : Fin 144) (k : Fin 256), v (ix2 r k) = V r (b + k.val)

theorem lowest : Ideal.ofBits .f32 0xFF800000#32 = ⊥ := by simp [Ideal.ofBits, Ideal.ieee]

theorem max_coe (a b : ℝ) : max (a : EReal) (b : EReal) = ((max a b : ℝ) : EReal) :=
  (EReal.coe_strictMono.monotone.map_max).symm

variable {s : ℕ → ℝ} {V : Fin 144 → ℕ → EReal} {c : Fin 256}

theorem top_real {b : ℕ} {st : FVec Ideal S512x256 .f32} (h : Scores s c b st) : ∃ x : ℝ, top st (ix2 0 c) = (x : EReal) := by
  obtain ⟨x, hx⟩ := fold_max_real (univ : Finset (Fin 512)) univ_nonempty fun k => s (b + k.val)
  refine ⟨x, ?_⟩
  rw [← hx]
  pointwise [top, maxOver]
  rw [lowest]
  exact congrArg (fun f => fold max ⊥ f univ) (funext h)

theorem weigh_block {b : ℕ} {st : FVec Ideal S512x256 .f32} (h : Scores s c b st)
    {v : FVec Ideal S144x256 .bf16 × FVec Ideal S144x256 .bf16} (h1 : Vals V b v.1) (h2 : Vals V (b + 256) v.2)
    {m : FVec Ideal S1x256 .f32} {μ : ℝ} (hm : m (ix2 0 c) = (μ : EReal)) (r : Fin 144) :
    weigh v st m (ix2 r c) = wsum s (V r) (Ico b (b + 512)) μ := by
  have hd : Disjoint (Ico b (b + 256)) (Ico (b + 256) (b + 256 + 256)) := Ico_disjoint_Ico_consecutive _ _ _
  rw [show Ico b (b + 512) = Ico b (b + 256) ∪ Ico (b + 256) (b + 256 + 256) from
    (Ico_union_Ico_eq_Ico (by omega) (by omega)).symm, wsum_union s (V r) hd]
  pointwise [weigh]
  congr 1
  · refine wsum_block s (V r) b 256 μ _ fun k => ?_
    rw [h1, h, hm, ← EReal.coe_sub]
    rfl
  · refine wsum_block s (V r) (b + 256) 256 μ _ fun k => ?_
    rw [h2, h, hm, ← EReal.coe_sub, ← Nat.add_assoc]
    rfl

theorem first_holds {b : ℕ} {st : FVec Ideal S512x256 .f32} (h : Scores s c b st)
    {v : FVec Ideal S144x256 .bf16 × FVec Ideal S144x256 .bf16} (h1 : Vals V b v.1) (h2 : Vals V (b + 256) v.2) :
    Holds s V c (Ico b (b + 512)) (first v st) := by
  obtain ⟨x, hx⟩ := top_real h
  refine ⟨x, ?_, fun r => ?_⟩
  · rw [first_fst]
    exact hx
  · rw [first_snd]
    exact weigh_block h h1 h2 hx r

theorem upd_holds {A : Finset ℕ} {p : Run Ideal} (hp : Holds s V c A p) {b : ℕ} (hd : Disjoint A (Ico b (b + 512)))
    {st : FVec Ideal S512x256 .f32} (h : Scores s c b st)
    {v : FVec Ideal S144x256 .bf16 × FVec Ideal S144x256 .bf16} (h1 : Vals V b v.1) (h2 : Vals V (b + 256) v.2) :
    Holds s V c (A ∪ Ico b (b + 512)) (upd v st p) := by
  obtain ⟨μ, hμ, hacc⟩ := hp
  obtain ⟨x, hx⟩ := top_real h
  have hmax : maximumf p.1 (top st) (ix2 0 c) = ((max μ x : ℝ) : EReal) := by
    generalize top st = t at hx
    rw [← max_coe, ← hμ, ← hx]
    rfl
  refine ⟨max μ x, hmax, fun r => ?_⟩
  rw [wsum_union s (V r) hd, ← weigh_block h h1 h2 hmax r, ← wsum_shift s (V r) A μ (max μ x), ← hacc r]
  pointwise [upd]
  rw [hμ, hx, max_coe, ← EReal.coe_sub]
  rfl

/-- The last block, of 256 keys. -/
theorem last_holds {A : Finset ℕ} {p : Run Ideal} (hp : Holds s V c A p) {b : ℕ} (hd : Disjoint A (Ico b (b + 256)))
    {st : FVec Ideal S256x256 .f32} (h : ∀ k : Fin 256, st (ix2 k c) = (s (b + k.val) : EReal))
    {v : FVec Ideal S144x256 .bf16} (h1 : Vals V b v) :
    ∃ μ : ℝ, ∀ r : Fin 144, last v st p (ix2 r c) = wsum s (V r) (A ∪ Ico b (b + 256)) μ := by
  obtain ⟨μ, hμ, hacc⟩ := hp
  obtain ⟨x, hx⟩ := fold_max_real (univ : Finset (Fin 256)) univ_nonempty fun k => s (b + k.val)
  have ht : top0 st (ix2 0 c) = (x : EReal) := by
    rw [← hx]
    pointwise [top0, maxOver0]
    rw [lowest]
    exact congrArg (fun f => fold max ⊥ f univ) (funext h)
  refine ⟨max μ x, fun r => ?_⟩
  rw [wsum_union s (V r) hd, ← wsum_shift s (V r) A μ (max μ x), ← hacc r]
  pointwise [last]
  rw [hμ, ht, max_coe, ← EReal.coe_sub]
  refine congrArg₂ (· + ·) rfl ?_
  refine wsum_block s (V r) b 256 (max μ x) _ fun k => ?_
  rw [h1, h, ← EReal.coe_sub]
  rfl

theorem finish_apply (a : FVec Ideal S144x256 .f32) (c : Fin 256) (d : Fin 128) :
    finish a (ix2 c d) = Ideal.div (a (ix2 ⟨d.val, by omega⟩ c)) (a (ix2 128 c)) := by
  pointwise [finish]

end Cert.Attn

end
-- ==== Proof.Head.lean ====
/-
  One head of the attention kernel over all its keys, at the extended reals: the accumulator it divides holds the weighted
  sums of the values of all 8448 keys.
-/
module

public import proofs.«01_k».proof.Proof.Body
public import proofs.«01_k».proof.Proof.Steps
public import Idealize.ShloMosaic.Lib.WholeRead

@[expose] public section

noncomputable section

namespace Cert.Attn

open Idealize.ShloMosaic Idealize.ShloMosaic.TcCoe Cert.KernelIdeal Cert.KernelIdeal.Gen Finset

variable (arg3 : Memref sig .tc .vmem S8448x128 .bf16) (harg3 : arg3.IsWhole) (x1 : Vec Ideal S8448x128 .bf16)
  (arg4 : Memref sig .tc .vmem S33x1x144x256 .bf16) (harg4 : arg4.IsWhole) (x2 : Vec Ideal S33x1x144x256 .bf16)

theorem unit_idx {s : Shape} (off size : Fin s.rank → ℕ) (h : ∀ a, off a + size a ≤ s.size a)
    (x : (Rect.unit (s := s) off size h).toLoadRect.shape.Idx) (a : Fin s.rank) :
    ((Rect.unit (s := s) off size h).toLoadRect.idx x a).val = off a + (x a).val := by
  simp [LoadRect.idx]

theorem keysAt_apply {b : ℕ} {off : Fin 2 → ℕ} (ho : off = ![b, 0]) (h : ∀ a, off a + S512x128.size a ≤ S8448x128.size a)
    (k : Fin 512) (d : Fin 128) (hb : b + k.val < 8448) :
    keysAt arg3 (harg3.unread x1) off h (ix2 k d) = x1 (ix2 ⟨b + k.val, hb⟩ d) := by
  subst ho
  unfold keysAt
  pointwise []
  rw [harg3.readAt_unread]
  congr 1
  funext a
  apply Fin.ext
  rw [unit_idx]
  match a with
  | 0 => rfl
  | 1 => exact Nat.zero_add _

theorem keys0_apply (k : Fin 256) (d : Fin 128) :
    shapeCast S256x128 (View.readAt (Elt Ideal) arg3.view (Rect.unit (s := S8448x128) _ S256x128.size inb_S8448x128_S256x128_0_0).toLoadRect (harg3.unread x1))
      shapeCasts_S256x128_S256x128 (ix2 k d) = x1 (ix2 ⟨0 + k.val, by omega⟩ d) := by
  pointwise []
  rw [harg3.readAt_unread]
  congr 1
  funext a
  apply Fin.ext
  rw [unit_idx]
  match a with
  | 0 => exact Nat.zero_add _
  | 1 => exact Nat.zero_add _

theorem valsAt_apply {t : ℕ} {off : Fin 4 → ℕ} (ho : off = ![t, 0, 0, 0])
    (h : ∀ a, off a + S1x1x144x256.size a ≤ S33x1x144x256.size a) (r : Fin 144) (k : Fin 256) (ht : t < 33) :
    valsAt arg4 (harg4.unread x2) off h (ix2 r k) = x2 (ix4 ⟨t, ht⟩ 0 r k) := by
  subst ho
  refine (shapeCast_apply (s := S1x1x144x256) (t := S144x256) _ _ (ix2 r k) (ix4 (0 : Fin 1) (0 : Fin 1) r k) ?_).trans ?_
  · rw [Shape.rowMajor_val_four, Shape.rowMajor_val_two]
    show ((0 * 1 + 0) * 144 + r.val) * 256 + k.val = r.val * 256 + k.val
    omega
  · refine (harg4.readAt_unread x2 (Rect.unit (s := S33x1x144x256) ![t, 0, 0, 0] S1x1x144x256.size h).toLoadRect _).trans ?_
    refine congrArg x2 (funext fun a => Fin.ext ?_)
    rw [unit_idx]
    match a with
    | 0 => rfl
    | 1 => rfl
    | 2 => exact Nat.zero_add _
    | 3 => exact Nat.zero_add _

/-- Key `n`'s value (or one) in row `r` of the tiles. -/
def tileVal (r : Fin 144) (n : ℕ) : EReal :=
  if h : n / 256 < 33 then x2 (ix4 ⟨n / 256, h⟩ 0 r ⟨n % 256, Nat.mod_lt _ (by decide)⟩) else 0

theorem vals_of {t : ℕ} {off : Fin 4 → ℕ} (ho : off = ![t, 0, 0, 0])
    (h : ∀ a, off a + S1x1x144x256.size a ≤ S33x1x144x256.size a) (ht : t < 33) (b : ℕ) (hb : b = 256 * t) :
    Vals (tileVal x2) b (valsAt arg4 (harg4.unread x2) off h) := by
  intro r k
  subst hb
  have h1 : (256 * t + k.val) / 256 = t := by omega
  have h2 : (256 * t + k.val) % 256 = k.val := by omega
  rw [valsAt_apply arg4 harg4 x2 ho h r k ht, tileVal, dif_pos (by omega)]
  congr 2
  · exact Fin.ext h1.symm
  · exact Fin.ext h2.symm

variable {s : ℕ → ℝ} {c : Fin 256} (q : FVec Ideal S256x128 .bf16)
  (hs : ∀ n (hn : n < 8448), ∑ d : Fin 128, x1 (ix2 ⟨n, hn⟩ d) * q (ix2 c d) = (s n : EReal))

include hs

theorem scores_of {b : ℕ} {off : Fin 2 → ℕ} (ho : off = ![b, 0]) (h : ∀ a, off a + S512x128.size a ≤ S8448x128.size a)
    (hb : b + 512 ≤ 8448) : Scores s c b (score (keysAt arg3 (harg3.unread x1) off h) q) := by
  intro k
  pointwise [score]
  rw [← hs (b + k.val) (by omega)]
  exact sum_congr rfl fun d _ => by rw [keysAt_apply arg3 harg3 x1 ho h k d (by omega)]

theorem scores0_of (k : Fin 256) :
    score0 (shapeCast S256x128 (View.readAt (Elt Ideal) arg3.view (Rect.unit (s := S8448x128) _ S256x128.size inb_S8448x128_S256x128_0_0).toLoadRect (harg3.unread x1))
      shapeCasts_S256x128_S256x128) q (ix2 k c) = (s (0 + k.val) : EReal) := by
  have e := hs (0 + k.val) (by omega)
  rw [← e]
  unfold score0
  pointwise []
  exact sum_congr rfl fun d _ => by
    have e' := keys0_apply arg3 harg3 x1 k d
    simp only [Nat.zero_add] at e'
    rw [← e']
    pointwise []

omit hs

theorem upd_next {V : Fin 144 → ℕ → EReal} {b b' : ℕ} (hb : b' = b + 512) (h256 : 256 ≤ b) {p : Run Ideal} (hp : Holds s V c (Ico 256 b) p)
    {st : FVec Ideal S512x256 .f32} (h : Scores s c b st) {v : FVec Ideal S144x256 .bf16 × FVec Ideal S144x256 .bf16}
    (h1 : Vals V b v.1) (h2 : Vals V (b + 256) v.2) : Holds s V c (Ico 256 b') (upd v st p) := by
  subst hb
  rw [← Ico_union_Ico_eq_Ico h256 (Nat.le_add_right b 512)]
  exact upd_holds hp (Ico_disjoint_Ico_consecutive _ _ _) h h1 h2

theorem six_next {V : Fin 144 → ℕ → EReal} {b b' : ℕ} (hb : b' = b + 3072) (h256 : 256 ≤ b) {p : Run Ideal} (hp : Holds s V c (Ico 256 b) p)
    {v : Fin 6 → FVec Ideal S144x256 .bf16 × FVec Ideal S144x256 .bf16} {st : Fin 6 → FVec Ideal S512x256 .f32}
    (h : ∀ j : Fin 6, Scores s c (b + 512 * j.val) (st j)) (h1 : ∀ j : Fin 6, Vals V (b + 512 * j.val) (v j).1)
    (h2 : ∀ j : Fin 6, Vals V (b + 512 * j.val + 256) (v j).2) : Holds s V c (Ico 256 b') (six v st p) := by
  have step : ∀ (j : Fin 6) (e : ℕ) (p : Run Ideal), Holds s V c (Ico 256 (b + 512 * j.val)) p → e = b + 512 * j.val + 512 →
      Holds s V c (Ico 256 e) (upd (v j) (st j) p) := fun j e p hp he => upd_next he (by omega) hp (h j) (h1 j) (h2 j)
  unfold six
  refine step 5 b' _ (step 4 _ _ (step 3 _ _ (step 2 _ _ (step 1 _ _ (step 0 _ _ hp ?_) ?_) ?_) ?_) ?_) ?_
  all_goals simp
  all_goals omega

theorem off1_eq : ∀ (k : Fin k0_t1_loop.trips) (r₁ : Fin 3) (r₂ : Fin 2),
    k0_off1 k (BitVec.ofNat 32 r₁) (BitVec.ofNat 32 (1 + r₂)) = ![1792 + 3072 * k.val + 1024 * r₁.val + 512 * r₂.val, 0] := by decide

theorem off2_eq : ∀ (k : Fin k0_t1_loop.trips) (r₁ : Fin 3) (r₂ : Fin 2),
    k0_off2 k (BitVec.ofNat 32 r₁) (BitVec.ofNat 32 r₂) = ![5 + 12 * k.val + 4 * r₁.val + r₂.val, 0, 0, 0] := by decide

theorem off3_eq : ∀ (k : Fin k0_t1_loop.trips) (r₁ : Fin 3) (r₂ : Fin 2),
    k0_off3 k (BitVec.ofNat 32 r₁) (BitVec.ofNat 32 r₂) = ![7 + 12 * k.val + 4 * r₁.val + r₂.val, 0, 0, 0] := by decide

theorem trips_le (k : Fin k0_t1_loop.trips) : k.val ≤ 1 := by
  revert k
  decide

include hs

theorem tripScores_of (k : Fin k0_t1_loop.trips) {st : FVec Ideal S512x256 .f32} (h : Scores s c (1280 + 3072 * k.val) st) (j : Fin 6) :
    Scores s c (1280 + 3072 * k.val + 512 * j.val) (tripScores arg3 (harg3.unread x1) k q st j) := by
  have hk := trips_le k
  have key : ∀ (r₁ : Fin 3) (r₂ : Fin 2) (b : ℕ), b = 1792 + 3072 * k.val + 1024 * r₁.val + 512 * r₂.val → b + 512 ≤ 8448 →
      Scores s c b (score (keysAt arg3 (harg3.unread x1) _ (k0_off1_inb k r₁ r₂)) q) :=
    fun r₁ r₂ b hb hle => scores_of arg3 harg3 x1 q hs ((off1_eq k r₁ r₂).trans (by rw [hb])) _ hle
  match j with
  | 0 => exact h
  | 1 => exact key 0 0 _ (by simp; omega) (by simp; omega)
  | 2 => exact key 0 1 _ (by simp; omega) (by simp; omega)
  | 3 => exact key 1 0 _ (by simp; omega) (by simp; omega)
  | 4 => exact key 1 1 _ (by simp; omega) (by simp; omega)
  | 5 => exact key 2 0 _ (by simp; omega) (by simp; omega)

omit hs

theorem tripVals_of (k : Fin k0_t1_loop.trips) (j : Fin 6) :
    Vals (tileVal x2) (1280 + 3072 * k.val + 512 * j.val) (tripVals arg4 (harg4.unread x2) k j).1
      ∧ Vals (tileVal x2) (1280 + 3072 * k.val + 512 * j.val + 256) (tripVals arg4 (harg4.unread x2) k j).2 := by
  have hk := trips_le k
  have key2 : ∀ (r₁ : Fin 3) (r₂ : Fin 2) (b : ℕ), b = 256 * (5 + 12 * k.val + 4 * r₁.val + r₂.val) → b + 256 ≤ 8448 →
      Vals (tileVal x2) b (valsAt arg4 (harg4.unread x2) _ (k0_off2_inb k r₁ r₂)) :=
    fun r₁ r₂ b hb hle => vals_of arg4 harg4 x2 (off2_eq k r₁ r₂) _ (by omega) b hb
  have key3 : ∀ (r₁ : Fin 3) (r₂ : Fin 2) (b : ℕ), b = 256 * (7 + 12 * k.val + 4 * r₁.val + r₂.val) → b + 256 ≤ 8448 →
      Vals (tileVal x2) b (valsAt arg4 (harg4.unread x2) _ (k0_off3_inb k r₁ r₂)) :=
    fun r₁ r₂ b hb hle => vals_of arg4 harg4 x2 (off3_eq k r₁ r₂) _ (by omega) b hb
  match j with
  | 0 => exact ⟨key2 0 0 _ (by simp; omega) (by simp; omega), key2 0 1 _ (by simp; omega) (by simp; omega)⟩
  | 1 => exact ⟨key3 0 0 _ (by simp; omega) (by simp; omega), key3 0 1 _ (by simp; omega) (by simp; omega)⟩
  | 2 => exact ⟨key2 1 0 _ (by simp; omega) (by simp; omega), key2 1 1 _ (by simp; omega) (by simp; omega)⟩
  | 3 => exact ⟨key3 1 0 _ (by simp; omega) (by simp; omega), key3 1 1 _ (by simp; omega) (by simp; omega)⟩
  | 4 => exact ⟨key2 2 0 _ (by simp; omega) (by simp; omega), key2 2 1 _ (by simp; omega) (by simp; omega)⟩
  | 5 => exact ⟨key3 2 0 _ (by simp; omega) (by simp; omega), key3 2 1 _ (by simp; omega) (by simp; omega)⟩

include hs

theorem pass_next {p : Run Ideal} (hp : Holds s (tileVal x2) c (Ico 256 1280) p) {st : FVec Ideal S512x256 .f32} (h : Scores s c 1280 st) :
    Holds s (tileVal x2) c (Ico 256 7424) (pass arg3 arg4 (harg3.unread x1) (harg4.unread x2) q st p) := by
  have h1 : Scores s c 4352 (score (keysAt arg3 (harg3.unread x1) _ (k0_off1_inb trip0 2 1)) q) :=
    scores_of arg3 harg3 x1 q hs (off1_eq trip0 2 1) _ (by decide)
  unfold pass
  refine six_next (b := 4352) rfl (by decide) (six_next (b := 1280) rfl (by decide) hp ?_ ?_ ?_) ?_ ?_ ?_
  · exact tripScores_of arg3 harg3 x1 q hs trip0 h
  · exact fun j => (tripVals_of arg4 harg4 x2 trip0 j).1
  · exact fun j => (tripVals_of arg4 harg4 x2 trip0 j).2
  · exact tripScores_of arg3 harg3 x1 q hs trip1 h1
  · exact fun j => (tripVals_of arg4 harg4 x2 trip1 j).1
  · exact fun j => (tripVals_of arg4 harg4 x2 trip1 j).2

/-- The accumulator with all the keys in. -/
theorem headRun_holds : ∃ μ : ℝ, ∀ r : Fin 144, headRun arg3 arg4 (harg3.unread x1) (harg4.unread x2) q (ix2 r c)
    = wsum s (tileVal x2 r) (range 8448) μ := by
  have sc : ∀ {b : ℕ} {off : Fin 2 → ℕ} (_ : off = ![b, 0]) (h : ∀ a, off a + S512x128.size a ≤ S8448x128.size a) (_ : b + 512 ≤ 8448),
      Scores s c b (score (keysAt arg3 (harg3.unread x1) off h) q) := fun ho h hb => scores_of arg3 harg3 x1 q hs ho h hb
  have vl : ∀ {t : ℕ} {off : Fin 4 → ℕ} (_ : off = ![t, 0, 0, 0]) (h : ∀ a, off a + S1x1x144x256.size a ≤ S33x1x144x256.size a)
      (_ : t < 33) (b : ℕ) (_ : b = 256 * t), Vals (tileVal x2) b (valsAt arg4 (harg4.unread x2) off h) :=
    fun ho h ht b hb => vals_of arg4 harg4 x2 ho h ht b hb
  have i0 := first_holds (sc (b := 256) rfl inb_S8448x128_S512x128_256_0 (by decide))
    (v := (valsAt arg4 (harg4.unread x2) _ inb_S33x1x144x256_S1x1x144x256_1_0_0_0, valsAt arg4 (harg4.unread x2) _ inb_S33x1x144x256_S1x1x144x256_2_0_0_0))
    (vl rfl _ (by decide) 256 rfl) (vl rfl _ (by decide) 512 rfl)
  have i1 := upd_next (b' := 1280) rfl (by decide) i0 (sc (b := 768) rfl inb_S8448x128_S512x128_768_0 (by decide))
    (v := (valsAt arg4 (harg4.unread x2) _ inb_S33x1x144x256_S1x1x144x256_3_0_0_0, valsAt arg4 (harg4.unread x2) _ inb_S33x1x144x256_S1x1x144x256_4_0_0_0))
    (vl rfl _ (by decide) 768 rfl) (vl rfl _ (by decide) 1024 rfl)
  have i2 := pass_next arg3 harg3 x1 arg4 harg4 x2 q hs i1 (sc rfl inb_S8448x128_S512x128_1280_0 (by decide))
  have i3 := upd_next (b' := 7936) rfl (by decide) i2 (sc (b := 7424) (off1_eq trip1 2 1) (k0_off1_inb trip1 2 1) (by decide))
    (v := (valsAt arg4 (harg4.unread x2) _ inb_S33x1x144x256_S1x1x144x256_29_0_0_0, valsAt arg4 (harg4.unread x2) _ inb_S33x1x144x256_S1x1x144x256_30_0_0_0))
    (vl rfl _ (by decide) 7424 rfl) (vl rfl _ (by decide) 7680 rfl)
  have i4 := upd_next (b' := 8448) rfl (by decide) i3 (sc (b := 7936) rfl inb_S8448x128_S512x128_7936_0 (by decide))
    (v := (valsAt arg4 (harg4.unread x2) _ inb_S33x1x144x256_S1x1x144x256_31_0_0_0, valsAt arg4 (harg4.unread x2) _ inb_S33x1x144x256_S1x1x144x256_32_0_0_0))
    (vl rfl _ (by decide) 7936 rfl) (vl rfl _ (by decide) 8192 rfl)
  obtain ⟨μ, hμ⟩ := last_holds i4 (b := 0) (Ico_disjoint_Ico_consecutive 0 256 8448).symm (scores0_of arg3 harg3 x1 q hs)
    (vl rfl inb_S33x1x144x256_S1x1x144x256_0_0_0_0 (by decide) 0 rfl)
  refine ⟨μ, fun r => ?_⟩
  have hset : Ico 256 8448 ∪ Ico 0 (0 + 256) = range 8448 := by
    rw [union_comm, Nat.zero_add, Ico_union_Ico_eq_Ico (by decide) (by decide), range_eq_Ico]
  rw [← hset, ← hμ r]
  rfl

end Cert.Attn

end
-- ==== Proof.Block.lean ====
/-
  One block of the attention kernel's result at the extended reals: a row's 128 numbers of one head are the values of all
  8448 keys, each weighted by its share of the row's exponentials.
-/
module

public import proofs.«01_k».proof.Proof.Head
public import Idealize.ShloMosaic.Lib.WritesUnit
public import Idealize.ShloMosaic.PureOps.Ideal

@[expose] public section

noncomputable section

namespace Cert.Attn

open Idealize.ShloMosaic Idealize.ShloMosaic.TcCoe Cert.KernelIdeal Cert.KernelIdeal.Gen Finset

/-- The factor on the queries: the scale of the scores over the logarithm of two. -/
theorem qscale_eq : Named.named (F := Ideal) κ "qscale" (φ := .f32) 0x3E0293EE#32
    = (((11863283 / 134217728) * (Real.log 2)⁻¹ : ℝ) : EReal) :=
  IdealRules.named_const.ideal_named_scalar _ _ _ _ rfl

/-- The factor as a real number. -/
def qs : ℝ := (11863283 / 134217728) * (Real.log 2)⁻¹

/-- Column `d` of head `g` in a block of four heads. -/
def col4 (g : Fin 4) (d : Fin 128) : Fin 512 := ⟨128 * g.val + d.val, by omega⟩

variable (c : Dev nD) (i : grid0.Coords) (arg2 : Memref sig .tc .vmem S256x512 .f32) (harg2 : arg2.IsWhole) (arg3 : Memref sig .tc .vmem S8448x128 .bf16) (harg3 : arg3.IsWhole) (arg4 : Memref sig .tc .vmem S33x1x144x256 .bf16) (harg4 : arg4.IsWhole) (arg5 : Memref sig .tc .vmem S256x512 .f32) (harg5 : arg5.IsWhole) (arg6 : Memref sig .tc .vmem S4x256x256 .f32) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x144x256 .f32) (harg9 : arg9.IsWhole)
  (x0 : Vec Ideal S256x512 .f32) (x1 : Vec Ideal S8448x128 .bf16) (x2 : Vec Ideal S33x1x144x256 .bf16)

theorem queries_apply {b : ℕ} (h : ∀ a, (![0, b] : Fin 2 → ℕ) a + S256x128.size a ≤ S256x512.size a) (a : Fin 256) (d : Fin 128)
    (hb : b + d.val < 512) :
    queries (F := Ideal) (View.readAt (Elt Ideal) arg2.view (Rect.unit (s := S256x512) ![0, b] S256x128.size h).toLoadRect (harg2.unread x0)) (ix2 a d)
      = x0 (ix2 a ⟨b + d.val, hb⟩) * (qs : EReal) := by
  pointwise [queries]
  rw [harg2.readAt_unread, qscale_eq]
  refine congrArg (· * (qs : EReal)) (congrArg x0 (funext fun k => Fin.ext ?_))
  rw [unit_idx]
  match k with
  | 0 => exact Nat.zero_add _
  | 1 => rfl

/-- The weighted mean that a row of the accumulator holds once it is divided. -/
theorem finish_headRun {s : ℕ → ℝ} {a : Fin 256} (q : FVec Ideal S256x128 .bf16)
    (hs : ∀ n (hn : n < 8448), ∑ d : Fin 128, x1 (ix2 ⟨n, hn⟩ d) * q (ix2 a d) = (s n : EReal))
    (ones : ∀ n < 8448, tileVal x2 128 n = 1) (ν : ℝ) (d : Fin 128) :
    finish (headRun arg3 arg4 (harg3.unread x1) (harg4.unread x2) q) (ix2 a d)
      = ∑ n ∈ range 8448, tileVal x2 ⟨d.val, by omega⟩ n
          * ((Real.rpow 2 (s n - ν) / (∑ j ∈ range 8448, Real.rpow 2 (s j - ν)) : ℝ) : EReal) := by
  obtain ⟨μ, h⟩ := headRun_holds arg3 harg3 x1 arg4 harg4 x2 q hs
  rw [finish_apply, h, h, ← div_wsum s (tileVal x2 ⟨d.val, by omega⟩) (nonempty_range_iff.mpr (by decide)) μ ν]
  refine congrArg (Ideal.div _) (sum_congr rfl fun n hn => ?_)
  rw [ones n (mem_range.mp hn)]

/-- One number of a block of the result. -/
theorem block_apply (g : Fin 4) (a : Fin 256) (d : Fin 128) (s : ℕ → ℝ)
    (hs : ∀ n (hn : n < 8448), ∑ e : Fin 128, x1 (ix2 ⟨n, hn⟩ e) * (x0 (ix2 a (col4 g e)) * (qs : EReal)) = (s n : EReal))
    (ones : ∀ n < 8448, tileVal x2 128 n = 1) (ν : ℝ) :
    out0_A_3 (F := Ideal) c i arg2 harg2 arg3 harg3 arg4 harg4 arg5 harg5 arg6 harg6 arg7 harg7 arg8 harg8 arg9 harg9 x0 x1 x2 (ix2 a (col4 g d))
      = ∑ n ∈ range 8448, tileVal x2 ⟨d.val, by omega⟩ n
          * ((Real.rpow 2 (s n - ν) / (∑ j ∈ range 8448, Real.rpow 2 (s j - ν)) : ℝ) : EReal) := by
  unfold out0_A_3 kernelRun0_A
  match g, hs with
  | 0, hs =>
    refine (View.read_writes_cons_unit_of_not_mem _ _ inb_S256x512_S256x128_0_384 _ _ _ rfl 1 (Or.inl (by show 128 * 0 + d.val < 384; omega))).trans <|
      (View.read_writes_cons_unit_of_not_mem _ _ inb_S256x512_S256x128_0_256 _ _ _ rfl 1 (Or.inl (by show 128 * 0 + d.val < 256; omega))).trans <|
      (View.read_writes_cons_unit_of_not_mem _ _ inb_S256x512_S256x128_0_128 _ _ _ rfl 1 (Or.inl (by show 128 * 0 + d.val < 128; omega))).trans <|
      (View.read_writes_cons_unit_of_mem _ _ inb_S256x512_S256x128_0_0 _ _ _ (ix2 a d) rfl (fun k => ?_)).trans ?_
    · match k with
      | 0 => exact (Nat.zero_add _).symm
      | 1 => rfl
    · rw [head0 c i arg2 harg2 arg3 harg3 arg4 harg4 arg5 harg5 arg6 harg6 arg7 harg7 arg8 harg8 arg9 harg9 x0 x1 x2]
      refine finish_headRun arg3 harg3 arg4 harg4 x1 x2 _ (fun n hn => ?_) ones ν d
      rw [← hs n hn]
      refine sum_congr rfl fun e _ => congrArg (_ * ·) ?_
      exact queries_apply arg2 harg2 x0 inb_S256x512_S256x128_0_0 a e (by omega)
  | 1, hs =>
    refine (View.read_writes_cons_unit_of_not_mem _ _ inb_S256x512_S256x128_0_384 _ _ _ rfl 1 (Or.inl (by show 128 * 1 + d.val < 384; omega))).trans <|
      (View.read_writes_cons_unit_of_not_mem _ _ inb_S256x512_S256x128_0_256 _ _ _ rfl 1 (Or.inl (by show 128 * 1 + d.val < 256; omega))).trans <|
      (View.read_writes_cons_unit_of_mem _ _ inb_S256x512_S256x128_0_128 _ _ _ (ix2 a d) rfl (fun k => ?_)).trans ?_
    · match k with
      | 0 => exact (Nat.zero_add _).symm
      | 1 => rfl
    · rw [head1 c i arg2 harg2 arg3 harg3 arg4 harg4 arg5 harg5 arg6 harg6 arg7 harg7 arg8 harg8 arg9 harg9 x0 x1 x2]
      refine finish_headRun arg3 harg3 arg4 harg4 x1 x2 _ (fun n hn => ?_) ones ν d
      rw [← hs n hn]
      refine sum_congr rfl fun e _ => congrArg (_ * ·) ?_
      exact queries_apply arg2 harg2 x0 inb_S256x512_S256x128_0_128 a e (by omega)
  | 2, hs =>
    refine (View.read_writes_cons_unit_of_not_mem _ _ inb_S256x512_S256x128_0_384 _ _ _ rfl 1 (Or.inl (by show 128 * 2 + d.val < 384; omega))).trans <|
      (View.read_writes_cons_unit_of_mem _ _ inb_S256x512_S256x128_0_256 _ _ _ (ix2 a d) rfl (fun k => ?_)).trans ?_
    · match k with
      | 0 => exact (Nat.zero_add _).symm
      | 1 => rfl
    · rw [head2 c i arg2 harg2 arg3 harg3 arg4 harg4 arg5 harg5 arg6 harg6 arg7 harg7 arg8 harg8 arg9 harg9 x0 x1 x2]
      refine finish_headRun arg3 harg3 arg4 harg4 x1 x2 _ (fun n hn => ?_) ones ν d
      rw [← hs n hn]
      refine sum_congr rfl fun e _ => congrArg (_ * ·) ?_
      exact queries_apply arg2 harg2 x0 inb_S256x512_S256x128_0_256 a e (by omega)
  | 3, hs =>
    refine (View.read_writes_cons_unit_of_mem _ _ inb_S256x512_S256x128_0_384 _ _ _ (ix2 a d) rfl (fun k => ?_)).trans ?_
    · match k with
      | 0 => exact (Nat.zero_add _).symm
      | 1 => rfl
    · rw [head3 c i arg2 harg2 arg3 harg3 arg4 harg4 arg5 harg5 arg6 harg6 arg7 harg7 arg8 harg8 arg9 harg9 x0 x1 x2]
      refine finish_headRun arg3 harg3 arg4 harg4 x1 x2 _ (fun n hn => ?_) ones ν d
      rw [← hs n hn]
      refine sum_congr rfl fun e _ => congrArg (_ * ·) ?_
      exact queries_apply arg2 harg2 x0 inb_S256x512_S256x128_0_384 a e (by omega)

end Cert.Attn

end
-- ==== Proof.Spec.lean ====
/-
  Latent attention in closed form: what both programs compute from their queries, keys and values at the extended reals.
  No program is named here.
-/
module

public import proofs.«01_k».proof.Proof.Online

@[expose] public section

noncomputable section

namespace Cert.Attn

open Finset

variable (Q : Fin 8448 → Fin 1024 → EReal) (K V : Fin 8448 → Fin 256 → EReal)

/-- The scaled score of row `r`'s query of head `h` with key `n`; two times four heads share a head of the keys. -/
def scaled (r : Fin 8448) (h : Fin 8) (n : Fin 8448) : ℝ :=
  (∑ d : Fin 128, (K n ⟨128 * (h.val / 4) + d.val, by omega⟩).toReal * (Q r ⟨128 * h.val + d.val, by omega⟩).toReal)
    * (11863283 / 134217728)

/-- Row `r`, head `h`, number `d` of the result: the values' mean by the softmax of the scores. -/
def mean (r : Fin 8448) (h : Fin 8) (d : Fin 128) : EReal :=
  ∑ n : Fin 8448, V n ⟨128 * (h.val / 4) + d.val, by omega⟩
    * ((Real.exp (scaled Q K r h n) / ∑ k : Fin 8448, Real.exp (scaled Q K r h k) : ℝ) : EReal)

/-- The result, the heads side by side; the first 256 rows have none. -/
def attention (r : Fin 8192) (e : Fin 1024) : EReal :=
  mean Q K V ⟨256 + r.val, by omega⟩ ⟨e.val / 128, by omega⟩ ⟨e.val % 128, by omega⟩

end Cert.Attn

end
-- ==== Proof.Array.lean ====
/-
  What the attention kernel's blocks are in terms of the arguments.
-/
module

public import proofs.«01_k».proof.Proof.Block
public import proofs.«01_k».proof.Proof.Spec
public import proofs.«01_k».proof.Proof.Gen.KernelIdeal.Value
public import Idealize.ShloMosaic.Lib.Claim
public import Idealize.ShloMosaic.Lib.Pointwise
public import Idealize.ShloMosaic.Lib.Pipeline.ValueKit

@[expose] public section

noncomputable section

namespace Cert.Attn

open Idealize.ShloMosaic Idealize.ShloMosaic.TcCoe Cert.KernelIdeal Cert.KernelIdeal.Gen Finset

variable (m : (ℓ : Loc nD τ sig) → Buf (Elt Ideal) ℓ) (c : Dev nD) (t : Fin cfg0.N)

/-- The windows' blocks at a grid point, by the result block's place. -/
theorem places : ∀ t : Fin grid0.N, (win0_3.index t 0 < 32 ∧ win0_3.index t 1 < 2)
    ∧ (win0_0.index t 0 = win0_3.index t 0 + 1 ∧ win0_0.index t 1 = win0_3.index t 1)
    ∧ (win0_1.index t 0 = 0 ∧ win0_1.index t 1 = win0_3.index t 1)
    ∧ (win0_2.index t 0 = 0 ∧ win0_2.index t 1 = win0_3.index t 1 ∧ win0_2.index t 2 = 0 ∧ win0_2.index t 3 = 0) := by
  decide +kernel

/-- The block of queries, and the key head, of a grid point. -/
def bq : Fin 32 := ⟨win0_3.index t 0, (places t).1.1⟩
def bj : Fin 2 := ⟨win0_3.index t 1, (places t).1.2⟩

theorem iblk0_apply (a : Fin 256) (e : Fin 512) :
    (iblk m c 0 t : Vec Ideal S256x512 .f32) (ix2 a e)
      = m ((c : Thread nD τ).loc main_arg0) (ix2 ⟨256 * ((bq t).val + 1) + a.val, by have := (bq t).isLt; omega⟩
          ⟨512 * (bj t).val + e.val, by have := (bj t).isLt; omega⟩) := by
  unfold iblk
  rw [View.read_apply]
  entry_read
  refine congrArg (m ((c : Thread nD τ).loc main_arg0)) (funext fun k => Fin.ext ?_)
  match k with
  | 0 => show win0_0.index t 0 * 256 + 1 * a.val = 256 * (win0_3.index t 0 + 1) + a.val; rw [(places t).2.1.1]; omega
  | 1 => show win0_0.index t 1 * 512 + 1 * e.val = 512 * win0_3.index t 1 + e.val; rw [(places t).2.1.2]; omega

theorem iblk1_apply (n : Fin 8448) (e : Fin 128) :
    (iblk m c 1 t : Vec Ideal S8448x128 .bf16) (ix2 n e)
      = m ((c : Thread nD τ).loc main_arg1) (ix2 n ⟨128 * (bj t).val + e.val, by have := (bj t).isLt; omega⟩) := by
  unfold iblk
  rw [View.read_apply]
  entry_read
  refine congrArg (m ((c : Thread nD τ).loc main_arg1)) (funext fun k => Fin.ext ?_)
  match k with
  | 0 => show win0_1.index t 0 * 8448 + 1 * n.val = n.val; rw [(places t).2.2.1.1]; omega
  | 1 => show win0_1.index t 1 * 128 + 1 * e.val = 128 * win0_3.index t 1 + e.val; rw [(places t).2.2.1.2]; omega

theorem iblk2_apply (u : Fin 33) (r : Fin 144) (k : Fin 256) :
    (iblk m c 2 t : Vec Ideal S33x1x144x256 .bf16) (ix4 u 0 r k)
      = V m c main_v5 (ix4 u (bj t) r k) := by
  unfold iblk
  rw [View.read_apply]
  show V m c main_v5 _ = V m c main_v5 _
  refine congrArg (V m c main_v5) (funext fun a => Fin.ext ?_)
  match a with
  | 0 => show win0_2.index t 0 * 33 + 1 * u.val = u.val; rw [(places t).2.2.2.1]; omega
  | 1 => show win0_2.index t 1 * 1 + 1 * 0 = win0_3.index t 1; rw [(places t).2.2.2.2.1]; omega
  | 2 => show win0_2.index t 2 * 144 + 1 * r.val = r.val; rw [(places t).2.2.2.2.2.1]; omega
  | 3 => show win0_2.index t 3 * 256 + 1 * k.val = k.val; rw [(places t).2.2.2.2.2.2]; omega

theorem tiles_val (u : Fin 33) (j : Fin 2) (d : Fin 128) (k : Fin 256) :
    (V m c main_v5 : Vec Ideal S33x2x144x256 .bf16) (ix4 u j ⟨d.val, by omega⟩ k)
      = m ((c : Thread nD τ).loc main_arg2) (ix2 ⟨256 * u.val + k.val, by omega⟩ ⟨128 * j.val + d.val, by omega⟩) := by
  entry_read
  pointwise []
  refine congrArg (m ((c : Thread nD τ).loc main_arg2)) (funext fun a => Fin.ext ?_)
  match a with
  | 0 => show u.val * 256 + k.val = 256 * u.val + k.val; omega
  | 1 => show j.val * 128 + d.val = 128 * j.val + d.val; omega

theorem tiles_one (u : Fin 33) (j : Fin 2) (k : Fin 256) :
    (V m c main_v5 : Vec Ideal S33x2x144x256 .bf16) (ix4 u j 128 k) = (1 : EReal) := by
  entry_read
  pointwise []

/-- Key `n`'s value at a grid point. -/
theorem tileVal_val (d : Fin 128) (n : Fin 8448) :
    tileVal (iblk m c 2 t : Vec Ideal S33x1x144x256 .bf16) ⟨d.val, by omega⟩ n.val
      = m ((c : Thread nD τ).loc main_arg2) (ix2 n ⟨128 * (bj t).val + d.val, by have := (bj t).isLt; omega⟩) := by
  unfold tileVal
  rw [dif_pos (by omega : n.val / 256 < 33), iblk2_apply, tiles_val]
  refine congrArg (m ((c : Thread nD τ).loc main_arg2)) (congrArg₂ ix2 (Fin.ext ?_) rfl)
  exact Nat.div_add_mod n.val 256

theorem tileVal_one (n : ℕ) (hn : n < 8448) :
    tileVal (iblk m c 2 t : Vec Ideal S33x1x144x256 .bf16) 128 n = 1 := by
  unfold tileVal
  rw [dif_pos (by omega : n / 256 < 33), iblk2_apply, tiles_one]

/-- The arguments, by row and column. -/
def argQ : Fin 8448 → Fin 1024 → EReal := fun r e => m ((c : Thread nD τ).loc main_arg0) (ix2 r e)
def argK : Fin 8448 → Fin 256 → EReal := fun r e => m ((c : Thread nD τ).loc main_arg1) (ix2 r e)
def argV : Fin 8448 → Fin 256 → EReal := fun r e => m ((c : Thread nD τ).loc main_arg2) (ix2 r e)

/-- One number of what a grid point writes back. -/
theorem point_apply (hQ : ∀ r e, argQ m c r e = ((argQ m c r e).toReal : EReal)) (hK : ∀ r e, argK m c r e = ((argK m c r e).toReal : EReal))
    (g : Fin 4) (a : Fin 256) (d : Fin 128) :
    outsAt0 m c t (ix2 a (col4 g d))
      = mean (argQ m c) (argK m c) (argV m c) ⟨256 * ((bq t).val + 1) + a.val, by have := (bq t).isLt; omega⟩
          ⟨4 * (bj t).val + g.val, by have := (bj t).isLt; omega⟩ d := by
  have hj := (bj t).isLt
  set r : Fin 8448 := ⟨256 * ((bq t).val + 1) + a.val, by have := (bq t).isLt; omega⟩ with hr
  set h : Fin 8 := ⟨4 * (bj t).val + g.val, by omega⟩ with hh
  have h4 : h.val / 4 = (bj t).val := by show (4 * (bj t).val + g.val) / 4 = (bj t).val; omega
  let s : ℕ → ℝ := fun n => if hn : n < 8448 then scaled (argQ m c) (argK m c) r h ⟨n, hn⟩ * (Real.log 2)⁻¹ else 0
  unfold outsAt0
  rw [block_apply c (grid0.coords t) _ _ _ _ _ _ _ _ _ _ _ _ _ _ _ _ _ _ _ g a d s ?_ (tileVal_one m c t) 0]
  · rw [sum_range, sum_range]
    unfold mean
    refine sum_congr rfl fun n _ => ?_
    have e (k : Fin 8448) : Real.rpow 2 (s k.val - 0) = Real.exp (scaled (argQ m c) (argK m c) r h k) := by
      have := two_rpow_eq_exp (scaled (argQ m c) (argK m c) r h k) 0
      rw [zero_mul, sub_zero, sub_zero] at this
      rw [sub_zero, ← this]
      simp only [s, k.isLt, dif_pos, Fin.eta]
    rw [tileVal_val]
    simp only [e]
    refine congrArg (· * _) ?_
    unfold argV
    exact congrArg (m ((c : Thread nD τ).loc main_arg2)) (congrArg (ix2 n) (Fin.ext (by show 128 * (bj t).val + d.val = 128 * (h.val / 4) + d.val; rw [h4])))
  · intro n hn
    simp only [s, hn, dif_pos]
    unfold scaled
    rw [sum_mul, sum_mul, coe_sum]
    refine sum_congr rfl fun k _ => ?_
    rw [iblk1_apply, iblk0_apply]
    have e1 : m ((c : Thread nD τ).loc main_arg1) (ix2 ⟨n, hn⟩ ⟨128 * (bj t).val + k.val, by omega⟩)
        = argK m c ⟨n, hn⟩ ⟨128 * (h.val / 4) + k.val, by omega⟩ := by
      unfold argK
      exact congrArg (m ((c : Thread nD τ).loc main_arg1)) (congrArg (ix2 _) (Fin.ext (by show 128 * (bj t).val + k.val = 128 * (h.val / 4) + k.val; rw [h4])))
    have e0 : m ((c : Thread nD τ).loc main_arg0) (ix2 r ⟨512 * (bj t).val + (col4 g k).val, by have := (col4 g k).isLt; omega⟩)
        = argQ m c r ⟨128 * h.val + k.val, by omega⟩ := by
      unfold argQ
      exact congrArg (m ((c : Thread nD τ).loc main_arg0)) (congrArg (ix2 _) (Fin.ext (by
        show 512 * (bj t).val + (128 * g.val + k.val) = 128 * (4 * (bj t).val + g.val) + k.val; omega)))
    refine (congrArg₂ (fun x y : EReal => x * (y * (qs : EReal))) e1 e0).trans ?_
    rw [hK, hQ]
    simp only [EReal.toReal_coe]
    rw [← EReal.coe_mul, ← EReal.coe_mul]
    refine congrArg _ ?_
    unfold qs
    ring

/-- The result array after the run. -/
theorem array_eq (hQ : ∀ r e, argQ m c r e = ((argQ m c r e).toReal : EReal)) (hK : ∀ r e, argK m c r e = ((argK m c r e).toReal : EReal)) :
    (dats m 0 c).arrAt 3 cfg0.N = (fun i => attention (argQ m c) (argK m c) (argV m c) (i 0) (i 1) : S8192x1024.Idx → EReal) := by
  refine (dats m 0 c).arrAt_eq_of_covers 3 _ (by decide +kernel) fun t hf y => ?_
  blk_simp
  rw [after0_3]
  have h0 : (y 0).val < 256 := (y 0).isLt
  have h1 : (y 1).val < 512 := (y 1).isLt
  have hy : (y : S256x512.Idx) = ix2 (⟨(y 0).val, h0⟩ : Fin 256) (col4 ⟨(y 1).val / 128, by omega⟩ ⟨(y 1).val % 128, Nat.mod_lt _ (by decide)⟩) :=
    funext fun k => Fin.ext (by
      match k with
      | 0 => rfl
      | 1 => exact (Nat.div_add_mod (y 1).val 128).symm)
  have e0 : ((win0_3.blk t).view.emb y 0).val = win0_3.index t 0 * 256 + 1 * (y 0).val := rfl
  have e1 : ((win0_3.blk t).view.emb y 1).val = win0_3.index t 1 * 512 + 1 * (y 1).val := rfl
  refine (congrArg (outsAt0 m c t) hy).trans ((point_apply m c t hQ hK _ _ _).trans ?_)
  unfold attention
  congr 1
  · refine Fin.ext ?_
    show 256 * (win0_3.index t 0 + 1) + (y 0).val = 256 + ((win0_3.blk t).view.emb y 0).val
    omega
  · refine Fin.ext ?_
    show 4 * win0_3.index t 1 + (y 1).val / 128 = ((win0_3.blk t).view.emb y 1).val / 128
    omega
  · refine Fin.ext ?_
    show (y 1).val % 128 = ((win0_3.blk t).view.emb y 1).val % 128
    omega

end Cert.Attn

end
-- ==== Proof.Reference.lean ====
/-
  The reference's result at the extended reals is latent attention in closed form.
-/
module

public import proofs.«01_k».proof.Proof.Spec
public import proofs.«01_k».proof.Proof.Gen.ReferenceIdeal.Read
public import Idealize.ShloMosaic.PureOps.Ideal.Laws
public import Idealize.ShloMosaic.Lib.Pointwise

@[expose] public section

noncomputable section

namespace Cert.Attn.Reference

open Idealize.ShloMosaic Idealize.ShloMosaic.TcCoe Cert.ReferenceIdeal Cert.ReferenceIdeal.Gen Cert.ReferenceIdeal.Read Finset

variable (x0 : (⟨S8448x1024, .f32⟩ : BufTy).Contents (Elt Ideal)) (x1 x2 : (⟨S8448x256, .f32⟩ : BufTy).Contents (Elt Ideal))

/-- The arguments, by row and column. -/
def argQ : Fin 8448 → Fin 1024 → EReal := fun r e => x0 (ix2 r e)
def argKV : Fin 8448 → Fin 256 → EReal := fun r e => x1 (ix2 r e)

theorem scale_eq : Ideal.ofBits .f32 0x3DB504F3#32 = ((11863283 / 134217728 : ℝ) : EReal) := by
  simp [Ideal.ofBits, Ideal.ieee, -EReal.coe_mul]
  norm_num

theorem bottom_eq : Ideal.ofBits .f32 0xFF800000#32 = ⊥ := by simp [Ideal.ofBits, Ideal.ieee]

/-- The row and the head of an index of the scores. -/
def rowOf (n : Fin 8192) : Fin 8448 := ⟨256 + n.val, by omega⟩
def headOf (j : Fin 2) (h : Fin 4) : Fin 8 := ⟨4 * j.val + h.val, by omega⟩

variable (hQ : ∀ r e, argQ x0 r e = ((argQ x0 r e).toReal : EReal)) (hK : ∀ r e, argKV x1 r e = ((argKV x1 r e).toReal : EReal))

include hQ hK

theorem scores_apply (i : S2x4x8192x8448.Idx) :
    val_main_v7 (F := Ideal) x0 x1 i = (scaled (argQ x0) (argKV x1) (rowOf (i 2)) (headOf (i 0) (i 1)) (i 3) : EReal) := by
  have b0 : (i 0).val < 2 := (i 0).isLt
  have b1 : (i 1).val < 4 := (i 1).isLt
  have b2 : (i 2).val < 8192 := (i 2).isLt
  have b3 : (i 3).val < 8448 := (i 3).isLt
  rw [val_main_v7_apply, val_main_v5_apply, val_main_v4_apply, val_main_v6_apply, val_main_cst_apply]
  refine (congrArg (_ * ·) scale_eq).trans ?_
  unfold scaled
  rw [EReal.coe_mul, coe_sum]
  refine congrArg (· * _) (sum_congr rfl fun d _ => ?_)
  rw [val_main_v2_apply, val_main_v1_apply, val_main_v0_apply]
  have e1 : idx_main_v2 (lidx_main_v4 (idx_main_v5 i) d)
      = ix2 (⟨(i 3).val, b3⟩ : Fin 8448) (⟨128 * ((headOf (i 0) (i 1)).val / 4) + d.val, by have := (headOf (i 0) (i 1)).isLt; omega⟩ : Fin 256) :=
    funext fun a => Fin.ext (by
      match a with
      | 0 => show (((i 3).val * 2 + (i 0).val) * 128 + d.val) / 256 = (i 3).val; omega
      | 1 => show (((i 3).val * 2 + (i 0).val) * 128 + d.val) % 256 = 128 * ((4 * (i 0).val + (i 1).val) / 4) + d.val; omega)
  have e0 : idx_main_v0 (idx_main_v1 (ridx_main_v4 (idx_main_v5 i) d))
      = ix2 (rowOf (i 2)) (⟨128 * (headOf (i 0) (i 1)).val + d.val, by have := (headOf (i 0) (i 1)).isLt; omega⟩ : Fin 1024) :=
    funext fun a => Fin.ext (by
      match a with
      | 0 => show 256 + ((((i 2).val * 2 + (i 0).val) * 4 + (i 1).val) * 128 + d.val) / 1024 = 256 + (i 2).val; omega
      | 1 => show ((((i 2).val * 2 + (i 0).val) * 4 + (i 1).val) * 128 + d.val) % 1024 = 128 * (4 * (i 0).val + (i 1).val) + d.val; omega)
  rw [e1, e0, EReal.coe_mul]
  exact congrArg₂ (· * ·) (hK _ _) (hQ _ _)

/-- The row's largest score is a real number. -/
theorem top_real (j : S2x4x8192.Idx) : ∃ M : ℝ, val_main_v10 (F := Ideal) x0 x1 j = (M : EReal) := by
  rw [val_main_v10_apply, val_main_v9_apply, val_main_cst_1_apply]
  unfold val_main_v8
  rw [Host.reduce_eq_fold_single _ _ _ _ (by decide) _ _]
  obtain ⟨M, hM⟩ := fold_max_real (univ : Finset (Fin 8448)) ⟨0, mem_univ _⟩
    (fun k => (val_main_v7 (F := Ideal) x0 x1 ((by decide : S2x4x8192x8448.Reduces [3] S2x4x8192).lift j k)).toReal)
  refine ⟨M, ?_⟩
  have e : ∀ i, val_main_v7 (F := Ideal) x0 x1 i = ((val_main_v7 (F := Ideal) x0 x1 i).toReal : EReal) := fun i => by
    rw [scores_apply x0 x1 hQ hK, EReal.toReal_coe]
  simp only [← e] at hM
  refine (congrArg₂ max bottom_eq ?_).trans (max_eq_right bot_le)
  rw [val_main_cst_0_apply]
  refine Eq.trans ?_ hM
  refine Eq.trans (congrArg (fun b => fold _ b _ _) bottom_eq) ?_
  rfl

theorem weights_apply (i : S2x4x8192x8448.Idx) :
    val_main_v18 (F := Ideal) x0 x1 i = ((Real.exp (scaled (argQ x0) (argKV x1) (rowOf (i 2)) (headOf (i 0) (i 1)) (i 3))
      / ∑ k : Fin 8448, Real.exp (scaled (argQ x0) (argKV x1) (rowOf (i 2)) (headOf (i 0) (i 1)) k) : ℝ) : EReal) := by
  obtain ⟨M, hM⟩ := top_real x0 x1 hQ hK (idx_main_v11 (idx_main_v12 i))
  have e (k : S2x4x8192x8448.Idx) (hk : idx_main_v11 (idx_main_v12 k) = idx_main_v11 (idx_main_v12 i)) :
      val_main_v14 (F := Ideal) x0 x1 k
        = (Real.exp (scaled (argQ x0) (argKV x1) (rowOf (k 2)) (headOf (k 0) (k 1)) (k 3)) * Real.exp (-M) : ℝ) := by
    rw [val_main_v14_apply, val_main_v13_apply, val_main_v12_apply, val_main_v11_apply, hk, hM, scores_apply x0 x1 hQ hK]
    rw [← Real.exp_add, ← sub_eq_add_neg]
    rfl
  rw [val_main_v18_apply, val_main_v17_apply, val_main_v16_apply, val_main_v15_apply, e i rfl]
  rw [sum_congr rfl fun k _ => e (idx_main_v15 (idx_main_v16 (idx_main_v17 i)) k) rfl, ← coe_sum, ← sum_mul]
  have hpos : 0 < ∑ k : Fin 8448, Real.exp (scaled (argQ x0) (argKV x1) (rowOf (i 2)) (headOf (i 0) (i 1)) k) :=
    sum_pos (fun k _ => Real.exp_pos _) ⟨0, mem_univ _⟩
  have hM' := Real.exp_pos (-M)
  have z : val_main_cst_2 (F := Ideal) (Shape.Idx.first h_S_) = (0 : EReal) := by
    show Ideal.ofBits .f32 0x00000000#32 = 0
    simp [Ideal.ofBits, Ideal.ieee]
  rw [z, zero_add]
  refine (Ideal.div_coe (mul_pos hpos hM').ne' _).trans ?_
  rw [← EReal.coe_mul]
  refine congrArg _ ?_
  rw [mul_one_div, mul_div_mul_right _ _ hM'.ne']

/-- The reference's result. -/
theorem result_apply (r : Fin 8192) (e : Fin 1024) :
    val_main_v21 (F := Ideal) x0 x1 x2 (ix2 r e) = attention (argQ x0) (argKV x1) (argKV x2) r e := by
  rw [val_main_v21_apply, val_main_v20_apply, val_main_v19_apply]
  unfold attention mean
  refine sum_congr rfl fun k _ => ?_
  rw [val_main_v3_apply, weights_apply x0 x1 hQ hK]
  have e1 : idx_main_v3 (lidx_main_v19 (idx_main_v20 (idx_main_v21 (ix2 r e))) k)
      = ix2 k (⟨128 * (e.val / 128 / 4) + e.val % 128, by omega⟩ : Fin 256) :=
    funext fun a => Fin.ext (by
      match a with
      | 0 => show ((k.val * 2 + (r.val * 1024 + e.val) / 512 % 2) * 128 + (r.val * 1024 + e.val) % 128) / 256 = k.val; omega
      | 1 => show ((k.val * 2 + (r.val * 1024 + e.val) / 512 % 2) * 128 + (r.val * 1024 + e.val) % 128) % 256
              = 128 * (e.val / 128 / 4) + e.val % 128; omega)
  have er : rowOf ((ridx_main_v19 (idx_main_v20 (idx_main_v21 (ix2 r e))) k) 2) = ⟨256 + r.val, by omega⟩ :=
    Fin.ext (by show 256 + (r.val * 1024 + e.val) / 1024 = 256 + r.val; omega)
  have eh : headOf ((ridx_main_v19 (idx_main_v20 (idx_main_v21 (ix2 r e))) k) 0)
      ((ridx_main_v19 (idx_main_v20 (idx_main_v21 (ix2 r e))) k) 1) = ⟨e.val / 128, by omega⟩ :=
    Fin.ext (by show 4 * ((r.val * 1024 + e.val) / 512 % 2) + (r.val * 1024 + e.val) / 128 % 4 = e.val / 128; omega)
  rw [e1, er, eh]
  rfl

end Cert.Attn.Reference

end
-- ==== Proof.Attention.lean ====
/-
  The claims about the latent attention: the frames, the named constant, and the agreement of the idealized kernel with the
  idealized reference wherever the queries and keys are finite.
-/
module

public import proofs.«01_k».proof.Defs
public import proofs.«01_k».proof.Proof.Array
public import proofs.«01_k».proof.Proof.Reference
public import proofs.«01_k».proof.Proof.Gen.Kernel.Frame
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Attn.Claims

open Idealize.ShloMosaic Idealize.ShloMosaic.TcCoe Idealize.SL.Sem

/-- Below infinity in absolute value: a real number. -/
theorem real_of_lt (x : EReal) (h : max x (-x) < ⊤) : x = (x.toReal : EReal) := by
  induction x with
  | bot => exact absurd h (by simp)
  | top => exact absurd h (by simp)
  | coe r => simp

theorem infinity_eq : Ideal.ofBits .f32 0x7F800000#32 = ⊤ := by simp [Ideal.ofBits, Ideal.ieee]

theorem real_of_cmp (x : EReal) (h : Ideal.cmp .olt (max x (-x)) (Ideal.ofBits .f32 0x7F800000#32) = 1#1) : x = (x.toReal : EReal) := by
  rw [infinity_eq] at h
  refine real_of_lt x ?_
  by_contra hn
  rw [Ideal.cmp] at h
  simp [hn] at h

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_pre : Cert.quiescent_ReferenceIdeal_pre_finite := fun m ρ _ => frame_ri m ρ trivial

theorem preserves : Cert.preserves_Kernel_KernelIdeal :=
  IdealRules.named_const.statement Cert.KernelIdeal.κ "qscale" .f32 0x3E0293EE#32 (((11863283 / 134217728) * (Real.log 2)⁻¹ : ℝ) : EReal) rfl

theorem algebraic : Cert.algebraic_KernelIdeal_ReferenceIdeal_pre_finite := by
  intro m ρ m' ρ' hpre hagree
  have hQ (c : Dev Cert.KernelIdeal.nD) (r : Fin 8448) (e : Fin 1024) : argQ m c r e = ((argQ m c r e).toReal : EReal) :=
    real_of_cmp _ (congrFun (hpre c).1 (ix2 r e))
  have hK (c : Dev Cert.KernelIdeal.nD) (r : Fin 8448) (e : Fin 256) : argK m c r e = ((argK m c r e).toReal : EReal) :=
    real_of_cmp _ (congrFun (hpre c).2 (ix2 r e))
  refine ⟨_, (θ_run Cert.KernelIdeal.defs _ _).mono (fun _ h c => ⟨(h c).1.trans (array_eq m c (hQ c) (hK c)), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v21_eq _ _ _).trans (funext fun i => ?_)
  have hi : i = ix2 (i 0) (i 1) := funext fun a => by
    match a with
    | 0 => rfl
    | 1 => rfl
  rw [hi]
  exact Reference.result_apply _ _ _ (hQ c) (hK c) _ _

end Cert.Attn.Claims

end
-- ==== Proof.Projection.lean ====
/-
  The claims about the input projection: each number of the result is one row of the input against one row of the weight, in the
  idealized kernel as in the idealized reference.
-/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Reference2Ideal.Run
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

noncomputable section

namespace Cert.Proj

open Idealize.ShloMosaic Idealize.ShloMosaic.TcCoe Idealize.SL.Sem Finset

/-- The layer's projection of the rows: row `r` of the input against row `s` of the weight. -/
def projected (y : Cert.Kernel2Ideal.S8448x2048.Idx → EReal) (w : Cert.Kernel2Ideal.S4x5760x2048.Idx → EReal) (r : Fin 8448) (s : Fin 5760) : EReal :=
  ∑ k : Fin 2048, y (ix2 r k) * w (ix3 1 s k)

section Kernel

open Cert.Kernel2Ideal Cert.Kernel2Ideal.Gen

variable (m : (ℓ : Loc nD τ sig) → Buf (Elt Ideal) ℓ) (c : Dev nD) (t : Fin cfg0.N)

/-- The windows' blocks at a grid point, by the result block's place. -/
theorem places : ∀ t : Fin grid0.N, (win0_2.index t 0 < 6 ∧ win0_2.index t 1 < 3)
    ∧ (win0_0.index t 0 = win0_2.index t 0 ∧ win0_0.index t 1 = 0)
    ∧ (win0_1.index t 0 = 1 ∧ win0_1.index t 1 = win0_2.index t 1 ∧ win0_1.index t 2 = 0) := by
  decide +kernel

theorem iblk0_apply (a : Fin 1408) (k : Fin 2048) :
    (iblk m c 0 t : Vec Ideal S1408x2048 .bf16) (ix2 a k)
      = m ((c : Thread nD τ).loc main_arg0) (ix2 ⟨1408 * win0_2.index t 0 + a.val, by have := (places t).1.1; omega⟩ k) := by
  unfold iblk
  rw [View.read_apply]
  entry_read
  refine congrArg (m ((c : Thread nD τ).loc main_arg0)) (funext fun b => Fin.ext ?_)
  match b with
  | 0 => show win0_0.index t 0 * 1408 + 1 * a.val = 1408 * win0_2.index t 0 + a.val; rw [(places t).2.1.1]; omega
  | 1 => show win0_0.index t 1 * 2048 + 1 * k.val = k.val; rw [(places t).2.1.2]; omega

theorem iblk1_apply (e : Fin 1920) (k : Fin 2048) :
    (iblk m c 1 t : Vec Ideal S1x1920x2048 .bf16) (ix3 0 e k)
      = m ((c : Thread nD τ).loc main_arg1) (ix3 1 ⟨1920 * win0_2.index t 1 + e.val, by have := (places t).1.2; omega⟩ k) := by
  unfold iblk
  rw [View.read_apply]
  entry_read
  refine congrArg (m ((c : Thread nD τ).loc main_arg1)) (funext fun b => Fin.ext ?_)
  match b with
  | 0 => show win0_1.index t 0 * 1 + 1 * 0 = 1; rw [(places t).2.2.1]
  | 1 => show win0_1.index t 1 * 1920 + 1 * e.val = 1920 * win0_2.index t 1 + e.val; rw [(places t).2.2.2.1]; omega
  | 2 => show win0_1.index t 2 * 2048 + 1 * k.val = k.val; rw [(places t).2.2.2.2]; omega

/-- One number of a block of the result. -/
theorem block_apply (x0 : Vec Ideal S1408x2048 .bf16) (x1 : Vec Ideal S1x1920x2048 .bf16) (a : Fin 1408) (e : Fin 1920) :
    k0_pay1 (F := Ideal) x0 x1 (ix2 a e) = ∑ k : Fin 2048, x0 (ix2 a k) * x1 (ix3 0 e k) := by
  pointwise [k0_pay1]

/-- The result array after the run. -/
theorem array_eq :
    (dats m 0 c).arrAt 2 cfg0.N
      = (fun i => projected (m ((c : Thread nD τ).loc main_arg0)) (m ((c : Thread nD τ).loc main_arg1)) (i 0) (i 1) : S8448x5760.Idx → EReal) := by
  refine (dats m 0 c).arrAt_eq_of_covers 2 _ (by decide +kernel) fun t hf y => ?_
  blk_simp
  rw [after0_2]
  frame_out
  have hy : (y : S1408x1920.Idx) = ix2 (⟨(y 0).val, (y 0).isLt⟩ : Fin 1408) (⟨(y 1).val, (y 1).isLt⟩ : Fin 1920) :=
    funext fun k => Fin.ext (by
      match k with
      | 0 => rfl
      | 1 => rfl)
  have e0 : ((win0_2.blk t).view.emb y 0).val = win0_2.index t 0 * 1408 + 1 * (y 0).val := rfl
  have e1 : ((win0_2.blk t).view.emb y 1).val = win0_2.index t 1 * 1920 + 1 * (y 1).val := rfl
  refine (congrArg (k0_pay1 (F := Ideal) _ _) hy).trans ((block_apply _ _ _ _).trans ?_)
  unfold projected
  refine sum_congr rfl fun k _ => ?_
  rw [iblk0_apply, iblk1_apply]
  refine congrArg₂ (fun x y : EReal => x * y) (congrArg (m ((c : Thread nD τ).loc main_arg0)) (congrArg (ix2 · k) (Fin.ext ?_)))
    (congrArg (m ((c : Thread nD τ).loc main_arg1)) (congrArg (ix3 1 · k) (Fin.ext ?_)))
  · show 1408 * win0_2.index t 0 + (y 0).val = ((win0_2.blk t).view.emb y 0).val
    omega
  · show 1920 * win0_2.index t 1 + (y 1).val = ((win0_2.blk t).view.emb y 1).val
    omega

end Kernel

section Reference

open Cert.Reference2Ideal Cert.Reference2Ideal.Gen Cert.Reference2Ideal.Read

theorem reference_eq (y : S8448x2048.Idx → EReal) (w : S4x5760x2048.Idx → EReal) :
    val_main_v3 (F := Ideal) y w = (fun i => projected y w (i 0) (i 1) : S8448x5760.Idx → EReal) := by
  funext i
  rw [val_main_v3_apply]
  unfold projected
  refine sum_congr rfl fun k _ => ?_
  rw [val_main_v2_apply, val_main_v1_apply, val_main_v0_apply]
  have h1 : (i 1).val < 5760 := (i 1).isLt
  refine congrArg₂ (fun x y : EReal => x * y) (congrArg y (funext fun a => ?_)) (congrArg w (funext fun a => Fin.ext ?_))
  · match a with
    | 0 => rfl
    | 1 => rfl
  · match a with
    | 0 => rfl
    | 1 => show ((i 1).val * 2048 + k.val) / 2048 % 5760 = (i 1).val; omega
    | 2 => show ((i 1).val * 2048 + k.val) % 2048 = k.val; omega

end Reference

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨_, (θ_run Cert.Kernel2Ideal.defs _ _).mono (fun _ h c => ⟨(h c).1.trans (array_eq m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  exact (Cert.Reference2Ideal.Read.val_main_v3_eq _ _).trans (reference_eq _ _)

end Cert.Proj

end
-- ==== Proof.Mixture.lean ====
/-
  The layer's mixture of the three branches, row by row: each branch's output times its gate, the product with the output
  weight, and the residual row that comes out of it.
-/
module

public import Idealize.ShloMosaic.PureOps.Ideal
public import Idealize.ShloMosaic.Lib.Pointwise

@[expose] public section

noncomputable section

namespace Cert.Mix

open Idealize.ShloMosaic Finset

/-- A number times its logistic. -/
def silu (x : EReal) : EReal := x * Ideal.logistic x

/-- One over the root of a row's mean square (the row's length is given as a number), with 1e-6 added under the root. -/
def scaleOf {n : ℕ} (len : EReal) (x : Fin n → EReal) : EReal :=
  Ideal.rsqrt (Ideal.div (∑ k, x k * x k) len + Ideal.ofBits .f32 897988541#32)

/-- The lengths of a head and of a row, as the programs write them. -/
def headLen : EReal := Ideal.ofBits .f32 1124073472#32
def rowLen : EReal := Ideal.ofBits .f32 1157627904#32

/-- Column `k` of 512 as a group of 128 and a place in it. -/
def grp (k : Fin 512) : Fin 4 := ⟨k.val / 128, by omega⟩
def lane (k : Fin 512) : Fin 128 := ⟨k.val % 128, Nat.mod_lt _ (by decide)⟩

/-- Place `e` of group `g`. -/
def col4 (g : Fin 4) (e : Fin 128) : Fin 512 := ⟨128 * g.val + e.val, by omega⟩

/-- The first branch: the two directions added, gated. -/
def branchA (f b : Fin 4 → Fin 128 → EReal) (gate : Fin 512 → EReal) (k : Fin 512) : EReal :=
  (f (grp k) (lane k) + b (grp k) (lane k)) * silu (gate k)

/-- One head of the second branch: the two directions added, normed over the head, gated. -/
def headB (f b : Fin 128 → EReal) (gain gate : Fin 128 → EReal) (e : Fin 128) : EReal :=
  (f e + b e) * scaleOf headLen (fun k => f k + b k) * gain e * silu (gate e)

/-- The second branch. -/
def branchB (f b : Fin 4 → Fin 128 → EReal) (gain : Fin 128 → EReal) (gate : Fin 4 → Fin 128 → EReal) (k : Fin 512) : EReal :=
  headB (f (grp k)) (b (grp k)) gain (gate (grp k)) (lane k)

/-- The third branch: the attention, gated. -/
def branchC (o gate : Fin 1024 → EReal) (k : Fin 1024) : EReal := o k * silu (gate k)

/-- The product of the three branches side by side with the output weight. -/
def product (a b : Fin 512 → EReal) (c : Fin 1024 → EReal) (w : Fin 2048 → Fin 2048 → EReal) (d : Fin 2048) : EReal :=
  ∑ k : Fin 512, a k * w ⟨k.val, by omega⟩ d + ∑ k : Fin 512, b k * w ⟨512 + k.val, by omega⟩ d
    + ∑ k : Fin 1024, c k * w ⟨1024 + k.val, by omega⟩ d

/-- A row normed and scaled. -/
def normed (x gain : Fin 2048 → EReal) (d : Fin 2048) : EReal := x d * scaleOf rowLen x * gain d

/-- A row normed and scaled, then scaled and shifted by the modulation. -/
def modulated (x gain scale shift : Fin 2048 → EReal) (d : Fin 2048) : EReal := normed x gain d * (1 + scale d) + shift d

/-- A choice between four pieces of 128 columns, read by group and place. -/
theorem ladder (p : Fin 4 → Fin 128 → EReal) (k : Fin 512) :
    (if h : k.val < 128 then p 0 ⟨k.val, h⟩
      else if h : k.val - 128 < 128 then p 1 ⟨k.val - 128, h⟩
      else if h : k.val - 128 - 128 < 128 then p 2 ⟨k.val - 128 - 128, h⟩
      else p 3 ⟨k.val - 128 - 128 - 128, by omega⟩) = p (grp k) (lane k) := by
  have hk := k.isLt
  unfold grp lane
  split_ifs with h0 h1 h2
  · exact congrArg₂ p (Fin.ext (by show 0 = k.val / 128; omega)) (Fin.ext (by show k.val = k.val % 128; omega))
  · exact congrArg₂ p (Fin.ext (by show 1 = k.val / 128; omega)) (Fin.ext (by show k.val - 128 = k.val % 128; omega))
  · exact congrArg₂ p (Fin.ext (by show 2 = k.val / 128; omega)) (Fin.ext (by show k.val - 128 - 128 = k.val % 128; omega))
  · exact congrArg₂ p (Fin.ext (by show 3 = k.val / 128; omega)) (Fin.ext (by show k.val - 128 - 128 - 128 = k.val % 128; omega))

/-- The sum over the columns side by side, branch by branch. -/
theorem product_eq_sum (f : Fin 2048 → EReal) (a b : Fin 512 → EReal) (c : Fin 1024 → EReal) (w : Fin 2048 → Fin 2048 → EReal)
    (ha : ∀ k : Fin 512, f ⟨k.val, by omega⟩ = a k) (hb : ∀ k : Fin 512, f ⟨512 + k.val, by omega⟩ = b k)
    (hc : ∀ k : Fin 1024, f ⟨1024 + k.val, by omega⟩ = c k) (d : Fin 2048) :
    ∑ k : Fin 2048, f k * w k d = product a b c w d := by
  unfold product
  rw [show (∑ k : Fin 2048, f k * w k d) = ∑ k : Fin (512 + 512 + 1024), f ⟨k.val, k.isLt⟩ * w ⟨k.val, k.isLt⟩ d from rfl,
    Fin.sum_univ_add, Fin.sum_univ_add]
  refine congrArg₂ (· + ·) (congrArg₂ (· + ·) (sum_congr rfl fun k _ => ?_) (sum_congr rfl fun k _ => ?_)) (sum_congr rfl fun k _ => ?_)
  · rw [← ha]; rfl
  · rw [← hb]; rfl
  · rw [← hc]; rfl

end Cert.Mix

end
-- ==== Proof.MixKernel.lean ====
/-
  The value of the output projection's idealized kernel: each number of the result is one row of the three branches, gated, against
  the output weight, added to the residual row, and the row normed.
-/
module

public import proofs.«01_k».proof.Proof.Mixture
public import proofs.«01_k».proof.Proof.Gen.Kernel3Ideal.Value
public import Idealize.ShloMosaic.Lib.Claim
public import Idealize.ShloMosaic.Lib.Pointwise
public import Idealize.ShloMosaic.Lib.WholeRead
public import Idealize.ShloMosaic.Lib.WritesUnit
public import Idealize.ShloMosaic.Lib.Pipeline.ValueKit

@[expose] public section

noncomputable section

namespace Cert.Mix

open Idealize.ShloMosaic Idealize.ShloMosaic.TcCoe Cert.Kernel3Ideal Cert.Kernel3Ideal.Gen Finset

section Block

variable (c : Dev nD)
  (arg1 : Memref sig .tc .vmem S4x256x128 .f32) (harg1 : arg1.IsWhole) (arg2 : Memref sig .tc .vmem S4x256x128 .f32) (harg2 : arg2.IsWhole)
  (arg3 : Memref sig .tc .vmem S256x512 .f32) (harg3 : arg3.IsWhole) (arg4 : Memref sig .tc .vmem S256x512 .f32) (harg4 : arg4.IsWhole)
  (arg6 : Memref sig .tc .vmem S256x1024 .f32) (harg6 : arg6.IsWhole)
  (arg7 : Memref sig .tc .vmem S256x512 .f32) (harg7 : arg7.IsWhole) (arg8 : Memref sig .tc .vmem S256x512 .f32) (harg8 : arg8.IsWhole)
  (arg9 : Memref sig .tc .vmem S256x1024 .f32) (harg9 : arg9.IsWhole)
  (arg12 : Memref sig .tc .vmem S1x128 .f32) (harg12 : arg12.IsWhole) (arg13 : Memref sig .tc .vmem S1x2048x2048 .bf16) (harg13 : arg13.IsWhole)
  (x0 x1 : Vec Ideal S4x256x128 .f32) (x2 x3 : Vec Ideal S256x512 .f32) (x5 : Vec Ideal S256x1024 .f32)
  (x6 x7 : Vec Ideal S256x512 .f32) (x8 : Vec Ideal S256x1024 .f32) (x11 : Vec Ideal S1x128 .f32) (x12 : Vec Ideal S1x2048x2048 .bf16)

/-- The first branch in the idealized kernel. -/
theorem r_apply (a : Fin 256) (k : Fin 512) :
    kernelRun0_A.sl.r (F := Ideal) c arg1 harg1 arg2 harg2 arg7 harg7 x0 x1 x6 (ix2 a k)
      = branchA (fun g e => x0 (ix3 g a e)) (fun g e => x1 (ix3 g a e)) (fun k => x6 (ix2 a k)) k := by
  unfold kernelRun0_A.sl.r
  pointwise [k0_pay2]
  simp only [harg1.readAt_unread, harg2.readAt_unread, harg7.readAt_unread]
  pointwise []
  refine congrArg₂ (fun x y : EReal => x * y) (ladder (fun g e => x0 (ix3 g a e) + x1 (ix3 g a e)) k) rfl

/-- One head of the second branch, read off a row of the two directions, the gain and the gate. -/
def headOf (a : Fin 256) (g : Fin 4) (e : Fin 128) : EReal :=
  headB (fun e => x2 (ix2 a (col4 g e))) (fun e => x3 (ix2 a (col4 g e))) (fun e => x11 (ix2 0 e)) (fun e => x7 (ix2 a (col4 g e))) e

theorem col4_zero (e : Fin 128) (h : e.val < 512) : (⟨e.val, h⟩ : Fin 512) = col4 0 e := Fin.ext (by show e.val = 128 * 0 + e.val; omega)

/-- The first head of the second branch in the idealized kernel. -/
theorem r_4_apply (a : Fin 256) (e : Fin 128) :
    kernelRun0_A.sl.r_4 (F := Ideal) c arg3 harg3 arg4 harg4 arg8 harg8 arg12 harg12 x2 x3 x7 x11 (ix2 a e)
      = headOf x2 x3 x7 x11 a 0 e := by
  unfold kernelRun0_A.sl.r_4
  pointwise [k0_pay6, k0_pay4, k0_pay5]
  simp only [harg3.readAt_unread, harg4.readAt_unread, harg8.readAt_unread, harg12.readAt_unread]
  pointwise []
  simp only [col4_zero]
  rfl

/-- The second head of the second branch in the idealized kernel. -/
theorem r_5_apply (a : Fin 256) (e : Fin 128) :
    kernelRun0_A.sl.r_5 (F := Ideal) c arg3 harg3 arg4 harg4 arg8 harg8 arg12 harg12 x2 x3 x7 x11 (ix2 a e)
      = headOf x2 x3 x7 x11 a 1 e := by
  unfold kernelRun0_A.sl.r_5
  pointwise [k0_pay7, k0_pay4, k0_pay5]
  simp only [harg3.readAt_unread, harg4.readAt_unread, harg8.readAt_unread, harg12.readAt_unread]
  pointwise []
  rfl

/-- The third branch in the idealized kernel. -/
theorem r_9_apply (a : Fin 256) (k : Fin 1024) :
    kernelRun0_A.sl.r_9 (F := Ideal) c arg6 harg6 arg9 harg9 x5 x8 (ix2 a k)
      = branchC (fun k => x5 (ix2 a k)) (fun k => x8 (ix2 a k)) k := by
  unfold kernelRun0_A.sl.r_9
  pointwise [k0_pay11]
  simp only [harg6.readAt_unread, harg9.readAt_unread]
  pointwise []
  rfl

/-- The product of the first two branches with the upper half of the output weight. -/
theorem r_8_apply (a : Fin 256) (d : Fin 2048) :
    kernelRun0_A.sl.r_8 (F := Ideal) c arg1 harg1 arg2 harg2 arg3 harg3 arg4 harg4 arg7 harg7 arg8 harg8 arg12 harg12 arg13 harg13 x0 x1 x2 x3 x6 x7 x11 x12 (ix2 a d)
      = ∑ k : Fin 512, branchA (fun g e => x0 (ix3 g a e)) (fun g e => x1 (ix3 g a e)) (fun k => x6 (ix2 a k)) k * x12 (ix3 0 ⟨k.val, by omega⟩ d)
        + ∑ k : Fin 512, headOf x2 x3 x7 x11 a (grp k) (lane k) * x12 (ix3 0 ⟨512 + k.val, by omega⟩ d) := by
  unfold kernelRun0_A.sl.r_8 kernelRun0_A.sl.r_1 kernelRun0_A.sl.r_2 kernelRun0_A.sl.r_3 kernelRun0_A.sl.r_6 kernelRun0_A.sl.r_7
  pointwise [k0_pay10, k0_pay3, k0_pay4, k0_pay5, k0_pay8, k0_pay9]
  simp only [harg3.readAt_unread, harg4.readAt_unread, harg8.readAt_unread, harg12.readAt_unread, harg13.readAt_unread]
  pointwise []
  simp only [r_apply, r_4_apply, r_5_apply]
  exact congrArg₂ (fun x y : EReal => x + y) rfl (sum_congr rfl fun k _ =>
    congrArg₂ (fun x y : EReal => x * y) (ladder (headOf x2 x3 x7 x11 a) k) rfl)

end Block

/-- Row `r` of the latent rows, among all the rows. -/
def latent (r : Fin 8192) : Fin 8448 := ⟨256 + r.val, by omega⟩

/-- One number of the result: the residual row with the gated mixture of the branches added, normed. -/
def mixed (yf yb : S4x8448x128.Idx → EReal) (of ob : S8448x512.Idx → EReal) (oc : S8192x1024.Idx → EReal) (z : S8448x5760.Idx → EReal)
    (h : S8448x2048.Idx → EReal) (mod : S8x6144.Idx → EReal) (gain : S1x128.Idx → EReal) (w : S4x2048x2048.Idx → EReal)
    (last : S1x2048.Idx → EReal) (r : Fin 8192) : Fin 2048 → EReal :=
  normed (fun d => h (ix2 (latent r) d) + mod (ix2 0 ⟨4096 + d.val, by omega⟩)
      * product (branchA (fun g e => yf (ix3 g (latent r) e)) (fun g e => yb (ix3 g (latent r) e)) (fun k => z (ix2 (latent r) ⟨4608 + k.val, by omega⟩)))
          (branchB (fun g e => of (ix2 (latent r) (col4 g e))) (fun g e => ob (ix2 (latent r) (col4 g e))) (fun e => gain (ix2 0 e))
            (fun g e => z (ix2 (latent r) ⟨5120 + (col4 g e).val, by omega⟩)))
          (branchC (fun k => oc (ix2 r k)) (fun k => z (ix2 (latent r) ⟨1024 + k.val, by omega⟩)))
          (fun k d => w (ix3 3 k d)) d)
    (fun d => last (ix2 0 d))

section Run
variable (m : (ℓ : Loc nD τ sig) → Buf (Elt Ideal) ℓ) (c : Dev nD) (t : Fin cfg0.N)

/-- No row of a block of the result is one of the context's. -/
theorem no_context : ∀ t : Fin grid0.N, ∀ a : Fin 256,
    IntOp.cmpi .slt (IntOp.addi (kernelRun0_A.sl.v1 (grid0.coords t)) (BitVec.ofNat 32 a.val)) 256#32 = 0#1 := by
  decide +kernel

/-- The windows' blocks at a grid point, by the result block's place. -/
theorem places : ∀ t : Fin grid0.N, (win0_15.index t 0 < 32 ∧ win0_15.index t 1 = 0)
    ∧ (win0_0.index t 0 = 0 ∧ win0_0.index t 1 = win0_15.index t 0 + 1 ∧ win0_0.index t 2 = 0)
    ∧ (win0_1.index t 0 = 0 ∧ win0_1.index t 1 = win0_15.index t 0 + 1 ∧ win0_1.index t 2 = 0)
    ∧ (win0_2.index t 0 = win0_15.index t 0 + 1 ∧ win0_2.index t 1 = 0)
    ∧ (win0_3.index t 0 = win0_15.index t 0 + 1 ∧ win0_3.index t 1 = 0)
    ∧ (win0_5.index t 0 = win0_15.index t 0 ∧ win0_5.index t 1 = 0)
    ∧ (win0_6.index t 0 = win0_15.index t 0 + 1 ∧ win0_6.index t 1 = 9)
    ∧ (win0_7.index t 0 = win0_15.index t 0 + 1 ∧ win0_7.index t 1 = 10)
    ∧ (win0_8.index t 0 = win0_15.index t 0 + 1 ∧ win0_8.index t 1 = 1)
    ∧ (win0_9.index t 0 = win0_15.index t 0 + 1 ∧ win0_9.index t 1 = 0)
    ∧ (win0_10.index t 0 = 0 ∧ win0_10.index t 1 = 0)
    ∧ (win0_11.index t 0 = 0 ∧ win0_11.index t 1 = 0)
    ∧ (win0_12.index t 0 = 3 ∧ win0_12.index t 1 = 0 ∧ win0_12.index t 2 = 0)
    ∧ (win0_13.index t 0 = 0 ∧ win0_13.index t 1 = 0) := by
  decide +kernel

/-- The latent row that row `a` of the result's block is. -/
def rowOf (a : Fin 256) : Fin 8192 := ⟨256 * win0_15.index t 0 + a.val, by have := (places t).1.1; omega⟩

theorem iblk0_apply (g : Fin 4) (a : Fin 256) (e : Fin 128) :
    (iblk m c 0 t : Vec Ideal S4x256x128 .f32) (ix3 g a e) = m ((c : Thread nD τ).loc main_arg0) (ix3 g (latent (rowOf t a)) e) := by
  unfold iblk
  rw [View.read_apply]
  entry_read
  refine congrArg (m ((c : Thread nD τ).loc main_arg0)) (funext fun b => Fin.ext ?_)
  match b with
  | 0 => show win0_0.index t 0 * 4 + 1 * g.val = g.val; rw [(places t).2.1.1]; omega
  | 1 => show win0_0.index t 1 * 256 + 1 * a.val = 256 + (256 * win0_15.index t 0 + a.val); rw [(places t).2.1.2.1]; omega
  | 2 => show win0_0.index t 2 * 128 + 1 * e.val = e.val; rw [(places t).2.1.2.2]; omega

theorem iblk1_apply (g : Fin 4) (a : Fin 256) (e : Fin 128) :
    (iblk m c 1 t : Vec Ideal S4x256x128 .f32) (ix3 g a e) = m ((c : Thread nD τ).loc main_arg1) (ix3 g (latent (rowOf t a)) e) := by
  unfold iblk
  rw [View.read_apply]
  entry_read
  refine congrArg (m ((c : Thread nD τ).loc main_arg1)) (funext fun b => Fin.ext ?_)
  match b with
  | 0 => show win0_1.index t 0 * 4 + 1 * g.val = g.val; rw [(places t).2.2.1.1]; omega
  | 1 => show win0_1.index t 1 * 256 + 1 * a.val = 256 + (256 * win0_15.index t 0 + a.val); rw [(places t).2.2.1.2.1]; omega
  | 2 => show win0_1.index t 2 * 128 + 1 * e.val = e.val; rw [(places t).2.2.1.2.2]; omega

theorem iblk2_apply (a : Fin 256) (k : Fin 512) :
    (iblk m c 2 t : Vec Ideal S256x512 .f32) (ix2 a k) = m ((c : Thread nD τ).loc main_arg2) (ix2 (latent (rowOf t a)) k) := by
  unfold iblk
  rw [View.read_apply]
  entry_read
  refine congrArg (m ((c : Thread nD τ).loc main_arg2)) (funext fun b => Fin.ext ?_)
  match b with
  | 0 => show win0_2.index t 0 * 256 + 1 * a.val = 256 + (256 * win0_15.index t 0 + a.val); rw [(places t).2.2.2.1.1]; omega
  | 1 => show win0_2.index t 1 * 512 + 1 * k.val = k.val; rw [(places t).2.2.2.1.2]; omega

theorem iblk3_apply (a : Fin 256) (k : Fin 512) :
    (iblk m c 3 t : Vec Ideal S256x512 .f32) (ix2 a k) = m ((c : Thread nD τ).loc main_arg3) (ix2 (latent (rowOf t a)) k) := by
  unfold iblk
  rw [View.read_apply]
  entry_read
  refine congrArg (m ((c : Thread nD τ).loc main_arg3)) (funext fun b => Fin.ext ?_)
  match b with
  | 0 => show win0_3.index t 0 * 256 + 1 * a.val = 256 + (256 * win0_15.index t 0 + a.val); rw [(places t).2.2.2.2.1.1]; omega
  | 1 => show win0_3.index t 1 * 512 + 1 * k.val = k.val; rw [(places t).2.2.2.2.1.2]; omega

theorem iblk5_apply (a : Fin 256) (k : Fin 1024) :
    (iblk m c 5 t : Vec Ideal S256x1024 .f32) (ix2 a k) = m ((c : Thread nD τ).loc main_arg4) (ix2 (rowOf t a) k) := by
  unfold iblk
  rw [View.read_apply]
  entry_read
  refine congrArg (m ((c : Thread nD τ).loc main_arg4)) (funext fun b => Fin.ext ?_)
  match b with
  | 0 => show win0_5.index t 0 * 256 + 1 * a.val = 256 * win0_15.index t 0 + a.val; rw [(places t).2.2.2.2.2.1.1]; omega
  | 1 => show win0_5.index t 1 * 1024 + 1 * k.val = k.val; rw [(places t).2.2.2.2.2.1.2]; omega

theorem iblk9_apply (a : Fin 256) (k : Fin 2048) :
    (iblk m c 9 t : Vec Ideal S256x2048 .f32) (ix2 a k) = m ((c : Thread nD τ).loc main_arg6) (ix2 (latent (rowOf t a)) k) := by
  unfold iblk
  rw [View.read_apply]
  entry_read
  refine congrArg (m ((c : Thread nD τ).loc main_arg6)) (funext fun b => Fin.ext ?_)
  match b with
  | 0 => show win0_9.index t 0 * 256 + 1 * a.val = 256 + (256 * win0_15.index t 0 + a.val); rw [(places t).2.2.2.2.2.2.2.2.2.1.1]; omega
  | 1 => show win0_9.index t 1 * 2048 + 1 * k.val = k.val; rw [(places t).2.2.2.2.2.2.2.2.2.1.2]; omega

theorem iblk10_apply (a : Fin 8) (k : Fin 6144) :
    (iblk m c 10 t : Vec Ideal S8x6144 .f32) (ix2 a k) = m ((c : Thread nD τ).loc main_arg7) (ix2 a k) := by
  unfold iblk
  rw [View.read_apply]
  entry_read
  refine congrArg (m ((c : Thread nD τ).loc main_arg7)) (funext fun b => Fin.ext ?_)
  match b with
  | 0 => show win0_10.index t 0 * 8 + 1 * a.val = a.val; rw [(places t).2.2.2.2.2.2.2.2.2.2.1.1]; omega
  | 1 => show win0_10.index t 1 * 6144 + 1 * k.val = k.val; rw [(places t).2.2.2.2.2.2.2.2.2.2.1.2]; omega

theorem iblk11_apply (k : Fin 128) :
    (iblk m c 11 t : Vec Ideal S1x128 .f32) (ix2 0 k) = m ((c : Thread nD τ).loc main_arg8) (ix2 0 k) := by
  unfold iblk
  rw [View.read_apply]
  entry_read
  refine congrArg (m ((c : Thread nD τ).loc main_arg8)) (funext fun b => Fin.ext ?_)
  match b with
  | 0 => show win0_11.index t 0 * 1 + 1 * 0 = 0; rw [(places t).2.2.2.2.2.2.2.2.2.2.2.1.1]
  | 1 => show win0_11.index t 1 * 128 + 1 * k.val = k.val; rw [(places t).2.2.2.2.2.2.2.2.2.2.2.1.2]; omega

theorem iblk13_apply (k : Fin 2048) :
    (iblk m c 13 t : Vec Ideal S1x2048 .f32) (ix2 0 k) = m ((c : Thread nD τ).loc main_arg10) (ix2 0 k) := by
  unfold iblk
  rw [View.read_apply]
  entry_read
  refine congrArg (m ((c : Thread nD τ).loc main_arg10)) (funext fun b => Fin.ext ?_)
  match b with
  | 0 => show win0_13.index t 0 * 1 + 1 * 0 = 0; rw [(places t).2.2.2.2.2.2.2.2.2.2.2.2.2.1]
  | 1 => show win0_13.index t 1 * 2048 + 1 * k.val = k.val; rw [(places t).2.2.2.2.2.2.2.2.2.2.2.2.2.2]; omega

theorem iblk12_apply (k d : Fin 2048) :
    (iblk m c 12 t : Vec Ideal S1x2048x2048 .bf16) (ix3 0 k d) = m ((c : Thread nD τ).loc main_arg9) (ix3 3 k d) := by
  unfold iblk
  rw [View.read_apply]
  entry_read
  refine congrArg (m ((c : Thread nD τ).loc main_arg9)) (funext fun b => Fin.ext ?_)
  match b with
  | 0 => show win0_12.index t 0 * 1 + 1 * 0 = 3; rw [(places t).2.2.2.2.2.2.2.2.2.2.2.2.1.1]
  | 1 => show win0_12.index t 1 * 2048 + 1 * k.val = k.val; rw [(places t).2.2.2.2.2.2.2.2.2.2.2.2.1.2.1]; omega
  | 2 => show win0_12.index t 2 * 2048 + 1 * d.val = d.val; rw [(places t).2.2.2.2.2.2.2.2.2.2.2.2.1.2.2]; omega

theorem X0_6_apply (a : Fin 256) (k : Fin 512) :
    X0_6 m c t (ix2 a k) = m ((c : Thread nD τ).loc main_arg5) (ix2 (latent (rowOf t a)) ⟨4608 + k.val, by omega⟩) := by
  unfold X0_6 Pipeline.Window.fill
  rw [dif_pos (moved0_6 t (ix2 a k))]
  unfold iblk
  rw [View.read_apply]
  entry_read
  refine congrArg (m ((c : Thread nD τ).loc main_arg5)) (funext fun b => Fin.ext ?_)
  match b with
  | 0 => show win0_6.index t 0 * 256 + 1 * a.val = 256 + (256 * win0_15.index t 0 + a.val); rw [(places t).2.2.2.2.2.2.1.1]; omega
  | 1 => show win0_6.index t 1 * 512 + 1 * k.val = 4608 + k.val; rw [(places t).2.2.2.2.2.2.1.2]; omega

theorem X0_7_apply (a : Fin 256) (k : Fin 512) :
    X0_7 m c t (ix2 a k) = m ((c : Thread nD τ).loc main_arg5) (ix2 (latent (rowOf t a)) ⟨5120 + k.val, by omega⟩) := by
  unfold X0_7 Pipeline.Window.fill
  rw [dif_pos (moved0_7 t (ix2 a k))]
  unfold iblk
  rw [View.read_apply]
  entry_read
  refine congrArg (m ((c : Thread nD τ).loc main_arg5)) (funext fun b => Fin.ext ?_)
  match b with
  | 0 => show win0_7.index t 0 * 256 + 1 * a.val = 256 + (256 * win0_15.index t 0 + a.val); rw [(places t).2.2.2.2.2.2.2.1.1]; omega
  | 1 => show win0_7.index t 1 * 512 + 1 * k.val = 5120 + k.val; rw [(places t).2.2.2.2.2.2.2.1.2]; omega

theorem X0_8_apply (a : Fin 256) (k : Fin 1024) :
    X0_8 m c t (ix2 a k) = m ((c : Thread nD τ).loc main_arg5) (ix2 (latent (rowOf t a)) ⟨1024 + k.val, by omega⟩) := by
  unfold X0_8 Pipeline.Window.fill
  rw [dif_pos (moved0_8 t (ix2 a k))]
  unfold iblk
  rw [View.read_apply]
  entry_read
  refine congrArg (m ((c : Thread nD τ).loc main_arg5)) (funext fun b => Fin.ext ?_)
  match b with
  | 0 => show win0_8.index t 0 * 256 + 1 * a.val = 256 + (256 * win0_15.index t 0 + a.val); rw [(places t).2.2.2.2.2.2.2.2.1.1]; omega
  | 1 => show win0_8.index t 1 * 1024 + 1 * k.val = 1024 + k.val; rw [(places t).2.2.2.2.2.2.2.2.1.2]; omega

/-- One number of a block of the result. -/
theorem outsAt0_apply (a : Fin 256) (d : Fin 2048) :
    outsAt0 m c t (ix2 a d)
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (rowOf t a) d := by
  unfold outsAt0 out0_A_15 kernelRun0_A
  refine (View.read_writes_cons_unit_of_mem _ _ inb_S256x2048_S256x2048_0_0 _ _ _ (ix2 a d) rfl (fun k => ?_)).trans ?_
  · match k with
      | 0 => exact (Nat.zero_add _).symm
      | 1 => exact (Nat.zero_add _).symm
  · pointwise [k0_pay1]
    simp only [r_8_apply, r_9_apply, Memref.IsWhole.readAt_unread]
    pointwise []
    simp only [no_context, headOf, iblk0_apply, iblk1_apply, iblk2_apply, iblk3_apply, iblk5_apply, iblk9_apply, iblk10_apply, iblk11_apply,
      iblk12_apply, iblk13_apply, X0_6_apply, X0_7_apply, X0_8_apply]
    rfl

/-- The result array after the run. -/
theorem array_eq :
    (dats m 0 c).arrAt 15 cfg0.N
      = (fun i => mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (i 0) (i 1) : S8192x2048.Idx → EReal) := by
  refine (dats m 0 c).arrAt_eq_of_covers 15 _ (by decide +kernel) fun t hf y => ?_
  blk_simp
  rw [after0_15]
  have hy : (y : S256x2048.Idx) = ix2 (⟨(y 0).val, (y 0).isLt⟩ : Fin 256) (⟨(y 1).val, (y 1).isLt⟩ : Fin 2048) :=
    funext fun k => Fin.ext (by
      match k with
      | 0 => rfl
      | 1 => rfl)
  have e0 : ((win0_15.blk t).view.emb y 0).val = win0_15.index t 0 * 256 + 1 * (y 0).val := rfl
  have e1 : ((win0_15.blk t).view.emb y 1).val = win0_15.index t 1 * 2048 + 1 * (y 1).val := rfl
  refine (congrArg (outsAt0 m c t) hy).trans ((outsAt0_apply m c t _ _).trans ?_)
  refine congrArg₂ (mixed _ _ _ _ _ _ _ _ _ _ _) (Fin.ext ?_) (Fin.ext ?_)
  · show 256 * win0_15.index t 0 + (y 0).val = ((win0_15.blk t).view.emb y 0).val
    omega
  · show (y 1).val = ((win0_15.blk t).view.emb y 1).val
    rw [e1, (places t).1.2]
    omega

end Run

end Cert.Mix

end
-- ==== Proof.Mixing.lean ====
/-
  The claims about the output projection: the idealized reference holds the same number at every place as the idealized kernel.
-/
module

public import proofs.«01_k».proof.Defs
public import proofs.«01_k».proof.Proof.MixKernel
public import proofs.«01_k».proof.Proof.Gen.Kernel3.Frame
public import proofs.«01_k».proof.Proof.Gen.Reference3Ideal.Read
public import proofs.«01_k».proof.Proof.Gen.Reference3Ideal.Run
public import Idealize.ShloMosaic.Adequacy
public import Idealize.ShloMosaic.Init
public import Idealize.ShloMosaic.Lib.Claim
public import Idealize.ShloMosaic.Lib.Pointwise

@[expose] public section

noncomputable section

namespace Cert.Mix

open Idealize.ShloMosaic Idealize.ShloMosaic.TcCoe Idealize.SL.Sem Finset

section Reference

open Cert.Reference3Ideal Cert.Reference3Ideal.Gen Cert.Reference3Ideal.Read

variable (x0 x1 : S4x8448x128.Idx → EReal) (x2 x3 : S8448x512.Idx → EReal) (x4 : S8192x1024.Idx → EReal) (x5 : S8448x5760.Idx → EReal)
  (x6 : S8448x2048.Idx → EReal) (x7 : S8x6144.Idx → EReal) (x8 : S1x128.Idx → EReal) (x9 : S4x2048x2048.Idx → EReal)
  (x10 : S1x2048.Idx → EReal) (r : Fin 8192)

/-- The first branch in the reference. -/
theorem v28_eq (k : Fin 512) :
    val_main_v28 (F := Ideal) x0 x1 x5 (ix2 r k)
      = branchA (fun g e => x0 (ix3 g (latent r) e)) (fun g e => x1 (ix3 g (latent r) e))
          (fun k => x5 (ix2 (latent r) ⟨4608 + k.val, by omega⟩)) k := by
  pointwise [val_main_v28, val_main_v27, val_main_v3, val_main_v2, val_main_v1, val_main_v0, val_main_v22, val_main_call0_v0, val_main_call0_v1, val_main_call0_v2, val_main_call0_v3, val_main_call0_v4, val_main_call0_v5, val_main_call0_cst,
    val_main_call0_cst_0]
  rfl

/-- The second branch in the reference. -/
theorem v30_eq (k : Fin 512) :
    val_main_v30 (F := Ideal) x2 x3 x5 x8 (ix2 r k)
      = branchB (fun g e => x2 (ix2 (latent r) (col4 g e))) (fun g e => x3 (ix2 (latent r) (col4 g e))) (fun e => x8 (ix2 0 e))
          (fun g e => x5 (ix2 (latent r) ⟨5120 + (col4 g e).val, by omega⟩)) k := by
  pointwise [val_main_v30, val_main_v29, val_main_call1_v0, val_main_call1_v1, val_main_call1_v2, val_main_call1_v3, val_main_call1_v4, val_main_call1_v5, val_main_call1_cst,
    val_main_call1_cst_0, val_main_v23,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_cst, val_main_cst_0, val_main_cst_1]
  have hk : col4 (grp k) (lane k) = k := Fin.ext (by show 128 * (k.val / 128) + k.val % 128 = k.val; omega)
  have hx : ∀ (x : Fin 128) (h : k.val / 128 * 128 + x.val < 512), (⟨k.val / 128 * 128 + x.val, h⟩ : Fin 512) = col4 (grp k) x :=
    fun x h => Fin.ext (by show k.val / 128 * 128 + x.val = 128 * (k.val / 128) + x.val; omega)
  unfold branchB headB
  simp only [hx, hk]
  rfl

/-- The third branch in the reference. -/
theorem v32_eq (k : Fin 1024) :
    val_main_v32 (F := Ideal) x4 x5 (ix2 r k)
      = branchC (fun k => x4 (ix2 r k)) (fun k => x5 (ix2 (latent r) ⟨1024 + k.val, by omega⟩)) k := by
  pointwise [val_main_v32, val_main_v31, val_main_v24, val_main_call2_v0, val_main_call2_v1, val_main_call2_v2, val_main_call2_v3, val_main_call2_v4, val_main_call2_v5, val_main_call2_cst,
    val_main_call2_cst_0]
  rfl

/-- The row that comes out of the residual stream in the reference. -/
theorem v41_eq (d : Fin 2048) :
    val_main_v41 (F := Ideal) x0 x1 x2 x3 x4 x5 x6 x7 x8 x9 (ix2 r d)
      = x6 (ix2 (latent r) d) + x7 (ix2 0 ⟨4096 + d.val, by omega⟩)
          * product (branchA (fun g e => x0 (ix3 g (latent r) e)) (fun g e => x1 (ix3 g (latent r) e))
                (fun k => x5 (ix2 (latent r) ⟨4608 + k.val, by omega⟩)))
              (branchB (fun g e => x2 (ix2 (latent r) (col4 g e))) (fun g e => x3 (ix2 (latent r) (col4 g e))) (fun e => x8 (ix2 0 e))
                (fun g e => x5 (ix2 (latent r) ⟨5120 + (col4 g e).val, by omega⟩)))
              (branchC (fun k => x4 (ix2 r k)) (fun k => x5 (ix2 (latent r) ⟨1024 + k.val, by omega⟩)))
              (fun k d => x9 (ix3 3 k d)) d := by
  pointwise [val_main_v41, val_main_v40, val_main_v39, val_main_v38, val_main_v37, val_main_v36, val_main_v35, val_main_v34, val_main_v26,
    val_main_v25]
  refine congrArg₂ (fun x y : EReal => x + y) rfl (congrArg₂ (fun x y : EReal => x * y) rfl ?_)
  refine product_eq_sum (fun k => val_main_v33 (F := Ideal) x0 x1 x2 x3 x4 x5 x8 (ix2 r k)) _ _ _ (fun k d => x9 (ix3 3 k d))
    (fun k => ?_) (fun k => ?_) (fun k => ?_) d
  · pointwise [val_main_v33]
    exact v28_eq x0 x1 x5 r k
  · pointwise [val_main_v33]
    exact v30_eq x2 x3 x5 x8 r k
  · pointwise [val_main_v33]
    rw [dif_neg (by omega), dif_neg (by omega)]
    refine (congrArg (fun k => val_main_v32 (F := Ideal) x4 x5 (ix2 r k)) (Fin.ext ?_)).trans (v32_eq x4 x5 r k)
    show 1024 + k.val - 512 - 512 = k.val
    omega

/-- One number of the reference's result. -/
theorem v55_eq (d : Fin 2048) :
    val_main_v55 (F := Ideal) x0 x1 x2 x3 x4 x5 x6 x7 x8 x9 x10 (ix2 r d) = mixed x0 x1 x2 x3 x4 x5 x6 x7 x8 x9 x10 r d := by
  pointwise [val_main_v55, val_main_v54, val_main_v53, val_main_v52, val_main_v51, val_main_v50, val_main_v49, val_main_v48, val_main_v47,
    val_main_v46, val_main_v45, val_main_v44, val_main_v43, val_main_v42, val_main_cst_2, val_main_cst_3, val_main_cst_4]
  simp only [v41_eq]
  rfl

theorem reference_eq :
    val_main_v55 (F := Ideal) x0 x1 x2 x3 x4 x5 x6 x7 x8 x9 x10
      = (fun i => mixed x0 x1 x2 x3 x4 x5 x6 x7 x8 x9 x10 (i 0) (i 1) : S8192x2048.Idx → EReal) := by
  funext i
  have hi : (i : S8192x2048.Idx) = ix2 (⟨(i 0).val, (i 0).isLt⟩ : Fin 8192) (⟨(i 1).val, (i 1).isLt⟩ : Fin 2048) :=
    funext fun k => Fin.ext (by
      match k with
      | 0 => rfl
      | 1 => rfl)
  exact (congrArg (val_main_v55 (F := Ideal) x0 x1 x2 x3 x4 x5 x6 x7 x8 x9 x10) hi).trans
    (v55_eq x0 x1 x2 x3 x4 x5 x6 x7 x8 x9 x10 _ _)

end Reference

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨_, (θ_run Cert.Kernel3Ideal.defs _ _).mono (fun _ h c => ⟨(h c).1.trans (array_eq m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7, h8, h9, h10⟩ := hagree c
  refine (Cert.Reference3Ideal.Read.val_main_v55_eq _ _).trans ?_
  rw [h0, h1, h2, h3, h4, h5, h6, h7, h8, h9, h10]
  exact reference_eq _ _ _ _ _ _ _ _ _ _ _

end Cert.Mix

end
-- ==== Proof.ResKernel.lean ====
/-
  The value of the idealized kernel of the output projection between two layers: each number of the first result is one row of the
  three branches, gated, against the output weight, added to the residual row; the second result is that row normed and modulated.
-/
module

public import proofs.«01_k».proof.Proof.Mixture
public import proofs.«01_k».proof.Proof.Gen.Kernel4Ideal.Value
public import Idealize.ShloMosaic.Lib.Claim
public import Idealize.ShloMosaic.Lib.Pointwise
public import Idealize.ShloMosaic.Lib.WholeRead
public import Idealize.ShloMosaic.Lib.WritesUnit
public import Idealize.ShloMosaic.Lib.Pipeline.ValueKit

@[expose] public section

noncomputable section

namespace Cert.Res

open Idealize.ShloMosaic Idealize.ShloMosaic.TcCoe Cert.Kernel4Ideal Cert.Kernel4Ideal.Gen Cert.Mix Finset

section Block

variable (c : Dev nD)
  (arg1 : Memref sig .tc .vmem S4x256x128 .f32) (harg1 : arg1.IsWhole) (arg2 : Memref sig .tc .vmem S4x256x128 .f32) (harg2 : arg2.IsWhole)
  (arg3 : Memref sig .tc .vmem S256x512 .f32) (harg3 : arg3.IsWhole) (arg4 : Memref sig .tc .vmem S256x512 .f32) (harg4 : arg4.IsWhole)
  (arg6 : Memref sig .tc .vmem S256x1024 .f32) (harg6 : arg6.IsWhole)
  (arg7 : Memref sig .tc .vmem S256x512 .f32) (harg7 : arg7.IsWhole) (arg8 : Memref sig .tc .vmem S256x512 .f32) (harg8 : arg8.IsWhole)
  (arg9 : Memref sig .tc .vmem S256x1024 .f32) (harg9 : arg9.IsWhole)
  (arg12 : Memref sig .tc .vmem S1x128 .f32) (harg12 : arg12.IsWhole) (arg13 : Memref sig .tc .vmem S1x2048x2048 .bf16) (harg13 : arg13.IsWhole)
  (x0 x1 : Vec Ideal S4x256x128 .f32) (x2 x3 : Vec Ideal S256x512 .f32) (x5 : Vec Ideal S256x1024 .f32)
  (x6 x7 : Vec Ideal S256x512 .f32) (x8 : Vec Ideal S256x1024 .f32) (x11 : Vec Ideal S1x128 .f32) (x12 : Vec Ideal S1x2048x2048 .bf16)

/-- The first branch in the idealized kernel. -/
theorem r_apply (a : Fin 256) (k : Fin 512) :
    kernelRun0_A.sl.r (F := Ideal) c arg1 harg1 arg2 harg2 arg7 harg7 x0 x1 x6 (ix2 a k)
      = branchA (fun g e => x0 (ix3 g a e)) (fun g e => x1 (ix3 g a e)) (fun k => x6 (ix2 a k)) k := by
  unfold kernelRun0_A.sl.r
  pointwise [k0_pay2]
  simp only [harg1.readAt_unread, harg2.readAt_unread, harg7.readAt_unread]
  pointwise []
  refine congrArg₂ (fun x y : EReal => x * y) (ladder (fun g e => x0 (ix3 g a e) + x1 (ix3 g a e)) k) rfl

/-- One head of the second branch, read off a row of the two directions, the gain and the gate. -/
def headOf (a : Fin 256) (g : Fin 4) (e : Fin 128) : EReal :=
  headB (fun e => x2 (ix2 a (col4 g e))) (fun e => x3 (ix2 a (col4 g e))) (fun e => x11 (ix2 0 e)) (fun e => x7 (ix2 a (col4 g e))) e

theorem col4_zero (e : Fin 128) (h : e.val < 512) : (⟨e.val, h⟩ : Fin 512) = col4 0 e := Fin.ext (by show e.val = 128 * 0 + e.val; omega)

/-- The first head of the second branch in the idealized kernel. -/
theorem r_4_apply (a : Fin 256) (e : Fin 128) :
    kernelRun0_A.sl.r_4 (F := Ideal) c arg3 harg3 arg4 harg4 arg8 harg8 arg12 harg12 x2 x3 x7 x11 (ix2 a e)
      = headOf x2 x3 x7 x11 a 0 e := by
  unfold kernelRun0_A.sl.r_4
  pointwise [k0_pay6, k0_pay4, k0_pay5]
  simp only [harg3.readAt_unread, harg4.readAt_unread, harg8.readAt_unread, harg12.readAt_unread]
  pointwise []
  simp only [col4_zero]
  rfl

/-- The second head of the second branch in the idealized kernel. -/
theorem r_5_apply (a : Fin 256) (e : Fin 128) :
    kernelRun0_A.sl.r_5 (F := Ideal) c arg3 harg3 arg4 harg4 arg8 harg8 arg12 harg12 x2 x3 x7 x11 (ix2 a e)
      = headOf x2 x3 x7 x11 a 1 e := by
  unfold kernelRun0_A.sl.r_5
  pointwise [k0_pay7, k0_pay4, k0_pay5]
  simp only [harg3.readAt_unread, harg4.readAt_unread, harg8.readAt_unread, harg12.readAt_unread]
  pointwise []
  rfl

/-- The product of the first two branches with the upper half of the output weight. -/
theorem r_8_apply (a : Fin 256) (d : Fin 2048) :
    kernelRun0_A.sl.r_8 (F := Ideal) c arg1 harg1 arg2 harg2 arg3 harg3 arg4 harg4 arg7 harg7 arg8 harg8 arg12 harg12 arg13 harg13 x0 x1 x2 x3 x6 x7 x11 x12 (ix2 a d)
      = ∑ k : Fin 512, branchA (fun g e => x0 (ix3 g a e)) (fun g e => x1 (ix3 g a e)) (fun k => x6 (ix2 a k)) k * x12 (ix3 0 ⟨k.val, by omega⟩ d)
        + ∑ k : Fin 512, headOf x2 x3 x7 x11 a (grp k) (lane k) * x12 (ix3 0 ⟨512 + k.val, by omega⟩ d) := by
  unfold kernelRun0_A.sl.r_8 kernelRun0_A.sl.r_1 kernelRun0_A.sl.r_2 kernelRun0_A.sl.r_3 kernelRun0_A.sl.r_6 kernelRun0_A.sl.r_7
  pointwise [k0_pay10, k0_pay3, k0_pay4, k0_pay5, k0_pay8, k0_pay9]
  simp only [harg3.readAt_unread, harg4.readAt_unread, harg8.readAt_unread, harg12.readAt_unread, harg13.readAt_unread]
  pointwise []
  simp only [r_apply, r_4_apply, r_5_apply]
  exact congrArg₂ (fun x y : EReal => x + y) rfl (sum_congr rfl fun k _ =>
    congrArg₂ (fun x y : EReal => x * y) (ladder (headOf x2 x3 x7 x11 a) k) rfl)

end Block

/-- The row of the modulation that a row is under: 1 for the context's rows, 0 for the latent ones. -/
def modAt (mod : S8x6144.Idx → EReal) (r : Fin 8448) (k : Fin 6144) : EReal := if r.val < 256 then mod (ix2 1 k) else mod (ix2 0 k)

/-- The attention's row: the context's rows come from one array, the latent ones from another. -/
def attended (octx : S256x1024.Idx → EReal) (olat : S8192x1024.Idx → EReal) (r : Fin 8448) (k : Fin 1024) : EReal :=
  if h : r.val < 256 then octx (ix2 ⟨r.val, h⟩ k) else olat (ix2 ⟨r.val - 256, by omega⟩ k)

/-- The residual row with the gated mixture of the branches added. -/
def residual (yf yb : S4x8448x128.Idx → EReal) (of ob : S8448x512.Idx → EReal) (octx : S256x1024.Idx → EReal)
    (olat : S8192x1024.Idx → EReal) (z : S8448x5760.Idx → EReal) (h : S8448x2048.Idx → EReal) (mod : S8x6144.Idx → EReal)
    (gain : S1x128.Idx → EReal) (w : S4x2048x2048.Idx → EReal) (r : Fin 8448) (d : Fin 2048) : EReal :=
  h (ix2 r d) + modAt mod r ⟨4096 + d.val, by omega⟩
      * product (branchA (fun g e => yf (ix3 g r e)) (fun g e => yb (ix3 g r e)) (fun k => z (ix2 r ⟨4608 + k.val, by omega⟩)))
          (branchB (fun g e => of (ix2 r (col4 g e))) (fun g e => ob (ix2 r (col4 g e))) (fun e => gain (ix2 0 e))
            (fun g e => z (ix2 r ⟨5120 + (col4 g e).val, by omega⟩)))
          (branchC (attended octx olat r) (fun k => z (ix2 r ⟨1024 + k.val, by omega⟩)))
          (fun k d => w (ix3 1 k d)) d

/-- A row normed, scaled and modulated for the next layer. -/
def next (x : Fin 2048 → EReal) (gain : S1x2048.Idx → EReal) (mod : S8x6144.Idx → EReal) (r : Fin 8448) : Fin 2048 → EReal :=
  modulated x (fun d => gain (ix2 0 d)) (fun d => modAt mod r ⟨2048 + d.val, by omega⟩) (fun d => modAt mod r ⟨d.val, by omega⟩)

section Run
variable (m : (ℓ : Loc nD τ sig) → Buf (Elt Ideal) ℓ) (c : Dev nD) (t : Fin cfg0.N)

/-- The windows' blocks at a grid point, by the result block's place. -/
theorem places : ∀ t : Fin grid0.N, (win0_15.index t 0 < 33 ∧ win0_15.index t 1 = 0)
    ∧ (win0_0.index t 0 = 0 ∧ win0_0.index t 1 = win0_15.index t 0 ∧ win0_0.index t 2 = 0)
    ∧ (win0_1.index t 0 = 0 ∧ win0_1.index t 1 = win0_15.index t 0 ∧ win0_1.index t 2 = 0)
    ∧ (win0_2.index t 0 = win0_15.index t 0 ∧ win0_2.index t 1 = 0)
    ∧ (win0_3.index t 0 = win0_15.index t 0 ∧ win0_3.index t 1 = 0)
    ∧ (win0_5.index t 0 = win0_15.index t 0 - 1 ∧ win0_5.index t 1 = 0)
    ∧ (win0_6.index t 0 = win0_15.index t 0 ∧ win0_6.index t 1 = 9)
    ∧ (win0_7.index t 0 = win0_15.index t 0 ∧ win0_7.index t 1 = 10)
    ∧ (win0_8.index t 0 = win0_15.index t 0 ∧ win0_8.index t 1 = 1)
    ∧ (win0_9.index t 0 = win0_15.index t 0 ∧ win0_9.index t 1 = 0)
    ∧ (win0_10.index t 0 = 0 ∧ win0_10.index t 1 = 0)
    ∧ (win0_11.index t 0 = 0 ∧ win0_11.index t 1 = 0)
    ∧ (win0_12.index t 0 = 1 ∧ win0_12.index t 1 = 0 ∧ win0_12.index t 2 = 0)
    ∧ (win0_13.index t 0 = 0 ∧ win0_13.index t 1 = 0)
    ∧ (win0_14.index t 0 = 0 ∧ win0_14.index t 1 = 0)
    ∧ (win0_4.index t 0 = 0 ∧ win0_4.index t 1 = 0)
    ∧ (win0_16.index t 0 = win0_15.index t 0 ∧ win0_16.index t 1 = 0) := by
  decide +kernel

/-- The row that row `a` of the result's block is. -/
def rowOf (a : Fin 256) : Fin 8448 := ⟨256 * win0_15.index t 0 + a.val, by have := (places t).1.1; omega⟩

theorem is_context : ∀ t : Fin grid0.N, ∀ a : Fin 256,
    IntOp.cmpi .slt (IntOp.addi (kernelRun0_A.sl.v1 (grid0.coords t)) (BitVec.ofNat 32 a.val)) 256#32
      = if 256 * win0_15.index t 0 + a.val < 256 then 1#1 else 0#1 := by
  decide +kernel

/-- The choice between the context's and the latent row of the modulation. -/
theorem pick_row (a : Fin 256) (p q : EReal) :
    Scalar.select (IntOp.cmpi .slt (IntOp.addi (kernelRun0_A.sl.v1 (grid0.coords t)) (BitVec.ofNat 32 a.val)) 256#32) p q
      = if (rowOf t a).val < 256 then p else q := by
  rw [is_context]
  show Scalar.select (if (rowOf t a).val < 256 then 1#1 else 0#1) p q = _
  split_ifs
  · rfl
  · rfl

theorem iblk0_apply (g : Fin 4) (a : Fin 256) (e : Fin 128) :
    (iblk m c 0 t : Vec Ideal S4x256x128 .f32) (ix3 g a e) = m ((c : Thread nD τ).loc main_arg0) (ix3 g (rowOf t a) e) := by
  unfold iblk
  rw [View.read_apply]
  entry_read
  refine congrArg (m ((c : Thread nD τ).loc main_arg0)) (funext fun b => Fin.ext ?_)
  match b with
  | 0 => show win0_0.index t 0 * 4 + 1 * g.val = g.val; rw [(places t).2.1.1]; omega
  | 1 => show win0_0.index t 1 * 256 + 1 * a.val = 256 * win0_15.index t 0 + a.val; rw [(places t).2.1.2.1]; omega
  | 2 => show win0_0.index t 2 * 128 + 1 * e.val = e.val; rw [(places t).2.1.2.2]; omega

theorem iblk1_apply (g : Fin 4) (a : Fin 256) (e : Fin 128) :
    (iblk m c 1 t : Vec Ideal S4x256x128 .f32) (ix3 g a e) = m ((c : Thread nD τ).loc main_arg1) (ix3 g (rowOf t a) e) := by
  unfold iblk
  rw [View.read_apply]
  entry_read
  refine congrArg (m ((c : Thread nD τ).loc main_arg1)) (funext fun b => Fin.ext ?_)
  match b with
  | 0 => show win0_1.index t 0 * 4 + 1 * g.val = g.val; rw [(places t).2.2.1.1]; omega
  | 1 => show win0_1.index t 1 * 256 + 1 * a.val = 256 * win0_15.index t 0 + a.val; rw [(places t).2.2.1.2.1]; omega
  | 2 => show win0_1.index t 2 * 128 + 1 * e.val = e.val; rw [(places t).2.2.1.2.2]; omega

theorem iblk2_apply (a : Fin 256) (k : Fin 512) :
    (iblk m c 2 t : Vec Ideal S256x512 .f32) (ix2 a k) = m ((c : Thread nD τ).loc main_arg2) (ix2 (rowOf t a) k) := by
  unfold iblk
  rw [View.read_apply]
  entry_read
  refine congrArg (m ((c : Thread nD τ).loc main_arg2)) (funext fun b => Fin.ext ?_)
  match b with
  | 0 => show win0_2.index t 0 * 256 + 1 * a.val = 256 * win0_15.index t 0 + a.val; rw [(places t).2.2.2.1.1]; omega
  | 1 => show win0_2.index t 1 * 512 + 1 * k.val = k.val; rw [(places t).2.2.2.1.2]; omega

theorem iblk3_apply (a : Fin 256) (k : Fin 512) :
    (iblk m c 3 t : Vec Ideal S256x512 .f32) (ix2 a k) = m ((c : Thread nD τ).loc main_arg3) (ix2 (rowOf t a) k) := by
  unfold iblk
  rw [View.read_apply]
  entry_read
  refine congrArg (m ((c : Thread nD τ).loc main_arg3)) (funext fun b => Fin.ext ?_)
  match b with
  | 0 => show win0_3.index t 0 * 256 + 1 * a.val = 256 * win0_15.index t 0 + a.val; rw [(places t).2.2.2.2.1.1]; omega
  | 1 => show win0_3.index t 1 * 512 + 1 * k.val = k.val; rw [(places t).2.2.2.2.1.2]; omega

theorem iblk4_apply (a : Fin 256) (k : Fin 1024) :
    (iblk m c 4 t : Vec Ideal S256x1024 .f32) (ix2 a k) = m ((c : Thread nD τ).loc main_arg4) (ix2 a k) := by
  unfold iblk
  rw [View.read_apply]
  entry_read
  refine congrArg (m ((c : Thread nD τ).loc main_arg4)) (funext fun b => Fin.ext ?_)
  match b with
  | 0 => show win0_4.index t 0 * 256 + 1 * a.val = a.val; rw [(places t).2.2.2.2.2.2.2.2.2.2.2.2.2.2.2.1.1]; omega
  | 1 => show win0_4.index t 1 * 1024 + 1 * k.val = k.val; rw [(places t).2.2.2.2.2.2.2.2.2.2.2.2.2.2.2.1.2]; omega

theorem iblk5_apply (a : Fin 256) (k : Fin 1024) (h : ¬ (rowOf t a).val < 256) :
    (iblk m c 5 t : Vec Ideal S256x1024 .f32) (ix2 a k)
      = m ((c : Thread nD τ).loc main_arg5) (ix2 ⟨(rowOf t a).val - 256, by omega⟩ k) := by
  have h' : ¬ 256 * win0_15.index t 0 + a.val < 256 := h
  unfold iblk
  rw [View.read_apply]
  entry_read
  refine congrArg (m ((c : Thread nD τ).loc main_arg5)) (funext fun b => Fin.ext ?_)
  match b with
  | 0 => show win0_5.index t 0 * 256 + 1 * a.val = 256 * win0_15.index t 0 + a.val - 256; rw [(places t).2.2.2.2.2.1.1]; omega
  | 1 => show win0_5.index t 1 * 1024 + 1 * k.val = k.val; rw [(places t).2.2.2.2.2.1.2]; omega

theorem iblk14_apply (a : Fin 8) (k : Fin 6144) :
    (iblk m c 14 t : Vec Ideal S8x6144 .f32) (ix2 a k) = m ((c : Thread nD τ).loc main_arg12) (ix2 a k) := by
  unfold iblk
  rw [View.read_apply]
  entry_read
  refine congrArg (m ((c : Thread nD τ).loc main_arg12)) (funext fun b => Fin.ext ?_)
  match b with
  | 0 => show win0_14.index t 0 * 8 + 1 * a.val = a.val; rw [(places t).2.2.2.2.2.2.2.2.2.2.2.2.2.2.1.1]; omega
  | 1 => show win0_14.index t 1 * 6144 + 1 * k.val = k.val; rw [(places t).2.2.2.2.2.2.2.2.2.2.2.2.2.2.1.2]; omega

theorem iblk9_apply (a : Fin 256) (k : Fin 2048) :
    (iblk m c 9 t : Vec Ideal S256x2048 .f32) (ix2 a k) = m ((c : Thread nD τ).loc main_arg7) (ix2 (rowOf t a) k) := by
  unfold iblk
  rw [View.read_apply]
  entry_read
  refine congrArg (m ((c : Thread nD τ).loc main_arg7)) (funext fun b => Fin.ext ?_)
  match b with
  | 0 => show win0_9.index t 0 * 256 + 1 * a.val = 256 * win0_15.index t 0 + a.val; rw [(places t).2.2.2.2.2.2.2.2.2.1.1]; omega
  | 1 => show win0_9.index t 1 * 2048 + 1 * k.val = k.val; rw [(places t).2.2.2.2.2.2.2.2.2.1.2]; omega

theorem iblk10_apply (a : Fin 8) (k : Fin 6144) :
    (iblk m c 10 t : Vec Ideal S8x6144 .f32) (ix2 a k) = m ((c : Thread nD τ).loc main_arg8) (ix2 a k) := by
  unfold iblk
  rw [View.read_apply]
  entry_read
  refine congrArg (m ((c : Thread nD τ).loc main_arg8)) (funext fun b => Fin.ext ?_)
  match b with
  | 0 => show win0_10.index t 0 * 8 + 1 * a.val = a.val; rw [(places t).2.2.2.2.2.2.2.2.2.2.1.1]; omega
  | 1 => show win0_10.index t 1 * 6144 + 1 * k.val = k.val; rw [(places t).2.2.2.2.2.2.2.2.2.2.1.2]; omega

theorem iblk11_apply (k : Fin 128) :
    (iblk m c 11 t : Vec Ideal S1x128 .f32) (ix2 0 k) = m ((c : Thread nD τ).loc main_arg9) (ix2 0 k) := by
  unfold iblk
  rw [View.read_apply]
  entry_read
  refine congrArg (m ((c : Thread nD τ).loc main_arg9)) (funext fun b => Fin.ext ?_)
  match b with
  | 0 => show win0_11.index t 0 * 1 + 1 * 0 = 0; rw [(places t).2.2.2.2.2.2.2.2.2.2.2.1.1]
  | 1 => show win0_11.index t 1 * 128 + 1 * k.val = k.val; rw [(places t).2.2.2.2.2.2.2.2.2.2.2.1.2]; omega

theorem iblk13_apply (k : Fin 2048) :
    (iblk m c 13 t : Vec Ideal S1x2048 .f32) (ix2 0 k) = m ((c : Thread nD τ).loc main_arg11) (ix2 0 k) := by
  unfold iblk
  rw [View.read_apply]
  entry_read
  refine congrArg (m ((c : Thread nD τ).loc main_arg11)) (funext fun b => Fin.ext ?_)
  match b with
  | 0 => show win0_13.index t 0 * 1 + 1 * 0 = 0; rw [(places t).2.2.2.2.2.2.2.2.2.2.2.2.2.1.1]
  | 1 => show win0_13.index t 1 * 2048 + 1 * k.val = k.val; rw [(places t).2.2.2.2.2.2.2.2.2.2.2.2.2.1.2]; omega

theorem iblk12_apply (k d : Fin 2048) :
    (iblk m c 12 t : Vec Ideal S1x2048x2048 .bf16) (ix3 0 k d) = m ((c : Thread nD τ).loc main_arg10) (ix3 1 k d) := by
  unfold iblk
  rw [View.read_apply]
  entry_read
  refine congrArg (m ((c : Thread nD τ).loc main_arg10)) (funext fun b => Fin.ext ?_)
  match b with
  | 0 => show win0_12.index t 0 * 1 + 1 * 0 = 1; rw [(places t).2.2.2.2.2.2.2.2.2.2.2.2.1.1]
  | 1 => show win0_12.index t 1 * 2048 + 1 * k.val = k.val; rw [(places t).2.2.2.2.2.2.2.2.2.2.2.2.1.2.1]; omega
  | 2 => show win0_12.index t 2 * 2048 + 1 * d.val = d.val; rw [(places t).2.2.2.2.2.2.2.2.2.2.2.2.1.2.2]; omega

theorem X0_6_apply (a : Fin 256) (k : Fin 512) :
    X0_6 m c t (ix2 a k) = m ((c : Thread nD τ).loc main_arg6) (ix2 (rowOf t a) ⟨4608 + k.val, by omega⟩) := by
  unfold X0_6 Pipeline.Window.fill
  rw [dif_pos (moved0_6 t (ix2 a k))]
  unfold iblk
  rw [View.read_apply]
  entry_read
  refine congrArg (m ((c : Thread nD τ).loc main_arg6)) (funext fun b => Fin.ext ?_)
  match b with
  | 0 => show win0_6.index t 0 * 256 + 1 * a.val = 256 * win0_15.index t 0 + a.val; rw [(places t).2.2.2.2.2.2.1.1]; omega
  | 1 => show win0_6.index t 1 * 512 + 1 * k.val = 4608 + k.val; rw [(places t).2.2.2.2.2.2.1.2]; omega

theorem X0_7_apply (a : Fin 256) (k : Fin 512) :
    X0_7 m c t (ix2 a k) = m ((c : Thread nD τ).loc main_arg6) (ix2 (rowOf t a) ⟨5120 + k.val, by omega⟩) := by
  unfold X0_7 Pipeline.Window.fill
  rw [dif_pos (moved0_7 t (ix2 a k))]
  unfold iblk
  rw [View.read_apply]
  entry_read
  refine congrArg (m ((c : Thread nD τ).loc main_arg6)) (funext fun b => Fin.ext ?_)
  match b with
  | 0 => show win0_7.index t 0 * 256 + 1 * a.val = 256 * win0_15.index t 0 + a.val; rw [(places t).2.2.2.2.2.2.2.1.1]; omega
  | 1 => show win0_7.index t 1 * 512 + 1 * k.val = 5120 + k.val; rw [(places t).2.2.2.2.2.2.2.1.2]; omega

theorem X0_8_apply (a : Fin 256) (k : Fin 1024) :
    X0_8 m c t (ix2 a k) = m ((c : Thread nD τ).loc main_arg6) (ix2 (rowOf t a) ⟨1024 + k.val, by omega⟩) := by
  unfold X0_8 Pipeline.Window.fill
  rw [dif_pos (moved0_8 t (ix2 a k))]
  unfold iblk
  rw [View.read_apply]
  entry_read
  refine congrArg (m ((c : Thread nD τ).loc main_arg6)) (funext fun b => Fin.ext ?_)
  match b with
  | 0 => show win0_8.index t 0 * 256 + 1 * a.val = 256 * win0_15.index t 0 + a.val; rw [(places t).2.2.2.2.2.2.2.2.1.1]; omega
  | 1 => show win0_8.index t 1 * 1024 + 1 * k.val = 1024 + k.val; rw [(places t).2.2.2.2.2.2.2.2.1.2]; omega

theorem block_context : ∀ t : Fin grid0.N, ∀ a : Fin 256,
    Scalar.cmpi .slt (kernelRun0_A.sl.v1 (grid0.coords t)) 256#32
      = if 256 * win0_15.index t 0 + a.val < 256 then 1#1 else 0#1 := by
  decide +kernel

/-- The choice between the context's and the latent attention. -/
theorem pick_attended (a : Fin 256) (k : Fin 1024) :
    kernelRun0_A.sl.r_9 (F := Ideal) c (grid0.coords t) (ms0_4 t) (hs0_4 t) (ms0_5 t) (hs0_5 t) (iblk m c 4 t) (iblk m c 5 t) (ix2 a k)
      = attended (m ((c : Thread nD τ).loc main_arg4)) (m ((c : Thread nD τ).loc main_arg5)) (rowOf t a) k := by
  unfold kernelRun0_A.sl.r_9 k0_pay11
  have h4 : View.readAt (Elt Ideal) (ms0_4 t).view (Rect.unit (s := S256x1024) ![0, 0] ![256, 1024] inb_S256x1024_S256x1024_0_0).toLoadRect
      ((hs0_4 t).unread (iblk m c 4 t)) (ix2 a k) = m ((c : Thread nD τ).loc main_arg4) (ix2 a k) := by
    rw [Memref.IsWhole.readAt_unread]
    pointwise []
    exact iblk4_apply m c t a k
  have h5 (h : ¬ (rowOf t a).val < 256) :
      View.readAt (Elt Ideal) (ms0_5 t).view (Rect.unit (s := S256x1024) ![0, 0] ![256, 1024] inb_S256x1024_S256x1024_0_0).toLoadRect
      ((hs0_5 t).unread (iblk m c 5 t)) (ix2 a k) = m ((c : Thread nD τ).loc main_arg5) (ix2 ⟨(rowOf t a).val - 256, by omega⟩ k) := by
    rw [Memref.IsWhole.readAt_unread]
    pointwise []
    exact iblk5_apply m c t a k h
  have hb := block_context t a
  by_cases h : (rowOf t a).val < 256
  · have h' : 256 * win0_15.index t 0 + a.val < 256 := h
    have hu : (⟨a.val, by omega⟩ : Fin 256) = ⟨(rowOf t a).val, h⟩ := Fin.ext (by show a.val = 256 * win0_15.index t 0 + a.val; omega)
    rw [if_pos h'] at hb
    have e : Scalar.cmpi .slt (kernelRun0_A.sl.v1 (grid0.coords t)) 256#32 = 1#1 := hb
    dsimp only
    rw [e]
    refine h4.trans ?_
    unfold attended
    rw [dif_pos h, ← hu]
  · have h' : ¬ 256 * win0_15.index t 0 + a.val < 256 := h
    rw [if_neg h'] at hb
    have e : Scalar.cmpi .slt (kernelRun0_A.sl.v1 (grid0.coords t)) 256#32 = 0#1 := hb
    dsimp only
    rw [e]
    refine (h5 h).trans ?_
    unfold attended
    rw [dif_neg h]

/-- One number of the residual row that the kernel leaves. -/
theorem residual_apply (a : Fin 256) (d : Fin 2048) :
    k0_pay12 (F := Ideal) (kernelRun0_A.sl.v1 (grid0.coords t))
        (kernelRun0_A.sl.r_8 c (ms0_0 t) (hs0_0 t) (ms0_1 t) (hs0_1 t) (ms0_2 t) (hs0_2 t) (ms0_3 t) (hs0_3 t) (ms0_6 t) (hs0_6 t)
          (ms0_7 t) (hs0_7 t) (ms0_11 t) (hs0_11 t) (ms0_12 t) (hs0_12 t) (iblk m c 0 t) (iblk m c 1 t) (iblk m c 2 t) (iblk m c 3 t)
          (X0_6 m c t) (X0_7 m c t) (iblk m c 11 t) (iblk m c 12 t))
        (kernelRun0_A.sl.r_9 c (grid0.coords t) (ms0_4 t) (hs0_4 t) (ms0_5 t) (hs0_5 t) (iblk m c 4 t) (iblk m c 5 t))
        (View.readAt (Elt Ideal) (ms0_8 t).view (Rect.unit (s := S256x1024) ![0, 0] ![256, 1024] inb_S256x1024_S256x1024_0_0).toLoadRect
          ((hs0_8 t).unread (X0_8 m c t)))
        (View.readAt (Elt Ideal) (ms0_12 t).view
          (Rect.unit (s := S1x2048x2048) ![0, 1024, 0] ![1, 1024, 2048] inb_S1x2048x2048_S1x1024x2048_0_1024_0).toLoadRect ((hs0_12 t).unread (iblk m c 12 t)))
        (View.readAt (Elt Ideal) (ms0_10 t).view (Rect.unit (s := S8x6144) ![1, 4096] ![1, 2048] inb_S8x6144_S1x2048_1_4096).toLoadRect
          ((hs0_10 t).unread (iblk m c 10 t)))
        (View.readAt (Elt Ideal) (ms0_10 t).view (Rect.unit (s := S8x6144) ![0, 4096] ![1, 2048] inb_S8x6144_S1x2048_0_4096).toLoadRect
          ((hs0_10 t).unread (iblk m c 10 t)))
        (View.readAt (Elt Ideal) (ms0_9 t).view (Rect.unit (s := S256x2048) ![0, 0] ![256, 2048] inb_S256x2048_S256x2048_0_0).toLoadRect
          ((hs0_9 t).unread (iblk m c 9 t))) (ix2 a d)
      = residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (rowOf t a) d := by
  pointwise [k0_pay12]
  simp only [r_8_apply, pick_row, Memref.IsWhole.readAt_unread]
  pointwise []
  simp only [pick_attended, headOf, iblk0_apply, iblk1_apply, iblk2_apply, iblk3_apply, iblk9_apply, iblk10_apply, iblk11_apply,
    iblk12_apply, X0_6_apply, X0_7_apply, X0_8_apply]
  rfl

/-- One number of a block of the first result. -/
theorem outs1_apply (a : Fin 256) (d : Fin 2048) :
    (outsAt0 m c t).1 (ix2 a d)
      = residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (rowOf t a) d := by
  unfold outsAt0
  dsimp only
  unfold out0_A_15 kernelRun0_A
  refine (View.read_writes_cons_unit_of_mem _ _ inb_S256x2048_S256x2048_0_0 _ _ _ (ix2 a d) rfl (fun k => ?_)).trans ?_
  · match k with
      | 0 => exact (Nat.zero_add _).symm
      | 1 => exact (Nat.zero_add _).symm
  · exact residual_apply m c t a d

/-- One number of a block of the second result. -/
theorem outs2_apply (a : Fin 256) (d : Fin 2048) :
    (outsAt0 m c t).2 (ix2 a d)
      = next (fun k => residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (rowOf t a) k) (m ((c : Thread nD τ).loc main_arg11)) (m ((c : Thread nD τ).loc main_arg12)) (rowOf t a) d := by
  unfold outsAt0
  dsimp only
  unfold out0_A_16 kernelRun0_A
  refine (View.read_writes_cons_unit_of_mem _ _ inb_S256x2048_S256x2048_0_0 _ _ _ (ix2 a d) rfl (fun k => ?_)).trans ?_
  · match k with
      | 0 => exact (Nat.zero_add _).symm
      | 1 => exact (Nat.zero_add _).symm
  · unfold kernelRun0_A.sl.r_10
    pointwise [k0_pay1, k0_pay13]
    simp only [residual_apply]
    simp only [pick_row, Memref.IsWhole.readAt_unread]
    pointwise []
    simp only [iblk13_apply, iblk14_apply]
    rfl

/-- The first result array after the run. -/
theorem array1_eq :
    (dats m 0 c).arrAt 15 cfg0.N
      = (fun i => residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (i 0) (i 1) : S8448x2048.Idx → EReal) := by
  refine (dats m 0 c).arrAt_eq_of_covers 15 _ (by decide +kernel) fun t hf y => ?_
  blk_simp
  rw [after0_15]
  have hy : (y : S256x2048.Idx) = ix2 (⟨(y 0).val, (y 0).isLt⟩ : Fin 256) (⟨(y 1).val, (y 1).isLt⟩ : Fin 2048) :=
    funext fun k => Fin.ext (by
      match k with
      | 0 => rfl
      | 1 => rfl)
  have e0 : ((win0_15.blk t).view.emb y 0).val = win0_15.index t 0 * 256 + 1 * (y 0).val := rfl
  have e1 : ((win0_15.blk t).view.emb y 1).val = win0_15.index t 1 * 2048 + 1 * (y 1).val := rfl
  refine (congrArg (outsAt0 m c t).1 hy).trans ((outs1_apply m c t _ _).trans ?_)
  refine congrArg₂ (residual _ _ _ _ _ _ _ _ _ _ _) (Fin.ext ?_) (Fin.ext ?_)
  · show 256 * win0_15.index t 0 + (y 0).val = ((win0_15.blk t).view.emb y 0).val
    have p := (places t).1.1
    omega
  · show (y 1).val = ((win0_15.blk t).view.emb y 1).val
    rw [e1, (places t).1.2]
    omega

/-- The second result array after the run. -/
theorem array2_eq :
    (dats m 0 c).arrAt 16 cfg0.N
      = (fun i => next (fun k => residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (i 0) k) (m ((c : Thread nD τ).loc main_arg11)) (m ((c : Thread nD τ).loc main_arg12)) (i 0) (i 1) : S8448x2048.Idx → EReal) := by
  refine (dats m 0 c).arrAt_eq_of_covers 16 _ (by decide +kernel) fun t hf y => ?_
  blk_simp
  rw [after0_16]
  have hy : (y : S256x2048.Idx) = ix2 (⟨(y 0).val, (y 0).isLt⟩ : Fin 256) (⟨(y 1).val, (y 1).isLt⟩ : Fin 2048) :=
    funext fun k => Fin.ext (by
      match k with
      | 0 => rfl
      | 1 => rfl)
  have e0 : ((win0_16.blk t).view.emb y 0).val = win0_16.index t 0 * 256 + 1 * (y 0).val := rfl
  have e1 : ((win0_16.blk t).view.emb y 1).val = win0_16.index t 1 * 2048 + 1 * (y 1).val := rfl
  refine (congrArg (outsAt0 m c t).2 hy).trans ((outs2_apply m c t _ _).trans ?_)
  refine congrArg₂ (fun r : Fin 8448 => next (fun k => residual _ _ _ _ _ _ _ _ _ _ _ r k) _ _ r) (Fin.ext ?_) (Fin.ext ?_)
  · show 256 * win0_15.index t 0 + (y 0).val = ((win0_16.blk t).view.emb y 0).val
    have p := (places t).2.2.2.2.2.2.2.2.2.2.2.2.2.2.2.2.1
    omega
  · show (y 1).val = ((win0_16.blk t).view.emb y 1).val
    rw [e1, (places t).2.2.2.2.2.2.2.2.2.2.2.2.2.2.2.2.2]
    omega

end Run

end Cert.Res

end
-- ==== Proof.Residual.lean ====
/-
  The claims about the output projection between two layers: the idealized reference holds the same numbers at every place of both
  results as the idealized kernel.
-/
module

public import proofs.«01_k».proof.Defs
public import proofs.«01_k».proof.Proof.ResKernel
public import proofs.«01_k».proof.Proof.Gen.Kernel4.Frame
public import proofs.«01_k».proof.Proof.Gen.Reference4Ideal.Read
public import proofs.«01_k».proof.Proof.Gen.Reference4Ideal.Run
public import Idealize.ShloMosaic.Adequacy
public import Idealize.ShloMosaic.Init
public import Idealize.ShloMosaic.Lib.Claim
public import Idealize.ShloMosaic.Lib.Pointwise

@[expose] public section

noncomputable section

namespace Cert.Res

open Idealize.ShloMosaic Idealize.ShloMosaic.TcCoe Idealize.SL.Sem Cert.Mix Finset

section Reference

open Cert.Reference4Ideal Cert.Reference4Ideal.Gen Cert.Reference4Ideal.Read

/-- A latent row among all the rows. -/
def late (r : Fin 8192) : Fin 8448 := ⟨256 + r.val, by omega⟩

/-- A row of the context among all the rows. -/
def early (r : Fin 256) : Fin 8448 := ⟨r.val, by omega⟩

theorem modAt_late (mod : S8x6144.Idx → EReal) (r : Fin 8192) (k : Fin 6144) : modAt mod (late r) k = mod (ix2 0 k) :=
  if_neg (by show ¬ 256 + r.val < 256; omega)

theorem modAt_early (mod : S8x6144.Idx → EReal) (r : Fin 256) (k : Fin 6144) : modAt mod (early r) k = mod (ix2 1 k) :=
  if_pos r.isLt

theorem attended_late (octx : S256x1024.Idx → EReal) (olat : S8192x1024.Idx → EReal) (r : Fin 8192) (k : Fin 1024) :
    attended octx olat (late r) k = olat (ix2 r k) := by
  unfold attended
  rw [dif_neg (by show ¬ 256 + r.val < 256; omega)]
  exact congrArg (fun q : Fin 8192 => olat (ix2 q k)) (Fin.ext (by show 256 + r.val - 256 = r.val; omega))

theorem attended_early (octx : S256x1024.Idx → EReal) (olat : S8192x1024.Idx → EReal) (r : Fin 256) (k : Fin 1024) :
    attended octx olat (early r) k = octx (ix2 r k) := by
  unfold attended
  rw [dif_pos (by exact r.isLt)]
  rfl

variable (x0 x1 : S4x8448x128.Idx → EReal) (x2 x3 : S8448x512.Idx → EReal) (x4 : S256x1024.Idx → EReal) (x5 : S8192x1024.Idx → EReal)
  (x6 : S8448x5760.Idx → EReal) (x7 : S8448x2048.Idx → EReal) (x8 : S8x6144.Idx → EReal) (x9 : S1x128.Idx → EReal)
  (x10 : S4x2048x2048.Idx → EReal) (x11 : S1x2048.Idx → EReal) (x12 : S8x6144.Idx → EReal)

/-- The first branch of a latent row in the reference. -/
theorem a_late (r : Fin 8192) (k : Fin 512) :
    val_main_v33 (F := Ideal) x0 x1 x6 (ix2 r k)
      = branchA (fun g e => x0 (ix3 g (late r) e)) (fun g e => x1 (ix3 g (late r) e))
          (fun k => x6 (ix2 (late r) ⟨4608 + k.val, by omega⟩)) k := by
  pointwise [val_main_v33, val_main_v32, val_main_v28, val_main_v12, val_main_v11, val_main_v6, val_main_v4, val_main_v0,
    val_main_call0_v0, val_main_call0_v1, val_main_call0_v2, val_main_call0_v3, val_main_call0_v4, val_main_call0_v5,
    val_main_call0_cst, val_main_call0_cst_0]
  rfl

/-- The second branch of a latent row in the reference. -/
theorem b_late (r : Fin 8192) (k : Fin 512) :
    val_main_v35 (F := Ideal) x2 x3 x6 x9 (ix2 r k)
      = branchB (fun g e => x2 (ix2 (late r) (col4 g e))) (fun g e => x3 (ix2 (late r) (col4 g e))) (fun e => x9 (ix2 0 e))
          (fun g e => x6 (ix2 (late r) ⟨5120 + (col4 g e).val, by omega⟩)) k := by
  pointwise [val_main_v35, val_main_v34, val_main_call1_v0, val_main_call1_v1, val_main_call1_v2, val_main_call1_v3, val_main_call1_v4,
    val_main_call1_v5, val_main_call1_cst, val_main_call1_cst_0, val_main_v29, val_main_v27, val_main_v26, val_main_v25,
    val_main_v24, val_main_v23, val_main_v22, val_main_v21, val_main_v20, val_main_v19, val_main_v18, val_main_v17, val_main_v16,
    val_main_v15, val_main_v14, val_main_v13, val_main_v10, val_main_v6, val_main_v5, val_main_v1, val_main_cst, val_main_cst_0,
    val_main_cst_1]
  have hk : col4 (grp k) (lane k) = k := Fin.ext (by show 128 * (k.val / 128) + k.val % 128 = k.val; omega)
  have hx : ∀ (x : Fin 128) (h : k.val / 128 * 128 + x.val < 512), (⟨k.val / 128 * 128 + x.val, h⟩ : Fin 512) = col4 (grp k) x :=
    fun x h => Fin.ext (by show k.val / 128 * 128 + x.val = 128 * (k.val / 128) + x.val; omega)
  unfold branchB headB
  simp only [hx, hk]
  rfl

/-- The third branch of a latent row in the reference. -/
theorem c_late (r : Fin 8192) (k : Fin 1024) :
    val_main_v37 (F := Ideal) x5 x6 (ix2 r k)
      = branchC (attended x4 x5 (late r)) (fun k => x6 (ix2 (late r) ⟨1024 + k.val, by omega⟩)) k := by
  pointwise [val_main_v37, val_main_v36, val_main_v30, val_main_v6, val_main_call2_v0, val_main_call2_v1, val_main_call2_v2,
    val_main_call2_v3, val_main_call2_v4, val_main_call2_v5, val_main_call2_cst, val_main_call2_cst_0]
  unfold branchC
  rw [attended_late]
  rfl

/-- A latent row with the mixture added in the reference. -/
theorem residual_late (r : Fin 8192) (d : Fin 2048) :
    val_main_v43 (F := Ideal) x0 x1 x2 x3 x5 x6 x7 x8 x9 x10 (ix2 r d)
      = residual x0 x1 x2 x3 x4 x5 x6 x7 x8 x9 x10 (late r) d := by
  unfold residual
  rw [modAt_late]
  pointwise [val_main_v43, val_main_v42, val_main_v41, val_main_v40, val_main_v39, val_main_v31, val_main_v9, val_main_v8, val_main_v7,
    val_main_v3, val_main_v2]
  refine congrArg₂ (fun x y : EReal => x + y) rfl (congrArg₂ (fun x y : EReal => x * y) rfl ?_)
  refine product_eq_sum (fun k => val_main_v38 (F := Ideal) x0 x1 x2 x3 x5 x6 x9 (ix2 r k)) _ _ _ (fun k d => x10 (ix3 1 k d))
    (fun k => ?_) (fun k => ?_) (fun k => ?_) d
  · pointwise [val_main_v38]
    exact a_late x0 x1 x6 r k
  · pointwise [val_main_v38]
    exact b_late x2 x3 x6 x9 r k
  · pointwise [val_main_v38]
    rw [dif_neg (by omega), dif_neg (by omega)]
    refine (congrArg (fun k => val_main_v37 (F := Ideal) x5 x6 (ix2 r k)) (Fin.ext ?_)).trans (c_late x4 x5 x6 r k)
    show 1024 + k.val - 512 - 512 = k.val
    omega

/-- The first branch of a context row in the reference. -/
theorem a_early (r : Fin 256) (k : Fin 512) :
    val_main_v73 (F := Ideal) x0 x1 x6 (ix2 r k)
      = branchA (fun g e => x0 (ix3 g (early r) e)) (fun g e => x1 (ix3 g (early r) e))
          (fun k => x6 (ix2 (early r) ⟨4608 + k.val, by omega⟩)) k := by
  pointwise [val_main_v73, val_main_v72, val_main_v68, val_main_v52, val_main_v51, val_main_v46, val_main_v44, val_main_v0,
    val_main_call3_v0, val_main_call3_v1, val_main_call3_v2, val_main_call3_v3, val_main_call3_v4, val_main_call3_v5,
    val_main_call3_cst, val_main_call3_cst_0]
  rfl

/-- The second branch of a context row in the reference. -/
theorem b_early (r : Fin 256) (k : Fin 512) :
    val_main_v75 (F := Ideal) x2 x3 x6 x9 (ix2 r k)
      = branchB (fun g e => x2 (ix2 (early r) (col4 g e))) (fun g e => x3 (ix2 (early r) (col4 g e))) (fun e => x9 (ix2 0 e))
          (fun g e => x6 (ix2 (early r) ⟨5120 + (col4 g e).val, by omega⟩)) k := by
  pointwise [val_main_v75, val_main_v74, val_main_call4_v0, val_main_call4_v1, val_main_call4_v2, val_main_call4_v3, val_main_call4_v4,
    val_main_call4_v5, val_main_call4_cst, val_main_call4_cst_0, val_main_v69, val_main_v67, val_main_v66, val_main_v65,
    val_main_v64, val_main_v63, val_main_v62, val_main_v61, val_main_v60, val_main_v59, val_main_v58, val_main_v57, val_main_v56,
    val_main_v55, val_main_v54, val_main_v53, val_main_v50, val_main_v46, val_main_v45, val_main_v1, val_main_cst_2,
    val_main_cst_3, val_main_cst_4]
  have hk : col4 (grp k) (lane k) = k := Fin.ext (by show 128 * (k.val / 128) + k.val % 128 = k.val; omega)
  have hx : ∀ (x : Fin 128) (h : k.val / 128 * 128 + x.val < 512), (⟨k.val / 128 * 128 + x.val, h⟩ : Fin 512) = col4 (grp k) x :=
    fun x h => Fin.ext (by show k.val / 128 * 128 + x.val = 128 * (k.val / 128) + x.val; omega)
  unfold branchB headB
  simp only [hx, hk]
  rfl

/-- The third branch of a context row in the reference. -/
theorem c_early (r : Fin 256) (k : Fin 1024) :
    val_main_v77 (F := Ideal) x4 x6 (ix2 r k)
      = branchC (attended x4 x5 (early r)) (fun k => x6 (ix2 (early r) ⟨1024 + k.val, by omega⟩)) k := by
  pointwise [val_main_v77, val_main_v76, val_main_v70, val_main_v46, val_main_call5_v0, val_main_call5_v1, val_main_call5_v2,
    val_main_call5_v3, val_main_call5_v4, val_main_call5_v5, val_main_call5_cst, val_main_call5_cst_0]
  unfold branchC
  rw [attended_early]
  rfl

/-- A context row with the mixture added in the reference. -/
theorem residual_early (r : Fin 256) (d : Fin 2048) :
    val_main_v83 (F := Ideal) x0 x1 x2 x3 x4 x6 x7 x8 x9 x10 (ix2 r d)
      = residual x0 x1 x2 x3 x4 x5 x6 x7 x8 x9 x10 (early r) d := by
  unfold residual
  rw [modAt_early]
  pointwise [val_main_v83, val_main_v82, val_main_v81, val_main_v80, val_main_v79, val_main_v71, val_main_v49, val_main_v48, val_main_v47,
    val_main_v3, val_main_v2]
  refine congrArg₂ (fun x y : EReal => x + y) rfl (congrArg₂ (fun x y : EReal => x * y) rfl ?_)
  refine product_eq_sum (fun k => val_main_v78 (F := Ideal) x0 x1 x2 x3 x4 x6 x9 (ix2 r k)) _ _ _ (fun k d => x10 (ix3 1 k d))
    (fun k => ?_) (fun k => ?_) (fun k => ?_) d
  · pointwise [val_main_v78]
    exact a_early x0 x1 x6 r k
  · pointwise [val_main_v78]
    exact b_early x2 x3 x6 x9 r k
  · pointwise [val_main_v78]
    rw [dif_neg (by omega), dif_neg (by omega)]
    refine (congrArg (fun k => val_main_v77 (F := Ideal) x4 x6 (ix2 r k)) (Fin.ext ?_)).trans (c_early x4 x5 x6 r k)
    show 1024 + k.val - 512 - 512 = k.val
    omega

/-- A latent row normed and modulated in the reference. -/
theorem next_late (r : Fin 8192) (d : Fin 2048) :
    val_main_v109 (F := Ideal) x0 x1 x2 x3 x5 x6 x7 x8 x9 x10 x11 x12 (ix2 r d)
      = next (residual x0 x1 x2 x3 x4 x5 x6 x7 x8 x9 x10 (late r)) x11 x12 (late r) d := by
  unfold next modulated
  dsimp only
  rw [modAt_late, modAt_late]
  pointwise [val_main_v109, val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v91, val_main_v90, val_main_v89, val_main_v88, val_main_v87, val_main_v86, val_main_v85,
    val_main_v84, val_main_cst_5, val_main_cst_6, val_main_cst_7, val_main_cst_8]
  simp only [residual_late x0 x1 x2 x3 x4 x5]
  rfl

/-- A context row normed and modulated in the reference. -/
theorem next_early (r : Fin 256) (d : Fin 2048) :
    val_main_v135 (F := Ideal) x0 x1 x2 x3 x4 x6 x7 x8 x9 x10 x11 x12 (ix2 r d)
      = next (residual x0 x1 x2 x3 x4 x5 x6 x7 x8 x9 x10 (early r)) x11 x12 (early r) d := by
  unfold next modulated
  dsimp only
  rw [modAt_early, modAt_early]
  pointwise [val_main_v135, val_main_v134, val_main_v133, val_main_v132, val_main_v131, val_main_v130, val_main_v129, val_main_v128,
    val_main_v127, val_main_v126, val_main_v125, val_main_v124, val_main_v123, val_main_v122, val_main_v121, val_main_v120,
    val_main_v119, val_main_v118, val_main_v117, val_main_v116, val_main_v115, val_main_v114, val_main_v113, val_main_v112,
    val_main_v111, val_main_v110, val_main_cst_9, val_main_cst_10, val_main_cst_11, val_main_cst_12]
  simp only [residual_early x0 x1 x2 x3 x4 x5]
  rfl

theorem first_eq_at (r : Fin 8448) (d : Fin 2048) :
    val_main_v136 (F := Ideal) x0 x1 x2 x3 x4 x5 x6 x7 x8 x9 x10 (ix2 r d) = residual x0 x1 x2 x3 x4 x5 x6 x7 x8 x9 x10 r d := by
  pointwise [val_main_v136]
  by_cases h : r.val < 256
  · rw [dif_pos h]
    exact residual_early x0 x1 x2 x3 x4 x5 x6 x7 x8 x9 x10 ⟨r.val, h⟩ d
  · rw [dif_neg h]
    have e : late ⟨r.val - 256, by omega⟩ = r := Fin.ext (by show 256 + (r.val - 256) = r.val; omega)
    refine (residual_late x0 x1 x2 x3 x4 x5 x6 x7 x8 x9 x10 ⟨r.val - 256, by omega⟩ d).trans ?_
    rw [e]

theorem first_eq :
    val_main_v136 (F := Ideal) x0 x1 x2 x3 x4 x5 x6 x7 x8 x9 x10
      = (fun i => residual x0 x1 x2 x3 x4 x5 x6 x7 x8 x9 x10 (i 0) (i 1) : S8448x2048.Idx → EReal) := by
  funext i
  have hi : (i : S8448x2048.Idx) = ix2 (⟨(i 0).val, (i 0).isLt⟩ : Fin 8448) (⟨(i 1).val, (i 1).isLt⟩ : Fin 2048) :=
    funext fun k => Fin.ext (by
      match k with
      | 0 => rfl
      | 1 => rfl)
  exact (congrArg (val_main_v136 (F := Ideal) x0 x1 x2 x3 x4 x5 x6 x7 x8 x9 x10) hi).trans (first_eq_at x0 x1 x2 x3 x4 x5 x6 x7 x8 x9 x10 _ _)

theorem second_eq_at (r : Fin 8448) (d : Fin 2048) :
    val_main_v138 (F := Ideal) x0 x1 x2 x3 x4 x5 x6 x7 x8 x9 x10 x11 x12 (ix2 r d) = next (residual x0 x1 x2 x3 x4 x5 x6 x7 x8 x9 x10 r) x11 x12 r d := by
  pointwise [val_main_v138, val_main_v137]
  by_cases h : r.val < 256
  · rw [dif_pos h]
    exact next_early x0 x1 x2 x3 x4 x5 x6 x7 x8 x9 x10 x11 x12 ⟨r.val, h⟩ d
  · rw [dif_neg h]
    have e : late ⟨r.val - 256, by omega⟩ = r := Fin.ext (by show 256 + (r.val - 256) = r.val; omega)
    refine (next_late x0 x1 x2 x3 x4 x5 x6 x7 x8 x9 x10 x11 x12 ⟨r.val - 256, by omega⟩ d).trans ?_
    rw [e]

theorem second_eq :
    val_main_v138 (F := Ideal) x0 x1 x2 x3 x4 x5 x6 x7 x8 x9 x10 x11 x12
      = (fun i => next (residual x0 x1 x2 x3 x4 x5 x6 x7 x8 x9 x10 (i 0)) x11 x12 (i 0) (i 1) : S8448x2048.Idx → EReal) := by
  funext i
  have hi : (i : S8448x2048.Idx) = ix2 (⟨(i 0).val, (i 0).isLt⟩ : Fin 8448) (⟨(i 1).val, (i 1).isLt⟩ : Fin 2048) :=
    funext fun k => Fin.ext (by
      match k with
      | 0 => rfl
      | 1 => rfl)
  exact (congrArg (val_main_v138 (F := Ideal) x0 x1 x2 x3 x4 x5 x6 x7 x8 x9 x10 x11 x12) hi).trans (second_eq_at x0 x1 x2 x3 x4 x5 x6 x7 x8 x9 x10 x11 x12 _ _)

end Reference

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨_, _, (θ_run Cert.Kernel4Ideal.defs _ _).mono
    (fun _ h c => ⟨(h c).1.trans (array1_eq m c), (h c).2.1.trans (array2_eq m c), (h c).2.2⟩)
    (Cert.Kernel4Ideal.Value.run_blocks (F := Ideal) m ρ), ?_⟩
  refine (θ_run Cert.Reference4Ideal.defs _ _).mono (fun _ h c => ⟨(h c).1.trans ?_, (h c).2.1.trans ?_, (h c).2.2⟩)
    (Cert.Reference4Ideal.Value.run (F := Ideal) m' ρ')
  · obtain ⟨h0, h1, h2, h3, h4, h5, h6, h7, h8, h9, h10, h11, h12⟩ := hagree c
    refine (Cert.Reference4Ideal.Read.val_main_v136_eq _).trans ?_
    have e := first_eq (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
    rw [h0, h1, h2, h3, h4, h5, h6, h7, h8, h9, h10] at e
    refine Eq.trans ?_ e
    rw [← h0, ← h1, ← h2, ← h3, ← h4, ← h5, ← h6, ← h7, ← h8, ← h9, ← h10]
  · obtain ⟨h0, h1, h2, h3, h4, h5, h6, h7, h8, h9, h10, h11, h12⟩ := hagree c
    refine (Cert.Reference4Ideal.Read.val_main_v138_eq _).trans ?_
    have e := second_eq (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
      (m' ((c.tc : Thread Cert.Reference4Ideal.nD Cert.Reference4Ideal.τ).loc Cert.Reference4Ideal.main_arg11))
      (m' ((c.tc : Thread Cert.Reference4Ideal.nD Cert.Reference4Ideal.τ).loc Cert.Reference4Ideal.main_arg12))
    rw [h0, h1, h2, h3, h4, h5, h6, h7, h8, h9, h10, h11, h12] at e
    refine Eq.trans ?_ e
    rw [← h0, ← h1, ← h2, ← h3, ← h4, ← h5, ← h6, ← h7, ← h8, ← h9, ← h10, ← h11, ← h12]

end Cert.Res

end
-- ==== Proof.Prenorm.lean ====
/-
  The norm ahead of the layers: each number of the first result is one of the context or of the latent rows, and the second result
  is that row normed and modulated, in the idealized kernel as in the idealized reference.
-/
module

public import proofs.«01_k».proof.Defs
public import proofs.«01_k».proof.Proof.Residual
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import Idealize.ShloMosaic.Adequacy
public import Idealize.ShloMosaic.Init
public import Idealize.ShloMosaic.Lib.Claim
public import Idealize.ShloMosaic.Lib.Pointwise

@[expose] public section

noncomputable section

namespace Cert.Pre

open Idealize.ShloMosaic Idealize.ShloMosaic.TcCoe Idealize.SL.Sem Cert.Mix Cert.Res Finset

section Kernel

open Cert.Kernel5Ideal Cert.Kernel5Ideal.Gen

/-- The context's rows with the latent rows after them. -/
def stacked (ctx : S1x256x2048.Idx → EReal) (x : S1x8192x2048.Idx → EReal) (r : Fin 8448) (d : Fin 2048) : EReal :=
  if h : r.val < 256 then ctx (ix3 0 ⟨r.val, h⟩ d) else x (ix3 0 ⟨r.val - 256, by omega⟩ d)

variable (m : (ℓ : Loc nD τ sig) → Buf (Elt Ideal) ℓ) (c : Dev nD) (t : Fin cfg0.N)

/-- The windows' blocks at each grid point. -/
theorem places : ∀ t : Fin grid0.N,
    (win0_4.index t 0 < 33 ∧ win0_4.index t 1 = 0)
    ∧ (win0_5.index t 0 = win0_4.index t 0 ∧ win0_5.index t 1 = 0)
    ∧ (win0_0.index t 0 = 0 ∧ win0_0.index t 1 = 0 ∧ win0_0.index t 2 = 0)
    ∧ (win0_1.index t 0 = 0 ∧ win0_1.index t 1 = win0_4.index t 0 - 1 ∧ win0_1.index t 2 = 0)
    ∧ (win0_2.index t 0 = 0 ∧ win0_2.index t 1 = 0)
    ∧ (win0_3.index t 0 = 0 ∧ win0_3.index t 1 = 0) := by
  decide +kernel

/-- The row that row `a` of the results' block is. -/
def rowOf (a : Fin 256) : Fin 8448 := ⟨256 * win0_4.index t 0 + a.val, by have := (places t).1.1; omega⟩

theorem is_context : ∀ t : Fin grid0.N, ∀ a : Fin 256,
    IntOp.cmpi .slt (IntOp.addi (Scalar.muli (BitVec.ofNat 32 (grid0.coords t 0).val) 256#32) (BitVec.ofNat 32 a.val)) 256#32
      = if 256 * win0_4.index t 0 + a.val < 256 then 1#1 else 0#1 := by
  decide +kernel

theorem block_context : ∀ t : Fin grid0.N, ∀ a : Fin 256,
    Scalar.cmpi .slt (Scalar.muli (BitVec.ofNat 32 (grid0.coords t 0).val) 256#32) 256#32
      = if 256 * win0_4.index t 0 + a.val < 256 then 1#1 else 0#1 := by
  decide +kernel

/-- The choice between the context's and the latent row of the modulation. -/
theorem pick_row (a : Fin 256) (p q : EReal) :
    Scalar.select (IntOp.cmpi .slt
        (IntOp.addi (Scalar.muli (BitVec.ofNat 32 (grid0.coords t 0).val) 256#32) (BitVec.ofNat 32 a.val)) 256#32) p q
      = if (rowOf t a).val < 256 then p else q := by
  rw [is_context]
  show Scalar.select (if (rowOf t a).val < 256 then 1#1 else 0#1) p q = _
  split_ifs
  · rfl
  · rfl

theorem iblk0_apply (a : Fin 256) (d : Fin 2048) :
    (iblk m c 0 t : Vec Ideal S1x256x2048 .f32) (ix3 0 a d) = m ((c : Thread nD τ).loc main_arg0) (ix3 0 a d) := by
  unfold iblk
  rw [View.read_apply]
  entry_read
  refine congrArg (m ((c : Thread nD τ).loc main_arg0)) (funext fun b => Fin.ext ?_)
  match b with
  | 0 => show win0_0.index t 0 * 1 + 1 * 0 = 0; rw [(places t).2.2.1.1]
  | 1 => show win0_0.index t 1 * 256 + 1 * a.val = a.val; rw [(places t).2.2.1.2.1]; omega
  | 2 => show win0_0.index t 2 * 2048 + 1 * d.val = d.val; rw [(places t).2.2.1.2.2]; omega

theorem iblk1_apply (a : Fin 256) (d : Fin 2048) (h : ¬ (rowOf t a).val < 256) :
    (iblk m c 1 t : Vec Ideal S1x256x2048 .f32) (ix3 0 a d)
      = m ((c : Thread nD τ).loc main_arg1) (ix3 0 ⟨(rowOf t a).val - 256, by omega⟩ d) := by
  have h' : ¬ 256 * win0_4.index t 0 + a.val < 256 := h
  unfold iblk
  rw [View.read_apply]
  entry_read
  refine congrArg (m ((c : Thread nD τ).loc main_arg1)) (funext fun b => Fin.ext ?_)
  match b with
  | 0 => show win0_1.index t 0 * 1 + 1 * 0 = 0; rw [(places t).2.2.2.1.1]
  | 1 => show win0_1.index t 1 * 256 + 1 * a.val = 256 * win0_4.index t 0 + a.val - 256; rw [(places t).2.2.2.1.2.1]; omega
  | 2 => show win0_1.index t 2 * 2048 + 1 * d.val = d.val; rw [(places t).2.2.2.1.2.2]; omega

theorem iblk2_apply (a : Fin 8) (k : Fin 6144) :
    (iblk m c 2 t : Vec Ideal S8x6144 .f32) (ix2 a k) = m ((c : Thread nD τ).loc main_arg2) (ix2 a k) := by
  unfold iblk
  rw [View.read_apply]
  entry_read
  refine congrArg (m ((c : Thread nD τ).loc main_arg2)) (funext fun b => Fin.ext ?_)
  match b with
  | 0 => show win0_2.index t 0 * 8 + 1 * a.val = a.val; rw [(places t).2.2.2.2.1.1]; omega
  | 1 => show win0_2.index t 1 * 6144 + 1 * k.val = k.val; rw [(places t).2.2.2.2.1.2]; omega

theorem iblk3_apply (d : Fin 2048) :
    (iblk m c 3 t : Vec Ideal S1x2048 .f32) (ix2 0 d) = m ((c : Thread nD τ).loc main_arg3) (ix2 0 d) := by
  unfold iblk
  rw [View.read_apply]
  entry_read
  refine congrArg (m ((c : Thread nD τ).loc main_arg3)) (funext fun b => Fin.ext ?_)
  match b with
  | 0 => show win0_3.index t 0 * 1 + 1 * 0 = 0; rw [(places t).2.2.2.2.2.1]
  | 1 => show win0_3.index t 1 * 2048 + 1 * d.val = d.val; rw [(places t).2.2.2.2.2.2]; omega

/-- One number of a block of the first result. -/
theorem first_apply (a : Fin 256) (d : Fin 2048) :
    k0_pay2 (F := Ideal) (grid0.coords t) (iblk m c 0 t) (iblk m c 1 t) (ix2 a d)
      = stacked (m ((c : Thread nD τ).loc main_arg0)) (m ((c : Thread nD τ).loc main_arg1)) (rowOf t a) d := by
  pointwise [k0_pay2]
  have hb := block_context t a
  unfold stacked
  by_cases h : (rowOf t a).val < 256
  · have h' : 256 * win0_4.index t 0 + a.val < 256 := h
    have hu : (⟨a.val, by omega⟩ : Fin 256) = ⟨(rowOf t a).val, h⟩ := Fin.ext (by show a.val = 256 * win0_4.index t 0 + a.val; omega)
    rw [if_pos h'] at hb
    rw [hb, dif_pos h, ← hu]
    exact iblk0_apply m c t a d
  · have h' : ¬ 256 * win0_4.index t 0 + a.val < 256 := h
    rw [if_neg h'] at hb
    rw [hb, dif_neg h]
    exact iblk1_apply m c t a d h

/-- One number of a block of the second result. -/
theorem second_apply (a : Fin 256) (d : Fin 2048) :
    k0_pay1 (F := Ideal) (k0_pay3 (grid0.coords t) (iblk m c 0 t) (iblk m c 1 t) (iblk m c 3 t)) (k0_pay4 (grid0.coords t))
        (k0_pay5 (grid0.coords t) (View.ld (iblk m c 2 t) r0_3) (View.ld (iblk m c 2 t) r0_4)) (View.ld (iblk m c 2 t) r0_5)
        (View.ld (iblk m c 2 t) r0_6) (ix2 a d)
      = next (stacked (m ((c : Thread nD τ).loc main_arg0)) (m ((c : Thread nD τ).loc main_arg1)) (rowOf t a)) (m ((c : Thread nD τ).loc main_arg3)) (m ((c : Thread nD τ).loc main_arg2)) (rowOf t a) d := by
  pointwise [k0_pay1, k0_pay3, k0_pay4, k0_pay5]
  simp only [first_apply, pick_row, iblk2_apply, iblk3_apply]
  rfl

/-- The first result array after the run. -/
theorem array1_eq :
    (dats m 0 c).arrAt 4 cfg0.N
      = (fun i => stacked (m ((c : Thread nD τ).loc main_arg0)) (m ((c : Thread nD τ).loc main_arg1)) (i 0) (i 1) : S8448x2048.Idx → EReal) := by
  refine (dats m 0 c).arrAt_eq_of_covers 4 _ (by decide +kernel) fun t hf y => ?_
  blk_simp
  rw [after0_4]
  unfold out0_4
  frame_out
  have hy : (y : S256x2048.Idx) = ix2 (⟨(y 0).val, (y 0).isLt⟩ : Fin 256) (⟨(y 1).val, (y 1).isLt⟩ : Fin 2048) :=
    funext fun k => Fin.ext (by
      match k with
      | 0 => rfl
      | 1 => rfl)
  have e0 : ((win0_4.blk t).view.emb y 0).val = win0_4.index t 0 * 256 + 1 * (y 0).val := rfl
  have e1 : ((win0_4.blk t).view.emb y 1).val = win0_4.index t 1 * 2048 + 1 * (y 1).val := rfl
  refine (congrArg _ hy).trans ((first_apply m c t _ _).trans ?_)
  refine congrArg₂ (stacked _ _) (Fin.ext ?_) (Fin.ext ?_)
  · show 256 * win0_4.index t 0 + (y 0).val = ((win0_4.blk t).view.emb y 0).val
    have p := (places t).1.1
    omega
  · show (y 1).val = ((win0_4.blk t).view.emb y 1).val
    rw [e1, (places t).1.2]
    omega

/-- The second result array after the run. -/
theorem array2_eq :
    (dats m 0 c).arrAt 5 cfg0.N
      = (fun i => next (stacked (m ((c : Thread nD τ).loc main_arg0)) (m ((c : Thread nD τ).loc main_arg1)) (i 0)) (m ((c : Thread nD τ).loc main_arg3)) (m ((c : Thread nD τ).loc main_arg2)) (i 0) (i 1) : S8448x2048.Idx → EReal) := by
  refine (dats m 0 c).arrAt_eq_of_covers 5 _ (by decide +kernel) fun t hf y => ?_
  blk_simp
  rw [after0_5]
  unfold out0_5
  frame_out
  have hy : (y : S256x2048.Idx) = ix2 (⟨(y 0).val, (y 0).isLt⟩ : Fin 256) (⟨(y 1).val, (y 1).isLt⟩ : Fin 2048) :=
    funext fun k => Fin.ext (by
      match k with
      | 0 => rfl
      | 1 => rfl)
  have e0 : ((win0_5.blk t).view.emb y 0).val = win0_5.index t 0 * 256 + 1 * (y 0).val := rfl
  have e1 : ((win0_5.blk t).view.emb y 1).val = win0_5.index t 1 * 2048 + 1 * (y 1).val := rfl
  refine (congrArg _ hy).trans ((second_apply m c t _ _).trans ?_)
  refine congrArg₂ (fun r : Fin 8448 => next (stacked _ _ r) _ _ r) (Fin.ext ?_) (Fin.ext ?_)
  · show 256 * win0_4.index t 0 + (y 0).val = ((win0_5.blk t).view.emb y 0).val
    have p := (places t).2.1.1
    omega
  · show (y 1).val = ((win0_5.blk t).view.emb y 1).val
    rw [e1, (places t).2.1.2]
    omega

end Kernel

section Reference

open Cert.Reference5Ideal Cert.Reference5Ideal.Gen Cert.Reference5Ideal.Read

variable (x0 : S1x256x2048.Idx → EReal) (x1 : S1x8192x2048.Idx → EReal) (x2 : S8x6144.Idx → EReal) (x3 : S1x2048.Idx → EReal)

theorem stacked_late (r : Fin 8192) (d : Fin 2048) : stacked x0 x1 (late r) d = x1 (ix3 0 r d) := by
  unfold stacked
  rw [dif_neg (by show ¬ 256 + r.val < 256; omega)]
  exact congrArg (fun q : Fin 8192 => x1 (ix3 0 q d)) (Fin.ext (by show 256 + r.val - 256 = r.val; omega))

theorem stacked_early (r : Fin 256) (d : Fin 2048) : stacked x0 x1 (early r) d = x0 (ix3 0 r d) := by
  unfold stacked
  rw [dif_pos (by exact r.isLt)]
  rfl

/-- A latent row normed and modulated in the reference. -/
theorem next_late (r : Fin 8192) (d : Fin 2048) :
    val_main_v26 (F := Ideal) x1 x2 x3 (ix2 r d) = next (stacked x0 x1 (late r)) x3 x2 (late r) d := by
  have hs : stacked x0 x1 (late r) = fun k => x1 (ix3 0 r k) := funext (stacked_late x0 x1 r)
  rw [hs]
  unfold next modulated
  dsimp only
  rw [modAt_late, modAt_late]
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2]
  rfl

/-- A context row normed and modulated in the reference. -/
theorem next_early (r : Fin 256) (d : Fin 2048) :
    val_main_v53 (F := Ideal) x0 x2 x3 (ix2 r d) = next (stacked x0 x1 (early r)) x3 x2 (early r) d := by
  have hs : stacked x0 x1 (early r) = fun k => x0 (ix3 0 r k) := funext (stacked_early x0 x1 r)
  rw [hs]
  unfold next modulated
  dsimp only
  rw [modAt_early, modAt_early]
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_cst_3, val_main_cst_4, val_main_cst_5, val_main_cst_6]
  rfl

theorem first_eq_at (r : Fin 8448) (d : Fin 2048) :
    val_main_v56 (F := Ideal) x0 x1 (ix2 r d) = stacked x0 x1 r d := by
  pointwise [val_main_v56, val_main_v55, val_main_v54]
  by_cases h : r.val < 256
  · rw [dif_pos h]
    exact (stacked_early x0 x1 ⟨r.val, h⟩ d).symm
  · rw [dif_neg h]
    have e : late ⟨r.val - 256, by omega⟩ = r := Fin.ext (by show 256 + (r.val - 256) = r.val; omega)
    refine ((stacked_late x0 x1 ⟨r.val - 256, by omega⟩ d).symm).trans ?_
    rw [e]

theorem first_eq :
    val_main_v56 (F := Ideal) x0 x1
      = (fun i => stacked x0 x1 (i 0) (i 1) : S8448x2048.Idx → EReal) := by
  funext i
  have hi : (i : S8448x2048.Idx) = ix2 (⟨(i 0).val, (i 0).isLt⟩ : Fin 8448) (⟨(i 1).val, (i 1).isLt⟩ : Fin 2048) :=
    funext fun k => Fin.ext (by
      match k with
      | 0 => rfl
      | 1 => rfl)
  exact (congrArg (val_main_v56 (F := Ideal) x0 x1) hi).trans (first_eq_at x0 x1 _ _)

theorem second_eq_at (r : Fin 8448) (d : Fin 2048) :
    val_main_v58 (F := Ideal) x0 x1 x2 x3 (ix2 r d) = next (stacked x0 x1 r) x3 x2 r d := by
  pointwise [val_main_v58, val_main_v57]
  by_cases h : r.val < 256
  · rw [dif_pos h]
    exact next_early x0 x1 x2 x3 ⟨r.val, h⟩ d
  · rw [dif_neg h]
    have e : late ⟨r.val - 256, by omega⟩ = r := Fin.ext (by show 256 + (r.val - 256) = r.val; omega)
    refine (next_late x0 x1 x2 x3 ⟨r.val - 256, by omega⟩ d).trans ?_
    rw [e]

theorem second_eq :
    val_main_v58 (F := Ideal) x0 x1 x2 x3
      = (fun i => next (stacked x0 x1 (i 0)) x3 x2 (i 0) (i 1) : S8448x2048.Idx → EReal) := by
  funext i
  have hi : (i : S8448x2048.Idx) = ix2 (⟨(i 0).val, (i 0).isLt⟩ : Fin 8448) (⟨(i 1).val, (i 1).isLt⟩ : Fin 2048) :=
    funext fun k => Fin.ext (by
      match k with
      | 0 => rfl
      | 1 => rfl)
  exact (congrArg (val_main_v58 (F := Ideal) x0 x1 x2 x3) hi).trans (second_eq_at x0 x1 x2 x3 _ _)

end Reference

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨_, _, (θ_run Cert.Kernel5Ideal.defs _ _).mono
    (fun _ h c => ⟨(h c).1.trans (array1_eq m c), (h c).2.1.trans (array2_eq m c), (h c).2.2⟩)
    (Cert.Kernel5Ideal.Value.run_blocks (F := Ideal) m ρ), ?_⟩
  refine (θ_run Cert.Reference5Ideal.defs _ _).mono (fun _ h c => ⟨(h c).1.trans ?_, (h c).2.1.trans ?_, (h c).2.2⟩)
    (Cert.Reference5Ideal.Value.run (F := Ideal) m' ρ')
  · obtain ⟨h0, h1, h2, h3⟩ := hagree c
    refine (Cert.Reference5Ideal.Read.val_main_v56_eq _ _).trans ?_
    have e := first_eq (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
    rw [h0, h1] at e
    refine Eq.trans ?_ e
    rw [← h0, ← h1]
  · obtain ⟨h0, h1, h2, h3⟩ := hagree c
    refine (Cert.Reference5Ideal.Read.val_main_v58_eq _ _ _ _).trans ?_
    have e := second_eq (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
    rw [h0, h1, h2, h3] at e
    refine Eq.trans ?_ e
    rw [← h0, ← h1, ← h2, ← h3]

end Cert.Pre

end
-- ==== Proof.Modulation.lean ====
/-
  The layers' modulations: each number of the result is one activated row of the condition against one column of a layer's weight,
  in the idealized kernel, which splits both factors in two halves and adds three products, as in the idealized reference.
-/
module

public import proofs.«01_k».proof.Defs
public import proofs.«01_k».proof.Proof.Attention
public import proofs.«01_k».proof.Proof.Mixture
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Pre_finite6
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

noncomputable section

namespace Cert.Mod

open Idealize.ShloMosaic Idealize.ShloMosaic.TcCoe Idealize.SL.Sem Cert.Mix Cert.Attn.Claims Finset

/-- A real number's activation is a real number. -/
theorem silu_real (x : EReal) (h : x = (x.toReal : EReal)) : silu x = ((silu x).toReal : EReal) := by
  rw [h]
  unfold silu
  rw [Ideal.logistic_coe, ← EReal.coe_mul, EReal.toReal_coe]

theorem sub_self_real (x : EReal) (h : x = (x.toReal : EReal)) : x - x = 0 := by
  rw [h, ← EReal.coe_sub, sub_self, EReal.coe_zero]

/-- The modulation of layer `l`: the activated row `a` of the condition against column `e` of the weight, and the bias. -/
def modulation (x0 : Cert.Kernel6Ideal.S8x2048.Idx → EReal) (x1 : Cert.Kernel6Ideal.S4x2048x6144.Idx → EReal)
    (x2 : Cert.Kernel6Ideal.S4x6144.Idx → EReal) (l : Fin 4) (a : Fin 8) (e : Fin 6144) : EReal :=
  ∑ k : Fin 2048, silu (x0 (ix2 a k)) * x1 (ix3 l k e) + x2 (ix2 l e)

section Kernel

open Cert.Kernel6Ideal Cert.Kernel6Ideal.Gen

/-- One number of a block of the result, of real numbers: the halves' products but the first vanish. -/
theorem block_apply (x0 : Vec Ideal S8x2048 .f32) (x1 : Vec Ideal S1x2048x768 .f32) (x2 : Vec Ideal S1x1x768 .f32) (a : Fin 8) (e : Fin 768)
    (h0 : ∀ k : Fin 2048, (x0 (ix2 a k) : EReal) = ((x0 (ix2 a k) : EReal).toReal : EReal))
    (h1 : ∀ k : Fin 2048, (x1 (ix3 0 k e) : EReal) = ((x1 (ix3 0 k e) : EReal).toReal : EReal)) :
    k0_pay1 (F := Ideal) x0 x1 x2 (ix3 0 a e)
      = ∑ k : Fin 2048, silu (x0 (ix2 a k)) * x1 (ix3 0 k e) + x2 (ix3 0 0 e) := by
  pointwise [k0_pay1]
  change ∑ k : Fin 2048, silu (x0 (ix2 a k)) * x1 (ix3 0 k e)
      + (∑ k : Fin 2048, (silu (x0 (ix2 a k)) - silu (x0 (ix2 a k))) * x1 (ix3 0 k e)
        + ∑ k : Fin 2048, silu (x0 (ix2 a k)) * (x1 (ix3 0 k e) - x1 (ix3 0 k e))) + x2 (ix3 0 0 e) = _
  have z1 : ∑ k : Fin 2048, (silu (x0 (ix2 a k)) - silu (x0 (ix2 a k))) * x1 (ix3 0 k e) = 0 :=
    sum_eq_zero fun k _ => by rw [sub_self_real _ (silu_real _ (h0 k)), zero_mul]
  have z2 : ∑ k : Fin 2048, silu (x0 (ix2 a k)) * (x1 (ix3 0 k e) - x1 (ix3 0 k e)) = 0 :=
    sum_eq_zero fun k _ => by rw [sub_self_real _ (h1 k), mul_zero]
  rw [z1, z2, add_zero, add_zero]

variable (m : (ℓ : Loc nD τ sig) → Buf (Elt Ideal) ℓ) (c : Dev nD) (t : Fin cfg0.N)

/-- The windows' blocks at a grid point, by the result block's place. -/
theorem places : ∀ t : Fin grid0.N, (win0_3.index t 0 < 4 ∧ win0_3.index t 1 = 0 ∧ win0_3.index t 2 < 8)
    ∧ (win0_0.index t 0 = 0 ∧ win0_0.index t 1 = 0)
    ∧ (win0_1.index t 0 = win0_3.index t 0 ∧ win0_1.index t 1 = 0 ∧ win0_1.index t 2 = win0_3.index t 2)
    ∧ (win0_2.index t 0 = win0_3.index t 0 ∧ win0_2.index t 1 = 0 ∧ win0_2.index t 2 = win0_3.index t 2) := by
  decide +kernel

/-- The layer, and the column that column `e` of a block is. -/
def layer : Fin 4 := ⟨win0_3.index t 0, (places t).1.1⟩
def colOf (e : Fin 768) : Fin 6144 := ⟨768 * win0_3.index t 2 + e.val, by have := (places t).1.2.2; omega⟩

theorem iblk0_apply (a : Fin 8) (k : Fin 2048) :
    (iblk m c 0 t : Vec Ideal S8x2048 .f32) (ix2 a k) = m ((c : Thread nD τ).loc main_arg0) (ix2 a k) := by
  unfold iblk
  rw [View.read_apply]
  entry_read
  refine congrArg (m ((c : Thread nD τ).loc main_arg0)) (funext fun b => Fin.ext ?_)
  match b with
  | 0 => show win0_0.index t 0 * 8 + 1 * a.val = a.val; rw [(places t).2.1.1]; omega
  | 1 => show win0_0.index t 1 * 2048 + 1 * k.val = k.val; rw [(places t).2.1.2]; omega

theorem iblk1_apply (k : Fin 2048) (e : Fin 768) :
    (iblk m c 1 t : Vec Ideal S1x2048x768 .f32) (ix3 0 k e) = m ((c : Thread nD τ).loc main_arg1) (ix3 (layer t) k (colOf t e)) := by
  unfold iblk
  rw [View.read_apply]
  entry_read
  refine congrArg (m ((c : Thread nD τ).loc main_arg1)) (funext fun b => Fin.ext ?_)
  match b with
  | 0 => show win0_1.index t 0 * 1 + 1 * 0 = win0_3.index t 0; rw [(places t).2.2.1.1]; omega
  | 1 => show win0_1.index t 1 * 2048 + 1 * k.val = k.val; rw [(places t).2.2.1.2.1]; omega
  | 2 => show win0_1.index t 2 * 768 + 1 * e.val = 768 * win0_3.index t 2 + e.val; rw [(places t).2.2.1.2.2]; omega

theorem bias_apply (l : Fin 4) (e : Fin 6144) :
    (V m c main_v0 : Vec Ideal S4x1x6144 .f32) (ix3 l 0 e) = m ((c : Thread nD τ).loc main_arg2) (ix2 l e) := by
  entry_read
  pointwise []

theorem iblk2_apply (e : Fin 768) :
    (iblk m c 2 t : Vec Ideal S1x1x768 .f32) (ix3 0 0 e) = m ((c : Thread nD τ).loc main_arg2) (ix2 (layer t) (colOf t e)) := by
  refine Eq.trans ?_ (bias_apply m c _ _)
  unfold iblk
  rw [View.read_apply]
  show V m c main_v0 _ = V m c main_v0 _
  refine congrArg (V m c main_v0) (funext fun b => Fin.ext ?_)
  match b with
  | 0 => show win0_2.index t 0 * 1 + 1 * 0 = win0_3.index t 0; rw [(places t).2.2.2.1]; omega
  | 1 => show win0_2.index t 1 * 1 + 1 * 0 = 0; rw [(places t).2.2.2.2.1]
  | 2 => show win0_2.index t 2 * 768 + 1 * e.val = 768 * win0_3.index t 2 + e.val; rw [(places t).2.2.2.2.2]; omega

/-- The result array after the run. -/
theorem array_eq
    (h0 : ∀ (a : Fin 8) (k : Fin 2048), (m ((c : Thread nD τ).loc main_arg0) (ix2 a k) : EReal)
      = ((m ((c : Thread nD τ).loc main_arg0) (ix2 a k) : EReal).toReal : EReal))
    (h1 : ∀ (l : Fin 4) (k : Fin 2048) (e : Fin 6144), (m ((c : Thread nD τ).loc main_arg1) (ix3 l k e) : EReal)
      = ((m ((c : Thread nD τ).loc main_arg1) (ix3 l k e) : EReal).toReal : EReal)) :
    (dats m 0 c).arrAt 3 cfg0.N
      = (fun i => modulation (m ((c : Thread nD τ).loc main_arg0)) (m ((c : Thread nD τ).loc main_arg1))
          (m ((c : Thread nD τ).loc main_arg2)) (i 0) (i 1) (i 2) : S4x8x6144.Idx → EReal) := by
  refine (dats m 0 c).arrAt_eq_of_covers 3 _ (by decide +kernel) fun t hf y => ?_
  blk_simp
  rw [after0_3]
  frame_out
  have hy : (y : S1x8x768.Idx) = ix3 (0 : Fin 1) (⟨(y 1).val, (y 1).isLt⟩ : Fin 8) (⟨(y 2).val, (y 2).isLt⟩ : Fin 768) :=
    funext fun k => Fin.ext (by
      match k with
      | 0 => exact Nat.lt_one_iff.mp (y 0).isLt
      | 1 => rfl
      | 2 => rfl)
  have z0 : (y 0).val = 0 := Nat.lt_one_iff.mp (y 0).isLt
  have e0 : ((win0_3.blk t).view.emb y 0).val = win0_3.index t 0 * 1 + 1 * (y 0).val := rfl
  have e1 : ((win0_3.blk t).view.emb y 1).val = win0_3.index t 1 * 8 + 1 * (y 1).val := rfl
  have e2 : ((win0_3.blk t).view.emb y 2).val = win0_3.index t 2 * 768 + 1 * (y 2).val := rfl
  refine (congrArg (k0_pay1 (F := Ideal) _ _ _) hy).trans ((block_apply _ _ _ _ _ (fun k => ?_) (fun k => ?_)).trans ?_)
  · rw [iblk0_apply]
    exact h0 _ k
  · rw [iblk1_apply]
    exact h1 _ k _
  · simp only [iblk0_apply, iblk1_apply, iblk2_apply]
    show modulation _ _ _ (layer t) (⟨(y 1).val, (y 1).isLt⟩ : Fin 8) (colOf t ⟨(y 2).val, (y 2).isLt⟩) = _
    congr 1
    · refine Fin.ext ?_
      show win0_3.index t 0 = ((win0_3.blk t).view.emb y 0).val
      omega
    · refine Fin.ext ?_
      show (y 1).val = ((win0_3.blk t).view.emb y 1).val
      rw [e1, (places t).1.2.1]
      omega
    · refine Fin.ext ?_
      show 768 * win0_3.index t 2 + (y 2).val = ((win0_3.blk t).view.emb y 2).val
      omega

end Kernel

section Reference

open Cert.Reference6Ideal Cert.Reference6Ideal.Gen Cert.Reference6Ideal.Read

variable (x0 : S8x2048.Idx → EReal) (x1 : S4x2048x6144.Idx → EReal) (x2 : S4x6144.Idx → EReal)

theorem layer0_apply (a : Fin 8) (e : Fin 6144) :
    val_main_v36 (F := Ideal) x0 x1 x2 (ix3 0 a e) = modulation x0 x1 x2 0 a e := by
  pointwise [val_main_v36, val_main_v8, val_main_v7, val_main_v6, val_main_v5, val_main_v4, val_main_v3, val_main_v2, val_main_v1,
    val_main_v0, val_main_call0_v5, val_main_call0_v4, val_main_call0_v3, val_main_call0_v2, val_main_call0_v1,
    val_main_call0_v0, val_main_call0_cst, val_main_call0_cst_0]
  rfl

theorem layer1_apply (a : Fin 8) (e : Fin 6144) :
    val_main_v37 (F := Ideal) x0 x1 x2 (ix3 0 a e) = modulation x0 x1 x2 1 a e := by
  pointwise [val_main_v37, val_main_v17, val_main_v16, val_main_v15, val_main_v14, val_main_v13, val_main_v12, val_main_v11, val_main_v10,
    val_main_v9, val_main_call1_v5, val_main_call1_v4, val_main_call1_v3, val_main_call1_v2, val_main_call1_v1,
    val_main_call1_v0, val_main_call1_cst, val_main_call1_cst_0]
  rfl

theorem layer2_apply (a : Fin 8) (e : Fin 6144) :
    val_main_v38 (F := Ideal) x0 x1 x2 (ix3 0 a e) = modulation x0 x1 x2 2 a e := by
  pointwise [val_main_v38, val_main_v26, val_main_v25, val_main_v24, val_main_v23, val_main_v22, val_main_v21, val_main_v20, val_main_v19,
    val_main_v18, val_main_call2_v5, val_main_call2_v4, val_main_call2_v3, val_main_call2_v2, val_main_call2_v1,
    val_main_call2_v0, val_main_call2_cst, val_main_call2_cst_0]
  rfl

theorem layer3_apply (a : Fin 8) (e : Fin 6144) :
    val_main_v39 (F := Ideal) x0 x1 x2 (ix3 0 a e) = modulation x0 x1 x2 3 a e := by
  pointwise [val_main_v39, val_main_v35, val_main_v34, val_main_v33, val_main_v32, val_main_v31, val_main_v30, val_main_v29, val_main_v28,
    val_main_v27, val_main_call3_v5, val_main_call3_v4, val_main_call3_v3, val_main_call3_v2, val_main_call3_v1,
    val_main_call3_v0, val_main_call3_cst, val_main_call3_cst_0]
  rfl

theorem reference_apply (l : Fin 4) (a : Fin 8) (e : Fin 6144) :
    val_main_v40 (F := Ideal) x0 x1 x2 (ix3 l a e) = modulation x0 x1 x2 l a e := by
  pointwise [val_main_v40]
  match l with
  | 0 => exact layer0_apply x0 x1 x2 a e
  | 1 => exact layer1_apply x0 x1 x2 a e
  | 2 => exact layer2_apply x0 x1 x2 a e
  | 3 => exact layer3_apply x0 x1 x2 a e

theorem reference_eq :
    val_main_v40 (F := Ideal) x0 x1 x2 = (fun i => modulation x0 x1 x2 (i 0) (i 1) (i 2) : S4x8x6144.Idx → EReal) := by
  funext i
  have hi : (i : S4x8x6144.Idx) = ix3 (⟨(i 0).val, (i 0).isLt⟩ : Fin 4) (⟨(i 1).val, (i 1).isLt⟩ : Fin 8) (⟨(i 2).val, (i 2).isLt⟩ : Fin 6144) :=
    funext fun k => Fin.ext (by
      match k with
      | 0 => rfl
      | 1 => rfl
      | 2 => rfl)
  exact (congrArg (val_main_v40 (F := Ideal) x0 x1 x2) hi).trans (reference_apply x0 x1 x2 _ _ _)

end Reference

theorem frame_p : Cert.quiescent_Kernel6 := fun m ρ _ => Cert.Kernel6.Gen.frame m ρ

theorem frame_pi : Cert.quiescent_Kernel6Ideal := fun m ρ _ => Cert.Kernel6Ideal.Gen.frame m ρ

theorem frame_pi_pre : Cert.quiescent_Kernel6Ideal_pre_finite6 := fun m ρ _ => Cert.Kernel6Ideal.Gen.frame m ρ

theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_ri_pre : Cert.quiescent_Reference6Ideal_pre_finite6 := fun m ρ _ => frame_ri m ρ trivial

theorem preserves : Cert.preserves_Kernel6_Kernel6Ideal := trivial

theorem algebraic : Cert.algebraic_Kernel6Ideal_Reference6Ideal_pre_finite6 := by
  intro m ρ m' ρ' hpre hagree
  refine ⟨_, (θ_run Cert.Kernel6Ideal.defs _ _).mono (fun _ h c => ⟨(h c).1.trans (array_eq m c
      (fun a k => real_of_cmp _ (congrFun (hpre c).1 (ix2 a k))) (fun l k e => real_of_cmp _ (congrFun (hpre c).2 (ix3 l k e)))), (h c).2⟩)
    (Cert.Kernel6Ideal.Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  rw [(hagree c).1, (hagree c).2.1, (hagree c).2.2]
  exact (Cert.Reference6Ideal.Read.val_main_v40_eq _ _ _).trans (reference_eq _ _ _)

end Cert.Mod

end
-- ==== Proof.ContextBlock.lean ====
/-
  One block of the context attention's result at the extended reals: a row's 128 numbers of one head are the values of the
  256 context keys, each weighted by its share of the row's exponentials.
-/
module

public import proofs.«01_k».proof.Proof.Block
public import proofs.«01_k».proof.Proof.Gen.Kernel7Ideal.Frame
public import Idealize.ShloMosaic.Lib.WritesUnit
public import Idealize.ShloMosaic.Lib.Pointwise
public import Idealize.ShloMosaic.PureOps.Ideal

@[expose] public section

noncomputable section

namespace Cert.Ctx

open Idealize.ShloMosaic Idealize.ShloMosaic.TcCoe Cert.Kernel7Ideal Cert.Kernel7Ideal.Gen Finset
open Cert.Attn (fold_max_real wsum wsum_block div_wsum qs col4 lowest unit_idx)

section

variable {F : FTy → Type} [FloatOps F] [Named F]

/-- The scores of a head: keys by queries. -/
def scoresOf (q : FVec F S256x128 .f32) (k : FVec F S256x128 .bf16) : FVec F S256x256 .f32 :=
  matmul dot_S256x128_S256x128_S256x256_1_1_0_0_n_n none (shapeCast S256x128 k shapeCasts_S256x128_S256x128)
    (truncf .bf16 (mulf q (broadcast S256x128 (Named.named κ "qscale" 0x3E0293EE#32))) bitsLt_bf16_f32)
    (constant S256x256 .f32 0x00000000#32)

/-- Each query's largest score. -/
def most (st : FVec F S256x256 .f32) : FVec F S1x256 .f32 :=
  shapeCast S1x256 (multiReduction .maximumf [0] S256 st 0xFF800000#32 reduces_S256x256_S256 (.inl rfl) rfl) shapeCasts_S256_S1x256

/-- The values, and the row of ones, summed by the weights. -/
def weighed (v : FVec F S144x256 .bf16) (st : FVec F S256x256 .f32) : FVec F S144x256 .f32 :=
  matmul dot_S144x256_S256x256_S144x256_1_0_0_1_n_n none v
    (truncf .bf16 (exp2 (subf st (broadcastTo S256x256 (most st) broadcasts_S1x256_S256x256))) bitsLt_bf16_f32)
    (constant S144x256 .f32 0x00000000#32)

/-- The weighted values over the weights' sum, a query to a row. -/
def quot (a : FVec F S144x256 .f32) : FVec F S256x128 .f32 :=
  transpose S256x128 [1, 0]
    (divf (extractStridedSlice S128x256 ![0, 0] a slices_S144x256_o0_0_S128x256)
      (broadcastTo S128x256 (extractStridedSlice S1x256 ![128, 0] a slices_S144x256_o128_0_S1x256) broadcasts_S1x256_S128x256))
    transposes_S128x256_p1_0_S256x128

/-- One head's block of the result. -/
def oneHead (q : FVec F S256x128 .f32) (k : FVec F S256x128 .bf16) (v : FVec F S1x1x144x256 .bf16) : FVec F S256x128 .f32 :=
  quot (weighed (shapeCast S144x256 v shapeCasts_S1x1x144x256_S144x256) (scoresOf q k))

end

theorem qscale_eq : Named.named (F := Ideal) κ "qscale" (φ := .f32) 0x3E0293EE#32
    = (((11863283 / 134217728) * (Real.log 2)⁻¹ : ℝ) : EReal) :=
  IdealRules.named_const.ideal_named_scalar _ _ _ _ rfl

theorem scoresOf_apply (q : FVec Ideal S256x128 .f32) (k : FVec Ideal S256x128 .bf16) (n a : Fin 256) :
    scoresOf q k (ix2 n a) = ∑ e : Fin 128, k (ix2 n e) * (q (ix2 a e) * (qs : EReal)) := by
  pointwise [scoresOf]
  rw [qscale_eq]
  rfl

theorem quot_apply (a : FVec Ideal S144x256 .f32) (c : Fin 256) (d : Fin 128) :
    quot a (ix2 c d) = Ideal.div (a (ix2 ⟨d.val, by omega⟩ c)) (a (ix2 128 c)) := by
  pointwise [quot]

theorem weighed_apply (v : FVec Ideal S144x256 .bf16) (st : FVec Ideal S256x256 .f32) (V : Fin 144 → ℕ → EReal) (s : ℕ → ℝ) (a : Fin 256)
    (hst : ∀ n : Fin 256, st (ix2 n a) = (s n.val : EReal)) (hv : ∀ (r : Fin 144) (n : Fin 256), v (ix2 r n) = V r n.val) :
    ∃ μ : ℝ, ∀ r : Fin 144, weighed v st (ix2 r a) = wsum s (V r) (range 256) μ := by
  obtain ⟨x, hx⟩ := fold_max_real (univ : Finset (Fin 256)) univ_nonempty fun k => s k.val
  have ht : most st (ix2 0 a) = (x : EReal) := by
    rw [← hx]
    pointwise [most]
    rw [lowest]
    exact congrArg (fun f => fold max ⊥ f univ) (funext hst)
  refine ⟨x, fun r => ?_⟩
  have hr : range 256 = Ico 0 (0 + 256) := by rw [Nat.zero_add, range_eq_Ico]
  rw [hr]
  pointwise [weighed]
  refine wsum_block s (V r) 0 256 x _ fun k => ?_
  rw [hv, hst, ht, ← EReal.coe_sub, Nat.zero_add]
  rfl

theorem oneHead_apply (q : FVec Ideal S256x128 .f32) (k : FVec Ideal S256x128 .bf16) (v : FVec Ideal S1x1x144x256 .bf16)
    (V : Fin 144 → ℕ → EReal) (s : ℕ → ℝ) (a : Fin 256) (d : Fin 128)
    (hs : ∀ n : Fin 256, ∑ e : Fin 128, k (ix2 n e) * (q (ix2 a e) * (qs : EReal)) = (s n.val : EReal))
    (hv : ∀ (r : Fin 144) (n : Fin 256), v (ix4 0 0 r n) = V r n.val) (ones : ∀ n < 256, V 128 n = 1) (ν : ℝ) :
    oneHead q k v (ix2 a d) = ∑ n ∈ range 256, V ⟨d.val, by omega⟩ n
          * ((Real.rpow 2 (s n - ν) / (∑ j ∈ range 256, Real.rpow 2 (s j - ν)) : ℝ) : EReal) := by
  obtain ⟨μ, h⟩ := weighed_apply (shapeCast S144x256 v shapeCasts_S1x1x144x256_S144x256) (scoresOf q k) V s a
    (fun n => (scoresOf_apply q k n a).trans (hs n)) (fun r n => by pointwise []; exact hv r n)
  unfold oneHead
  rw [quot_apply, h, h, ← div_wsum s (V ⟨d.val, by omega⟩) (nonempty_range_iff.mpr (by decide)) μ ν]
  refine congrArg (Ideal.div _) (sum_congr rfl fun n hn => ?_)
  rw [ones n (mem_range.mp hn)]

/-- A load through the last store's rectangle reads what it stored. -/
theorem readAt_hit {F : FTy → Type} [FloatOps F] {κ' : Kind} {sp : Space} {s : Shape} {e : EltTy} (v : View sig κ' sp s e) (f : BufTy.Contents (Elt F) v.ty)
    (r : Rect s) (w : r.shape.Idx → Elt F e) (L : List (View.Piece (Elt F) s e)) :
    View.readAt (Elt F) v r.toLoadRect (v.writes (Elt F) f (⟨r, w⟩ :: L)) = w :=
  funext fun x => View.read_writes_cons_emb v f r w L x

/-- A load apart from the last store's rectangle reads what was there before. -/
theorem readAt_skip {F : FTy → Type} [FloatOps F] {κ' : Kind} {sp : Space} {s : Shape} {e : EltTy} (v : View sig κ' sp s e) (f : BufTy.Contents (Elt F) v.ty)
    (r : Rect s) (w : r.shape.Idx → Elt F e) (L : List (View.Piece (Elt F) s e)) (B : LoadRect s) (h : LoadRect.disj r B = true) :
    View.readAt (Elt F) v B (v.writes (Elt F) f (⟨r, w⟩ :: L)) = View.readAt (Elt F) v B (v.writes (Elt F) f L) :=
  funext fun j => View.read_writes_cons_miss v f ⟨r, w⟩ L (B.idx j) (LoadRect.idx_not_mem_of_disj h j)

/-- The tile's values by key. -/
def tile (x2 : Vec Ideal S1x1x144x256 .bf16) (r : Fin 144) (n : ℕ) : EReal :=
  if h : n < 256 then x2 (ix4 0 0 r ⟨n, h⟩) else 0

variable (c : Dev nD) (i : grid0.Coords) (arg2 : Memref sig .tc .vmem S256x512 .f32) (harg2 : arg2.IsWhole) (arg3 : Memref sig .tc .vmem S256x128 .bf16) (harg3 : arg3.IsWhole) (arg4 : Memref sig .tc .vmem S1x1x144x256 .bf16) (harg4 : arg4.IsWhole) (arg5 : Memref sig .tc .vmem S256x512 .f32) (harg5 : arg5.IsWhole) (arg6 : Memref sig .tc .vmem S4x256x256 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S4x144x256 .f32) (harg9 : arg9.IsWhole)
  (x0 : Vec Ideal S256x512 .f32) (x1 : Vec Ideal S256x128 .bf16) (x2 : Vec Ideal S1x1x144x256 .bf16)

theorem q_apply {b : ℕ} (h : ∀ a, (![0, b] : Fin 2 → ℕ) a + S256x128.size a ≤ S256x512.size a) (a : Fin 256) (d : Fin 128)
    (hb : b + d.val < 512) :
    View.readAt (Elt Ideal) arg2.view (Rect.unit (s := S256x512) ![0, b] S256x128.size h).toLoadRect (harg2.unread x0) (ix2 a d)
      = x0 (ix2 a ⟨b + d.val, hb⟩) := by
  rw [harg2.readAt_unread]
  refine congrArg x0 (funext fun k => Fin.ext ?_)
  rw [unit_idx]
  match k with
  | 0 => exact Nat.zero_add _
  | 1 => rfl

theorem k_apply (n : Fin 256) (d : Fin 128) :
    View.readAt (Elt Ideal) arg3.view (Rect.unit (s := S256x128) ![0, 0] S256x128.size inb_S256x128_S256x128_0_0).toLoadRect (harg3.unread x1) (ix2 n d)
      = x1 (ix2 n d) := by
  rw [harg3.readAt_unread]
  refine congrArg x1 (funext fun k => Fin.ext ?_)
  rw [unit_idx]
  match k with
  | 0 => exact Nat.zero_add _
  | 1 => exact Nat.zero_add _

theorem v_apply (r : Fin 144) (n : Fin 256) :
    View.readAt (Elt Ideal) arg4.view (Rect.unit (s := S1x1x144x256) ![0, 0, 0, 0] S1x1x144x256.size inb_S1x1x144x256_S1x1x144x256_0_0_0_0).toLoadRect (harg4.unread x2) (ix4 0 0 r n)
      = tile x2 r n.val := by
  rw [harg4.readAt_unread]
  unfold tile
  rw [dif_pos n.isLt]
  refine congrArg x2 (funext fun k => Fin.ext ?_)
  rw [unit_idx]
  match k with
  | 0 => rfl
  | 1 => rfl
  | 2 => exact Nat.zero_add _
  | 3 => exact Nat.zero_add _

/-- What is stored for head `g`, once it is that head of the loaded blocks. -/
theorem of_head {b : ℕ} (h : ∀ a, (![0, b] : Fin 2 → ℕ) a + S256x128.size a ≤ S256x512.size a) (g : Fin 4) (hg : b = 128 * g.val)
    (w : FVec Ideal S256x128 .f32)
    (hw : w = oneHead (View.readAt (Elt Ideal) arg2.view (Rect.unit (s := S256x512) ![0, b] S256x128.size h).toLoadRect (harg2.unread x0))
      (View.readAt (Elt Ideal) arg3.view (Rect.unit (s := S256x128) ![0, 0] S256x128.size inb_S256x128_S256x128_0_0).toLoadRect (harg3.unread x1))
      (View.readAt (Elt Ideal) arg4.view (Rect.unit (s := S1x1x144x256) ![0, 0, 0, 0] S1x1x144x256.size inb_S1x1x144x256_S1x1x144x256_0_0_0_0).toLoadRect (harg4.unread x2)))
    (a : Fin 256) (d : Fin 128) (s : ℕ → ℝ)
    (hs : ∀ n : Fin 256, ∑ e : Fin 128, x1 (ix2 n e) * (x0 (ix2 a (col4 g e)) * (qs : EReal)) = (s n.val : EReal))
    (ones : ∀ n < 256, tile x2 128 n = 1) (ν : ℝ) :
    w (ix2 a d) = ∑ n ∈ range 256, tile x2 ⟨d.val, by omega⟩ n
          * ((Real.rpow 2 (s n - ν) / (∑ j ∈ range 256, Real.rpow 2 (s j - ν)) : ℝ) : EReal) := by
  subst hw hg
  refine oneHead_apply _ _ _ (tile x2) s a d (fun n => ?_) (v_apply arg4 harg4 x2) ones ν
  rw [← hs n]
  refine sum_congr rfl fun e _ => ?_
  rw [k_apply, q_apply arg2 harg2 x0 h a e (by omega)]
  rfl

set_option maxRecDepth 16384 in
/-- One number of a block of the result. -/
theorem block_apply (g : Fin 4) (a : Fin 256) (d : Fin 128) (s : ℕ → ℝ)
    (hs : ∀ n : Fin 256, ∑ e : Fin 128, x1 (ix2 n e) * (x0 (ix2 a (col4 g e)) * (qs : EReal)) = (s n.val : EReal))
    (ones : ∀ n < 256, tile x2 128 n = 1) (ν : ℝ) :
    out0_A_3 (F := Ideal) c i arg2 harg2 arg3 harg3 arg4 harg4 arg5 harg5 arg6 harg6 arg7 harg7 arg8 harg8 arg9 harg9 x0 x1 x2 (ix2 a (col4 g d))
      = ∑ n ∈ range 256, tile x2 ⟨d.val, by omega⟩ n
          * ((Real.rpow 2 (s n - ν) / (∑ j ∈ range 256, Real.rpow 2 (s j - ν)) : ℝ) : EReal) := by
  unfold out0_A_3 kernelRun0_A
  match g, hs with
  | 0, hs =>
    refine (View.read_writes_cons_unit_of_not_mem _ _ inb_S256x512_S256x128_0_384 _ _ _ rfl 1 (Or.inl (by show 128 * 0 + d.val < 384; omega))).trans <|
      (View.read_writes_cons_unit_of_not_mem _ _ inb_S256x512_S256x128_0_256 _ _ _ rfl 1 (Or.inl (by show 128 * 0 + d.val < 256; omega))).trans <|
      (View.read_writes_cons_unit_of_not_mem _ _ inb_S256x512_S256x128_0_128 _ _ _ rfl 1 (Or.inl (by show 128 * 0 + d.val < 128; omega))).trans <|
      (View.read_writes_cons_unit_of_mem _ _ inb_S256x512_S256x128_0_0 _ _ _ (ix2 a d) rfl (fun k => ?_)).trans
      (of_head arg2 harg2 arg3 harg3 arg4 harg4 x0 x1 x2 inb_S256x512_S256x128_0_0 0 rfl _ ?_ a d s hs ones ν)
    · match k with
      | 0 => exact (Nat.zero_add _).symm
      | 1 => rfl
    · sl_unfold_run_names
      simp (disch := decide) only [↓View.readCov_cons_toLoadRect, ↓View.readCov_skip, ↓readAt_hit, ↓readAt_skip]
      unfold_payloads
      simp only [shapeCast_shapeCast]
      rfl
  | 1, hs =>
    refine (View.read_writes_cons_unit_of_not_mem _ _ inb_S256x512_S256x128_0_384 _ _ _ rfl 1 (Or.inl (by show 128 * 1 + d.val < 384; omega))).trans <|
      (View.read_writes_cons_unit_of_not_mem _ _ inb_S256x512_S256x128_0_256 _ _ _ rfl 1 (Or.inl (by show 128 * 1 + d.val < 256; omega))).trans <|
      (View.read_writes_cons_unit_of_mem _ _ inb_S256x512_S256x128_0_128 _ _ _ (ix2 a d) rfl (fun k => ?_)).trans
      (of_head arg2 harg2 arg3 harg3 arg4 harg4 x0 x1 x2 inb_S256x512_S256x128_0_128 1 rfl _ ?_ a d s hs ones ν)
    · match k with
      | 0 => exact (Nat.zero_add _).symm
      | 1 => rfl
    · sl_unfold_run_names
      simp (disch := decide) only [↓View.readCov_cons_toLoadRect, ↓View.readCov_skip, ↓readAt_hit, ↓readAt_skip]
      unfold_payloads
      simp only [shapeCast_shapeCast]
      rfl
  | 2, hs =>
    refine (View.read_writes_cons_unit_of_not_mem _ _ inb_S256x512_S256x128_0_384 _ _ _ rfl 1 (Or.inl (by show 128 * 2 + d.val < 384; omega))).trans <|
      (View.read_writes_cons_unit_of_mem _ _ inb_S256x512_S256x128_0_256 _ _ _ (ix2 a d) rfl (fun k => ?_)).trans
      (of_head arg2 harg2 arg3 harg3 arg4 harg4 x0 x1 x2 inb_S256x512_S256x128_0_256 2 rfl _ ?_ a d s hs ones ν)
    · match k with
      | 0 => exact (Nat.zero_add _).symm
      | 1 => rfl
    · sl_unfold_run_names
      simp (disch := decide) only [↓View.readCov_cons_toLoadRect, ↓View.readCov_skip, ↓readAt_hit, ↓readAt_skip]
      unfold_payloads
      simp only [shapeCast_shapeCast]
      rfl
  | 3, hs =>
    refine (View.read_writes_cons_unit_of_mem _ _ inb_S256x512_S256x128_0_384 _ _ _ (ix2 a d) rfl (fun k => ?_)).trans
      (of_head arg2 harg2 arg3 harg3 arg4 harg4 x0 x1 x2 inb_S256x512_S256x128_0_384 3 rfl _ ?_ a d s hs ones ν)
    · match k with
      | 0 => exact (Nat.zero_add _).symm
      | 1 => rfl
    · sl_unfold_run_names
      simp (disch := decide) only [↓View.readCov_cons_toLoadRect, ↓View.readCov_skip, ↓readAt_hit, ↓readAt_skip]
      unfold_payloads
      simp only [shapeCast_shapeCast]
      rfl

end Cert.Ctx

end
-- ==== Proof.ContextReference.lean ====
/-
  The context's attention in closed form, and the reference's result as that form.
-/
module

public import proofs.«01_k».proof.Proof.Online
public import proofs.«01_k».proof.Proof.Reference
public import proofs.«01_k».proof.Proof.Gen.Reference7Ideal.Read
public import Idealize.ShloMosaic.PureOps.Ideal.Laws
public import Idealize.ShloMosaic.Lib.Pointwise

@[expose] public section

noncomputable section

namespace Cert.Ctx

open Finset

section

variable (Q : Fin 256 → Fin 1024 → EReal) (K V : Fin 256 → Fin 256 → EReal)

/-- The scaled score of context row `r`'s query of head `h` with context key `n`. -/
def scaled (r : Fin 256) (h : Fin 8) (n : Fin 256) : ℝ :=
  (∑ d : Fin 128, (K n ⟨128 * (h.val / 4) + d.val, by omega⟩).toReal * (Q r ⟨128 * h.val + d.val, by omega⟩).toReal)
    * (11863283 / 134217728)

/-- Row `r`, head `h`, number `d` of the result: the values' mean by the softmax of the scores. -/
def mean (r : Fin 256) (h : Fin 8) (d : Fin 128) : EReal :=
  ∑ n : Fin 256, V n ⟨128 * (h.val / 4) + d.val, by omega⟩
    * ((Real.exp (scaled Q K r h n) / ∑ k : Fin 256, Real.exp (scaled Q K r h k) : ℝ) : EReal)

/-- The result, the heads side by side. -/
def attention (r : Fin 256) (e : Fin 1024) : EReal :=
  mean Q K V r ⟨e.val / 128, by omega⟩ ⟨e.val % 128, by omega⟩

end

namespace Reference

open Idealize.ShloMosaic Idealize.ShloMosaic.TcCoe Cert.Reference7Ideal Cert.Reference7Ideal.Gen Cert.Reference7Ideal.Read
open Cert.Attn (coe_sum fold_max_real)
open Cert.Attn.Reference (scale_eq bottom_eq)

variable (x0 : (⟨S8448x1024, .f32⟩ : BufTy).Contents (Elt Ideal)) (x1 x2 : (⟨S8448x256, .f32⟩ : BufTy).Contents (Elt Ideal))

/-- The arguments' context rows, by row and column. -/
def argQ : Fin 256 → Fin 1024 → EReal := fun r e => x0 (ix2 ⟨r.val, by omega⟩ e)
def argKV : Fin 256 → Fin 256 → EReal := fun r e => x1 (ix2 ⟨r.val, by omega⟩ e)

/-- The head of an index of the scores. -/
def headOf (j : Fin 2) (h : Fin 4) : Fin 8 := ⟨4 * j.val + h.val, by omega⟩

variable (hQ : ∀ r e, argQ x0 r e = ((argQ x0 r e).toReal : EReal)) (hK : ∀ r e, argKV x1 r e = ((argKV x1 r e).toReal : EReal))

include hQ hK

theorem scores_apply (i : S2x4x256x256.Idx) :
    val_main_v9 (F := Ideal) x0 x1 i = (scaled (argQ x0) (argKV x1) (i 2) (headOf (i 0) (i 1)) (i 3) : EReal) := by
  have b0 : (i 0).val < 2 := (i 0).isLt
  have b1 : (i 1).val < 4 := (i 1).isLt
  have b2 : (i 2).val < 256 := (i 2).isLt
  have b3 : (i 3).val < 256 := (i 3).isLt
  rw [val_main_v9_apply, val_main_v7_apply, val_main_v6_apply, val_main_v8_apply, val_main_cst_apply]
  refine (congrArg (_ * ·) scale_eq).trans ?_
  unfold scaled
  rw [EReal.coe_mul, coe_sum]
  refine congrArg (· * _) (sum_congr rfl fun d _ => ?_)
  rw [val_main_v3_apply, val_main_v2_apply, val_main_v1_apply, val_main_v0_apply]
  have e1 : idx_main_v2 (idx_main_v3 (lidx_main_v6 (idx_main_v7 i) d))
      = ix2 (⟨(i 3).val, by omega⟩ : Fin 8448) (⟨128 * ((headOf (i 0) (i 1)).val / 4) + d.val, by have := (headOf (i 0) (i 1)).isLt; omega⟩ : Fin 256) :=
    funext fun a => Fin.ext (by
      match a with
      | 0 => show (((i 3).val * 2 + (i 0).val) * 128 + d.val) / 256 = (i 3).val; omega
      | 1 => show (((i 3).val * 2 + (i 0).val) * 128 + d.val) % 256 = 128 * ((4 * (i 0).val + (i 1).val) / 4) + d.val; omega)
  have e0 : idx_main_v0 (idx_main_v1 (ridx_main_v6 (idx_main_v7 i) d))
      = ix2 (⟨(i 2).val, by omega⟩ : Fin 8448) (⟨128 * (headOf (i 0) (i 1)).val + d.val, by have := (headOf (i 0) (i 1)).isLt; omega⟩ : Fin 1024) :=
    funext fun a => Fin.ext (by
      match a with
      | 0 => show ((((i 2).val * 2 + (i 0).val) * 4 + (i 1).val) * 128 + d.val) / 1024 = (i 2).val; omega
      | 1 => show ((((i 2).val * 2 + (i 0).val) * 4 + (i 1).val) * 128 + d.val) % 1024 = 128 * (4 * (i 0).val + (i 1).val) + d.val; omega)
  rw [e1, e0, EReal.coe_mul]
  exact congrArg₂ (· * ·) (hK (i 3) _) (hQ (i 2) _)

/-- The row's largest score is a real number. -/
theorem top_real (j : S2x4x256.Idx) : ∃ M : ℝ, val_main_v12 (F := Ideal) x0 x1 j = (M : EReal) := by
  rw [val_main_v12_apply, val_main_v11_apply, val_main_cst_1_apply]
  unfold val_main_v10
  rw [Host.reduce_eq_fold_single _ _ _ _ (by decide) _ _]
  obtain ⟨M, hM⟩ := fold_max_real (univ : Finset (Fin 256)) ⟨0, mem_univ _⟩
    (fun k => (val_main_v9 (F := Ideal) x0 x1 ((by decide : S2x4x256x256.Reduces [3] S2x4x256).lift j k)).toReal)
  refine ⟨M, ?_⟩
  have e : ∀ i, val_main_v9 (F := Ideal) x0 x1 i = ((val_main_v9 (F := Ideal) x0 x1 i).toReal : EReal) := fun i => by
    rw [scores_apply x0 x1 hQ hK, EReal.toReal_coe]
  simp only [← e] at hM
  refine (congrArg₂ max bottom_eq ?_).trans (max_eq_right bot_le)
  rw [val_main_cst_0_apply]
  refine Eq.trans ?_ hM
  refine Eq.trans (congrArg (fun b => fold _ b _ _) bottom_eq) ?_
  rfl

theorem weights_apply (i : S2x4x256x256.Idx) :
    val_main_v20 (F := Ideal) x0 x1 i = ((Real.exp (scaled (argQ x0) (argKV x1) (i 2) (headOf (i 0) (i 1)) (i 3))
      / ∑ k : Fin 256, Real.exp (scaled (argQ x0) (argKV x1) (i 2) (headOf (i 0) (i 1)) k) : ℝ) : EReal) := by
  obtain ⟨M, hM⟩ := top_real x0 x1 hQ hK (idx_main_v13 (idx_main_v14 i))
  have e (k : S2x4x256x256.Idx) (hk : idx_main_v13 (idx_main_v14 k) = idx_main_v13 (idx_main_v14 i)) :
      val_main_v16 (F := Ideal) x0 x1 k
        = (Real.exp (scaled (argQ x0) (argKV x1) (k 2) (headOf (k 0) (k 1)) (k 3)) * Real.exp (-M) : ℝ) := by
    rw [val_main_v16_apply, val_main_v15_apply, val_main_v14_apply, val_main_v13_apply, hk, hM, scores_apply x0 x1 hQ hK]
    rw [← Real.exp_add, ← sub_eq_add_neg]
    rfl
  rw [val_main_v20_apply, val_main_v19_apply, val_main_v18_apply, val_main_v17_apply, e i rfl]
  rw [sum_congr rfl fun k _ => e (idx_main_v17 (idx_main_v18 (idx_main_v19 i)) k) rfl, ← coe_sum, ← sum_mul]
  have hpos : 0 < ∑ k : Fin 256, Real.exp (scaled (argQ x0) (argKV x1) (i 2) (headOf (i 0) (i 1)) k) :=
    sum_pos (fun k _ => Real.exp_pos _) ⟨0, mem_univ _⟩
  have hM' := Real.exp_pos (-M)
  have z : val_main_cst_2 (F := Ideal) (Shape.Idx.first h_S_) = (0 : EReal) := by
    show Ideal.ofBits .f32 0x00000000#32 = 0
    simp [Ideal.ofBits, Ideal.ieee]
  rw [z, zero_add]
  refine (Ideal.div_coe (mul_pos hpos hM').ne' _).trans ?_
  rw [← EReal.coe_mul]
  refine congrArg _ ?_
  rw [mul_one_div, mul_div_mul_right _ _ hM'.ne']

/-- The reference's result. -/
theorem result_apply (r : Fin 256) (e : Fin 1024) :
    val_main_v23 (F := Ideal) x0 x1 x2 (ix2 r e) = attention (argQ x0) (argKV x1) (argKV x2) r e := by
  rw [val_main_v23_apply, val_main_v22_apply, val_main_v21_apply]
  unfold attention mean
  refine sum_congr rfl fun k _ => ?_
  rw [val_main_v5_apply, val_main_v4_apply, weights_apply x0 x1 hQ hK]
  have e1 : idx_main_v4 (idx_main_v5 (lidx_main_v21 (idx_main_v22 (idx_main_v23 (ix2 r e))) k))
      = ix2 (⟨k.val, by omega⟩ : Fin 8448) (⟨128 * (e.val / 128 / 4) + e.val % 128, by omega⟩ : Fin 256) :=
    funext fun a => Fin.ext (by
      match a with
      | 0 => show ((k.val * 2 + (r.val * 1024 + e.val) / 512 % 2) * 128 + (r.val * 1024 + e.val) % 128) / 256 = k.val; omega
      | 1 => show ((k.val * 2 + (r.val * 1024 + e.val) / 512 % 2) * 128 + (r.val * 1024 + e.val) % 128) % 256
              = 128 * (e.val / 128 / 4) + e.val % 128; omega)
  have er : (ridx_main_v21 (idx_main_v22 (idx_main_v23 (ix2 r e))) k) 2 = r :=
    Fin.ext (by show (r.val * 1024 + e.val) / 1024 = r.val; omega)
  have eh : headOf ((ridx_main_v21 (idx_main_v22 (idx_main_v23 (ix2 r e))) k) 0)
      ((ridx_main_v21 (idx_main_v22 (idx_main_v23 (ix2 r e))) k) 1) = ⟨e.val / 128, by omega⟩ :=
    Fin.ext (by show 4 * ((r.val * 1024 + e.val) / 512 % 2) + (r.val * 1024 + e.val) / 128 % 4 = e.val / 128; omega)
  rw [e1, er, eh]
  rfl

end Reference

end Cert.Ctx

end
-- ==== Proof.Context.lean ====
/-
  The context attention's blocks in terms of the arguments, its result against the reference, and its claims.
-/
module

public import proofs.«01_k».proof.Defs
public import proofs.«01_k».proof.Proof.Attention
public import proofs.«01_k».proof.Proof.ContextBlock
public import proofs.«01_k».proof.Proof.ContextReference
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_finite7
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

noncomputable section

namespace Cert.Ctx

open Idealize.ShloMosaic Idealize.ShloMosaic.TcCoe Idealize.SL.Sem Finset

section

open Cert.Kernel7Ideal Cert.Kernel7Ideal.Gen
open Cert.Attn (two_rpow_eq_exp coe_sum qs col4)

variable (m : (ℓ : Loc nD τ sig) → Buf (Elt Ideal) ℓ) (c : Dev nD) (t : Fin cfg0.N)

/-- The windows' blocks at a grid point, by the result block's place. -/
theorem places : ∀ t : Fin grid0.N, (win0_3.index t 0 = 0 ∧ win0_3.index t 1 < 2)
    ∧ (win0_0.index t 0 = 0 ∧ win0_0.index t 1 = win0_3.index t 1)
    ∧ (win0_1.index t 0 = 0 ∧ win0_1.index t 1 = win0_3.index t 1)
    ∧ (win0_2.index t 0 = 0 ∧ win0_2.index t 1 = win0_3.index t 1 ∧ win0_2.index t 2 = 0 ∧ win0_2.index t 3 = 0) := by
  decide +kernel

/-- The key head of a grid point. -/
def bj : Fin 2 := ⟨win0_3.index t 1, (places t).1.2⟩

theorem iblk0_apply (a : Fin 256) (e : Fin 512) :
    (iblk m c 0 t : Vec Ideal S256x512 .f32) (ix2 a e)
      = m ((c : Thread nD τ).loc main_arg0) (ix2 ⟨a.val, by omega⟩ ⟨512 * (bj t).val + e.val, by have := (bj t).isLt; omega⟩) := by
  unfold iblk
  rw [View.read_apply]
  entry_read
  refine congrArg (m ((c : Thread nD τ).loc main_arg0)) (funext fun k => Fin.ext ?_)
  match k with
  | 0 => show win0_0.index t 0 * 256 + 1 * a.val = a.val; rw [(places t).2.1.1]; omega
  | 1 => show win0_0.index t 1 * 512 + 1 * e.val = 512 * win0_3.index t 1 + e.val; rw [(places t).2.1.2]; omega

theorem iblk1_apply (n : Fin 256) (e : Fin 128) :
    (iblk m c 1 t : Vec Ideal S256x128 .bf16) (ix2 n e)
      = m ((c : Thread nD τ).loc main_arg1) (ix2 ⟨n.val, by omega⟩ ⟨128 * (bj t).val + e.val, by have := (bj t).isLt; omega⟩) := by
  unfold iblk
  rw [View.read_apply]
  entry_read
  refine congrArg (m ((c : Thread nD τ).loc main_arg1)) (funext fun k => Fin.ext ?_)
  match k with
  | 0 => show win0_1.index t 0 * 256 + 1 * n.val = n.val; rw [(places t).2.2.1.1]; omega
  | 1 => show win0_1.index t 1 * 128 + 1 * e.val = 128 * win0_3.index t 1 + e.val; rw [(places t).2.2.1.2]; omega

theorem iblk2_apply (r : Fin 144) (k : Fin 256) :
    (iblk m c 2 t : Vec Ideal S1x1x144x256 .bf16) (ix4 0 0 r k) = V m c main_v5 (ix4 0 (bj t) r k) := by
  unfold iblk
  rw [View.read_apply]
  show V m c main_v5 _ = V m c main_v5 _
  refine congrArg (V m c main_v5) (funext fun a => Fin.ext ?_)
  match a with
  | 0 => show win0_2.index t 0 * 1 + 1 * 0 = 0; rw [(places t).2.2.2.1]
  | 1 => show win0_2.index t 1 * 1 + 1 * 0 = win0_3.index t 1; rw [(places t).2.2.2.2.1]; omega
  | 2 => show win0_2.index t 2 * 144 + 1 * r.val = r.val; rw [(places t).2.2.2.2.2.1]; omega
  | 3 => show win0_2.index t 3 * 256 + 1 * k.val = k.val; rw [(places t).2.2.2.2.2.2]; omega

theorem tiles_val (j : Fin 2) (d : Fin 128) (k : Fin 256) :
    (V m c main_v5 : Vec Ideal S33x2x144x256 .bf16) (ix4 0 j ⟨d.val, by omega⟩ k)
      = m ((c : Thread nD τ).loc main_arg2) (ix2 ⟨k.val, by omega⟩ ⟨128 * j.val + d.val, by omega⟩) := by
  entry_read
  pointwise []
  refine congrArg (m ((c : Thread nD τ).loc main_arg2)) (funext fun a => Fin.ext ?_)
  match a with
  | 0 => rfl
  | 1 => show j.val * 128 + d.val = 128 * j.val + d.val; omega

theorem tiles_one (j : Fin 2) (k : Fin 256) :
    (V m c main_v5 : Vec Ideal S33x2x144x256 .bf16) (ix4 0 j 128 k) = (1 : EReal) := by
  entry_read
  pointwise []

/-- Key `n`'s value at a grid point. -/
theorem tile_val (d : Fin 128) (n : Fin 256) :
    tile (iblk m c 2 t : Vec Ideal S1x1x144x256 .bf16) ⟨d.val, by omega⟩ n.val
      = m ((c : Thread nD τ).loc main_arg2) (ix2 ⟨n.val, by omega⟩ ⟨128 * (bj t).val + d.val, by have := (bj t).isLt; omega⟩) := by
  unfold tile
  rw [dif_pos n.isLt, iblk2_apply, tiles_val]

theorem tile_one (n : ℕ) (hn : n < 256) : tile (iblk m c 2 t : Vec Ideal S1x1x144x256 .bf16) 128 n = 1 := by
  unfold tile
  rw [dif_pos hn, iblk2_apply, tiles_one]

/-- The arguments' context rows, by row and column. -/
def argQ : Fin 256 → Fin 1024 → EReal := fun r e => m ((c : Thread nD τ).loc main_arg0) (ix2 ⟨r.val, by omega⟩ e)
def argK : Fin 256 → Fin 256 → EReal := fun r e => m ((c : Thread nD τ).loc main_arg1) (ix2 ⟨r.val, by omega⟩ e)
def argV : Fin 256 → Fin 256 → EReal := fun r e => m ((c : Thread nD τ).loc main_arg2) (ix2 ⟨r.val, by omega⟩ e)

/-- One number of what a grid point writes back. -/
theorem point_apply (hQ : ∀ r e, argQ m c r e = ((argQ m c r e).toReal : EReal)) (hK : ∀ r e, argK m c r e = ((argK m c r e).toReal : EReal))
    (g : Fin 4) (a : Fin 256) (d : Fin 128) :
    outsAt0 m c t (ix2 a (col4 g d))
      = mean (argQ m c) (argK m c) (argV m c) a ⟨4 * (bj t).val + g.val, by have := (bj t).isLt; omega⟩ d := by
  have hj := (bj t).isLt
  set h : Fin 8 := ⟨4 * (bj t).val + g.val, by omega⟩ with hh
  have h4 : h.val / 4 = (bj t).val := by show (4 * (bj t).val + g.val) / 4 = (bj t).val; omega
  let s : ℕ → ℝ := fun n => if hn : n < 256 then scaled (argQ m c) (argK m c) a h ⟨n, hn⟩ * (Real.log 2)⁻¹ else 0
  unfold outsAt0
  rw [block_apply c (grid0.coords t) _ _ _ _ _ _ _ _ _ _ _ _ _ _ _ _ _ _ _ g a d s ?_ (tile_one m c t) 0]
  · rw [sum_range, sum_range]
    unfold mean
    refine sum_congr rfl fun n _ => ?_
    have e (k : Fin 256) : Real.rpow 2 (s k.val - 0) = Real.exp (scaled (argQ m c) (argK m c) a h k) := by
      have := two_rpow_eq_exp (scaled (argQ m c) (argK m c) a h k) 0
      rw [zero_mul, sub_zero, sub_zero] at this
      rw [sub_zero, ← this]
      simp only [s, k.isLt, dif_pos, Fin.eta]
    rw [tile_val]
    simp only [e]
    refine congrArg (· * _) ?_
    unfold argV
    exact congrArg (m ((c : Thread nD τ).loc main_arg2)) (congrArg (ix2 _) (Fin.ext (by show 128 * (bj t).val + d.val = 128 * (h.val / 4) + d.val; rw [h4])))
  · intro n
    simp only [s, n.isLt, dif_pos]
    unfold scaled
    rw [sum_mul, sum_mul, coe_sum]
    refine sum_congr rfl fun k _ => ?_
    rw [iblk1_apply, iblk0_apply]
    have e1 : m ((c : Thread nD τ).loc main_arg1) (ix2 ⟨n.val, by omega⟩ ⟨128 * (bj t).val + k.val, by omega⟩)
        = argK m c n ⟨128 * (h.val / 4) + k.val, by omega⟩ := by
      unfold argK
      exact congrArg (m ((c : Thread nD τ).loc main_arg1)) (congrArg (ix2 _) (Fin.ext (by show 128 * (bj t).val + k.val = 128 * (h.val / 4) + k.val; rw [h4])))
    have e0 : m ((c : Thread nD τ).loc main_arg0) (ix2 ⟨a.val, by omega⟩ ⟨512 * (bj t).val + (col4 g k).val, by have := (col4 g k).isLt; omega⟩)
        = argQ m c a ⟨128 * h.val + k.val, by omega⟩ := by
      unfold argQ
      exact congrArg (m ((c : Thread nD τ).loc main_arg0)) (congrArg (ix2 _) (Fin.ext (by
        show 512 * (bj t).val + (128 * g.val + k.val) = 128 * (4 * (bj t).val + g.val) + k.val; omega)))
    refine (congrArg₂ (fun x y : EReal => x * (y * (qs : EReal))) e1 e0).trans ?_
    rw [hK, hQ]
    simp only [EReal.toReal_coe]
    rw [← EReal.coe_mul, ← EReal.coe_mul]
    refine congrArg _ ?_
    unfold qs
    ring

/-- The result array after the run. -/
theorem array_eq (hQ : ∀ r e, argQ m c r e = ((argQ m c r e).toReal : EReal)) (hK : ∀ r e, argK m c r e = ((argK m c r e).toReal : EReal)) :
    (dats m 0 c).arrAt 3 cfg0.N = (fun i => attention (argQ m c) (argK m c) (argV m c) (i 0) (i 1) : S256x1024.Idx → EReal) := by
  refine (dats m 0 c).arrAt_eq_of_covers 3 _ (by decide +kernel) fun t hf y => ?_
  blk_simp
  rw [after0_3]
  have h0 : (y 0).val < 256 := (y 0).isLt
  have h1 : (y 1).val < 512 := (y 1).isLt
  have hp := (places t).1.1
  have hy : (y : S256x512.Idx) = ix2 (⟨(y 0).val, h0⟩ : Fin 256) (col4 ⟨(y 1).val / 128, by omega⟩ ⟨(y 1).val % 128, Nat.mod_lt _ (by decide)⟩) :=
    funext fun k => Fin.ext (by
      match k with
      | 0 => rfl
      | 1 => exact (Nat.div_add_mod (y 1).val 128).symm)
  have e0 : ((win0_3.blk t).view.emb y 0).val = win0_3.index t 0 * 256 + 1 * (y 0).val := rfl
  have e1 : ((win0_3.blk t).view.emb y 1).val = win0_3.index t 1 * 512 + 1 * (y 1).val := rfl
  refine (congrArg (outsAt0 m c t) hy).trans ((point_apply m c t hQ hK _ _ _).trans ?_)
  unfold attention
  congr 1
  · refine Fin.ext ?_
    show (y 0).val = ((win0_3.blk t).view.emb y 0).val
    omega
  · refine Fin.ext ?_
    show 4 * win0_3.index t 1 + (y 1).val / 128 = ((win0_3.blk t).view.emb y 1).val / 128
    omega
  · refine Fin.ext ?_
    show (y 1).val % 128 = ((win0_3.blk t).view.emb y 1).val % 128
    omega

end

theorem frame_p : Cert.quiescent_Kernel7 := fun m ρ _ => Cert.Kernel7.Gen.frame m ρ

theorem frame_pi : Cert.quiescent_Kernel7Ideal := fun m ρ _ => Cert.Kernel7Ideal.Gen.frame m ρ

theorem frame_pi_pre : Cert.quiescent_Kernel7Ideal_pre_finite7 := fun m ρ _ => Cert.Kernel7Ideal.Gen.frame m ρ

theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_ri_pre : Cert.quiescent_Reference7Ideal_pre_finite7 := fun m ρ _ => frame_ri m ρ trivial

theorem preserves : Cert.preserves_Kernel7_Kernel7Ideal :=
  IdealRules.named_const.statement Cert.Kernel7Ideal.κ "qscale" .f32 0x3E0293EE#32 (((11863283 / 134217728) * (Real.log 2)⁻¹ : ℝ) : EReal) rfl

/-- A row of the context among all rows. -/
theorem slice_apply {n : ℕ} (x : FVec Ideal (⟨2, ![8448, n]⟩ : Shape) .f32)
    (h : Shape.Slices (⟨2, ![8448, n]⟩ : Shape) ![0, 0] (⟨2, ![256, n]⟩ : Shape)) (r : Fin 256) (e : Fin n) :
    extractStridedSlice (⟨2, ![256, n]⟩ : Shape) ![0, 0] x h (ix2 r e) = x (ix2 ⟨r.val, by omega⟩ e) :=
  extractStridedSlice_apply ![0, 0] x h (ix2 r e) (ix2 ⟨r.val, by omega⟩ e) (fun a => match a with
    | ⟨0, _⟩ => (Nat.zero_add _).symm
    | ⟨1, _⟩ => (Nat.zero_add _).symm)

theorem algebraic : Cert.algebraic_Kernel7Ideal_Reference7Ideal_pre_finite7 := by
  intro m ρ m' ρ' hpre hagree
  have hQ (c : Dev Cert.Kernel7Ideal.nD) (r : Fin 256) (e : Fin 1024) : argQ m c r e = ((argQ m c r e).toReal : EReal) := by
    have h := Cert.Attn.Claims.real_of_cmp _ (congrFun (hpre c).1 (ix2 r e))
    beta_reduce at h
    rw [slice_apply] at h
    exact h
  have hK (c : Dev Cert.Kernel7Ideal.nD) (r : Fin 256) (e : Fin 256) : argK m c r e = ((argK m c r e).toReal : EReal) := by
    have h := Cert.Attn.Claims.real_of_cmp _ (congrFun (hpre c).2 (ix2 r e))
    beta_reduce at h
    rw [slice_apply] at h
    exact h
  refine ⟨_, (θ_run Cert.Kernel7Ideal.defs _ _).mono (fun _ h c => ⟨(h c).1.trans (array_eq m c (hQ c) (hK c)), (h c).2⟩)
    (Cert.Kernel7Ideal.Value.run_blocks (F := Ideal) m ρ), ?_⟩
  refine (θ_run Cert.Reference7Ideal.defs _ _).mono (fun _ h c => ⟨(h c).1.trans ?_, (h c).2⟩)
    (Cert.Reference7Ideal.Value.run (F := Ideal) m' ρ')
  rw [(hagree c).1, (hagree c).2.1, (hagree c).2.2]
  refine (Cert.Reference7Ideal.Read.val_main_v23_eq _ _ _).trans (funext fun i => ?_)
  have hi : i = ix2 (i 0) (i 1) := funext fun a => by
    match a with
    | 0 => rfl
    | 1 => rfl
  rw [hi]
  exact Reference.result_apply _ _ _ (hQ c) (hK c) _ _

end Cert.Ctx

end
-- ==== Proof.PrepBlock.lean ====
/-
  One block of the attention's preparation at the extended reals: heads of queries and keys normed over the root mean square, of real
  numbers, and turned by the tables; and the values' tile with its rows of ones.
-/
module

public import proofs.«01_k».proof.Proof.Block
public import proofs.«01_k».proof.Proof.Mixture
public import proofs.«01_k».proof.Proof.Gen.Kernel8Ideal.Frame
public import Idealize.ShloMosaic.Lib.WritesUnit
public import Idealize.ShloMosaic.Lib.Pointwise
public import Idealize.ShloMosaic.PureOps.Ideal

@[expose] public section

noncomputable section

namespace Cert.Prep

open Idealize.ShloMosaic Idealize.ShloMosaic.TcCoe Cert.Kernel8Ideal Cert.Kernel8Ideal.Gen Finset
open Cert.Attn (unit_idx)
open Cert.Mix (scaleOf headLen)

section

variable {F : FTy → Type} [FloatOps F]

/-- The sums of the rows' squares, in every column: the squares in two parts, each times ones. -/
def sumSq (x : FVec F S256x128 .f32) : FVec F S256x128 .f32 :=
  addf (matmul dot_S256x128_S128x128_S256x128_1_0_0_1_n_n none (truncf .bf16 (mulf x x) bitsLt_bf16_f32)
      (broadcast S128x128 (Scalar.ofBits .bf16 0x3F80#16)) (constant S256x128 .f32 0x00000000#32))
    (matmul dot_S256x128_S128x128_S256x128_1_0_0_1_n_n none
      (truncf .bf16 (subf (mulf x x) (extf .f32 (truncf .bf16 (mulf x x) bitsLt_bf16_f32) bitsLt_bf16_f32)) bitsLt_bf16_f32)
      (broadcast S128x128 (Scalar.ofBits .bf16 0x3F80#16)) (constant S256x128 .f32 0x00000000#32))

/-- The rows over their root mean squares, times the gain. -/
def normOf (x : FVec F S256x128 .f32) (g : FVec F S1x128 .f32) : FVec F S256x128 .f32 :=
  mulf (mulf x (rsqrt (addf (mulf (sumSq x) (broadcast S256x128 (Scalar.ofBits .f32 0x3C000000#32)))
      (broadcast S256x128 (Scalar.ofBits .f32 0x358637BD#32)))))
    (broadcastTo S256x128 g broadcasts_S1x128_S256x128)

/-- The normed rows turned by the tables, times the scale. -/
def turnOf (w : BitVec 32) (cos sin : FVec F S256x128 .f32) (y : FVec F S256x128 .f32) : FVec F S256x128 .bf16 :=
  truncf .bf16 (mulf (addf (mulf y (shapeCast S256x128 cos shapeCasts_S256x128_S256x128))
      (mulf (dynamicRotate 1 64#32 none y rotates_S256x128_d1) (shapeCast S256x128 sin shapeCasts_S256x128_S256x128)))
    (broadcast S256x128 (Scalar.ofBits .f32 w))) bitsLt_bf16_f32

end

/-- A head over its root mean square, times the gain. -/
def normed (x gain : Fin 128 → EReal) (d : Fin 128) : EReal := x d * scaleOf headLen x * gain d

/-- A head's place in the other half. -/
def other (d : Fin 128) : Fin 128 := ⟨(d.val + 128 - 64) % 128, Nat.mod_lt _ (by decide)⟩

theorem sub_self_real (x : EReal) (h : x = (x.toReal : EReal)) : x * x - x * x = 0 := by
  rw [h, ← EReal.coe_mul, ← EReal.coe_sub, sub_self, EReal.coe_zero]

theorem headLen_eq : headLen = ((128 : ℝ) : EReal) := by
  unfold headLen
  simp [Ideal.ofBits, Ideal.ieee, -EReal.coe_mul]
  try norm_num

theorem share_eq : Ideal.ofBits .f32 1006632960#32 = ((1 / 128 : ℝ) : EReal) := by
  simp [Ideal.ofBits, Ideal.ieee, -EReal.coe_mul]
  try norm_num

theorem sumSq_apply (x : FVec Ideal S256x128 .f32) (a : Fin 256) (d : Fin 128)
    (hx : ∀ k, (x (ix2 a k) : EReal) = ((x (ix2 a k) : EReal).toReal : EReal)) :
    sumSq x (ix2 a d) = ∑ k : Fin 128, x (ix2 a k) * x (ix2 a k) := by
  pointwise [sumSq]
  have z : ∑ k : Fin 128, ((x (ix2 a k) : EReal) * x (ix2 a k) - x (ix2 a k) * x (ix2 a k)) = 0 :=
    sum_eq_zero fun k _ => sub_self_real _ (hx k)
  exact (congrArg (fun q : EReal => ∑ k : Fin 128, (x (ix2 a k) : EReal) * x (ix2 a k) + q) z).trans (add_zero _)

theorem normOf_apply (x : FVec Ideal S256x128 .f32) (g : FVec Ideal S1x128 .f32) (a : Fin 256) (d : Fin 128)
    (hx : ∀ k, (x (ix2 a k) : EReal) = ((x (ix2 a k) : EReal).toReal : EReal)) :
    normOf x g (ix2 a d) = normed (fun k => x (ix2 a k)) (fun k => g (ix2 0 k)) d := by
  pointwise [normOf]
  rw [sumSq_apply x a d hx]
  unfold normed scaleOf
  rw [headLen_eq, Ideal.div_coe (by norm_num), share_eq]

/-- A head turned by a row of the tables. -/
theorem turnOf_apply (w : BitVec 32) (cos sin : FVec Ideal S256x128 .f32) (y : FVec Ideal S256x128 .f32) (a : Fin 256) (d : Fin 128) :
    turnOf w cos sin y (ix2 a d)
      = (y (ix2 a d) * cos (ix2 a d) + y (ix2 a (other d)) * sin (ix2 a d)) * Ideal.ofBits .f32 w := by
  pointwise [turnOf]
  rfl

/-- Column `d` of head `g`. -/
def colQ (g : Fin 8) (d : Fin 128) : Fin 1024 := ⟨128 * g.val + d.val, by omega⟩
def colK (g : Fin 2) (d : Fin 128) : Fin 256 := ⟨128 * g.val + d.val, by omega⟩

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x256 .bf16) (harg8 : arg8.IsWhole) (arg9 : Memref sig .tc .vmem S1x2x144x256 .bf16) (harg9 : arg9.IsWhole)
  (x0 : Vec Ideal S256x1024 .f32) (x1 : Vec Ideal S256x512 .f32) (x2 : Vec Ideal S256x128 .f32) (x3 : Vec Ideal S256x128 .f32) (x4 : Vec Ideal S1x128 .f32) (x5 : Vec Ideal S1x128 .f32)

theorem q_apply {b : ℕ} (h : ∀ a, (![0, b] : Fin 2 → ℕ) a + S256x128.size a ≤ S256x1024.size a) (a : Fin 256) (d : Fin 128)
    (hb : b + d.val < 1024) :
    View.readAt (Elt Ideal) arg1.view (Rect.unit (s := S256x1024) ![0, b] S256x128.size h).toLoadRect (harg1.unread x0) (ix2 a d)
      = x0 (ix2 a ⟨b + d.val, hb⟩) := by
  rw [harg1.readAt_unread]
  refine congrArg x0 (funext fun k => Fin.ext ?_)
  rw [unit_idx]
  match k with
  | 0 => exact Nat.zero_add _
  | 1 => rfl

theorem k_apply {b : ℕ} (h : ∀ a, (![0, b] : Fin 2 → ℕ) a + S256x128.size a ≤ S256x512.size a) (a : Fin 256) (d : Fin 128)
    (hb : b + d.val < 512) :
    View.readAt (Elt Ideal) arg2.view (Rect.unit (s := S256x512) ![0, b] S256x128.size h).toLoadRect (harg2.unread x1) (ix2 a d)
      = x1 (ix2 a ⟨b + d.val, hb⟩) := by
  rw [harg2.readAt_unread]
  refine congrArg x1 (funext fun k => Fin.ext ?_)
  rw [unit_idx]
  match k with
  | 0 => exact Nat.zero_add _
  | 1 => rfl

theorem v_apply (k d : Fin 256) :
    View.readAt (Elt Ideal) arg2.view (Rect.unit (s := S256x512) ![0, 256] S256x256.size inb_S256x512_S256x256_0_256).toLoadRect (harg2.unread x1) (ix2 k d)
      = x1 (ix2 k ⟨256 + d.val, by omega⟩) := by
  rw [harg2.readAt_unread]
  refine congrArg x1 (funext fun b => Fin.ext ?_)
  rw [unit_idx]
  match b with
  | 0 => exact Nat.zero_add _
  | 1 => rfl

theorem cos_apply (a : Fin 256) (d : Fin 128) :
    View.readAt (Elt Ideal) arg3.view (Rect.unit (s := S256x128) ![0, 0] S256x128.size inb_S256x128_S256x128_0_0).toLoadRect (harg3.unread x2) (ix2 a d)
      = x2 (ix2 a d) := by
  rw [harg3.readAt_unread]
  refine congrArg x2 (funext fun k => Fin.ext ?_)
  rw [unit_idx]
  match k with
  | 0 => exact Nat.zero_add _
  | 1 => exact Nat.zero_add _

theorem sin_apply (a : Fin 256) (d : Fin 128) :
    View.readAt (Elt Ideal) arg4.view (Rect.unit (s := S256x128) ![0, 0] S256x128.size inb_S256x128_S256x128_0_0).toLoadRect (harg4.unread x3) (ix2 a d)
      = x3 (ix2 a d) := by
  rw [harg4.readAt_unread]
  refine congrArg x3 (funext fun k => Fin.ext ?_)
  rw [unit_idx]
  match k with
  | 0 => exact Nat.zero_add _
  | 1 => exact Nat.zero_add _

theorem qn_apply (d : Fin 128) :
    View.readAt (Elt Ideal) arg5.view (Rect.unit (s := S1x128) ![0, 0] S1x128.size inb_S1x128_S1x128_0_0).toLoadRect (harg5.unread x4) (ix2 0 d)
      = x4 (ix2 0 d) := by
  rw [harg5.readAt_unread]
  refine congrArg x4 (funext fun k => Fin.ext ?_)
  rw [unit_idx]
  match k with
  | 0 => rfl
  | 1 => exact Nat.zero_add _

theorem kn_apply (d : Fin 128) :
    View.readAt (Elt Ideal) arg6.view (Rect.unit (s := S1x128) ![0, 0] S1x128.size inb_S1x128_S1x128_0_0).toLoadRect (harg6.unread x5) (ix2 0 d)
      = x5 (ix2 0 d) := by
  rw [harg6.readAt_unread]
  refine congrArg x5 (funext fun k => Fin.ext ?_)
  rw [unit_idx]
  match k with
  | 0 => rfl
  | 1 => exact Nat.zero_add _

/-- What is stored for head `g` of the queries, once it is that head of the loaded blocks. -/
theorem of_q {b : ℕ} (h : ∀ a, (![0, b] : Fin 2 → ℕ) a + S256x128.size a ≤ S256x1024.size a) (g : Fin 8) (hg : b = 128 * g.val)
    (w : FVec Ideal S256x128 .bf16)
    (hw : w = turnOf 0x3E0293EE#32 (View.readAt (Elt Ideal) arg3.view (Rect.unit (s := S256x128) ![0, 0] S256x128.size inb_S256x128_S256x128_0_0).toLoadRect (harg3.unread x2))
      (View.readAt (Elt Ideal) arg4.view (Rect.unit (s := S256x128) ![0, 0] S256x128.size inb_S256x128_S256x128_0_0).toLoadRect (harg4.unread x3))
      (normOf (View.readAt (Elt Ideal) arg1.view (Rect.unit (s := S256x1024) ![0, b] S256x128.size h).toLoadRect (harg1.unread x0))
        (View.readAt (Elt Ideal) arg5.view (Rect.unit (s := S1x128) ![0, 0] S1x128.size inb_S1x128_S1x128_0_0).toLoadRect (harg5.unread x4))))
    (a : Fin 256) (d : Fin 128) (y : Fin 128 → EReal) (hy : ∀ k : Fin 128, y k = x0 (ix2 a (colQ g k))) (hr : ∀ k, y k = ((y k).toReal : EReal)) :
    w (ix2 a d) = (normed y (fun k => x4 (ix2 0 k)) d * x2 (ix2 a d) + normed y (fun k => x4 (ix2 0 k)) (other d) * x3 (ix2 a d))
      * Ideal.ofBits .f32 0x3E0293EE#32 := by
  subst hw hg
  have e : ∀ k : Fin 128, (View.readAt (Elt Ideal) arg1.view (Rect.unit (s := S256x1024) ![0, 128 * g.val] S256x128.size h).toLoadRect (harg1.unread x0)) (ix2 a k)
      = y k := fun k => (q_apply arg1 harg1 x0 h a k (by omega)).trans (hy k).symm
  have n : ∀ k : Fin 128, normOf (F := Ideal) (View.readAt (Elt Ideal) arg1.view (Rect.unit (s := S256x1024) ![0, 128 * g.val] S256x128.size h).toLoadRect (harg1.unread x0))
        (View.readAt (Elt Ideal) arg5.view (Rect.unit (s := S1x128) ![0, 0] S1x128.size inb_S1x128_S1x128_0_0).toLoadRect (harg5.unread x4)) (ix2 a k)
      = normed y (fun k => x4 (ix2 0 k)) k := fun k => by
    refine (normOf_apply _ _ a k (fun k => by rw [e k]; exact hr k)).trans ?_
    exact congrArg₂ (fun u v => normed u v k) (funext e) (funext fun k => qn_apply arg5 harg5 x4 k)
  rw [turnOf_apply, n, n, cos_apply, sin_apply]

/-- What is stored for head `g` of the keys, once it is that head of the loaded blocks. -/
theorem of_k {b : ℕ} (h : ∀ a, (![0, b] : Fin 2 → ℕ) a + S256x128.size a ≤ S256x512.size a) (g : Fin 2) (hg : b = 128 * g.val)
    (w : FVec Ideal S256x128 .bf16)
    (hw : w = turnOf 0x3F800000#32 (View.readAt (Elt Ideal) arg3.view (Rect.unit (s := S256x128) ![0, 0] S256x128.size inb_S256x128_S256x128_0_0).toLoadRect (harg3.unread x2))
      (View.readAt (Elt Ideal) arg4.view (Rect.unit (s := S256x128) ![0, 0] S256x128.size inb_S256x128_S256x128_0_0).toLoadRect (harg4.unread x3))
      (normOf (View.readAt (Elt Ideal) arg2.view (Rect.unit (s := S256x512) ![0, b] S256x128.size h).toLoadRect (harg2.unread x1))
        (View.readAt (Elt Ideal) arg6.view (Rect.unit (s := S1x128) ![0, 0] S1x128.size inb_S1x128_S1x128_0_0).toLoadRect (harg6.unread x5))))
    (a : Fin 256) (d : Fin 128) (y : Fin 128 → EReal) (hy : ∀ k : Fin 128, y k = x1 (ix2 a ⟨(colK g k).val, by have := (colK g k).isLt; omega⟩)) (hr : ∀ k, y k = ((y k).toReal : EReal)) :
    w (ix2 a d) = (normed y (fun k => x5 (ix2 0 k)) d * x2 (ix2 a d) + normed y (fun k => x5 (ix2 0 k)) (other d) * x3 (ix2 a d))
      * Ideal.ofBits .f32 0x3F800000#32 := by
  subst hw hg
  have e : ∀ k : Fin 128, (View.readAt (Elt Ideal) arg2.view (Rect.unit (s := S256x512) ![0, 128 * g.val] S256x128.size h).toLoadRect (harg2.unread x1)) (ix2 a k)
      = y k := fun k => (k_apply arg2 harg2 x1 h a k (by omega)).trans (hy k).symm
  have n : ∀ k : Fin 128, normOf (F := Ideal) (View.readAt (Elt Ideal) arg2.view (Rect.unit (s := S256x512) ![0, 128 * g.val] S256x128.size h).toLoadRect (harg2.unread x1))
        (View.readAt (Elt Ideal) arg6.view (Rect.unit (s := S1x128) ![0, 0] S1x128.size inb_S1x128_S1x128_0_0).toLoadRect (harg6.unread x5)) (ix2 a k)
      = normed y (fun k => x5 (ix2 0 k)) k := fun k => by
    refine (normOf_apply _ _ a k (fun k => by rw [e k]; exact hr k)).trans ?_
    exact congrArg₂ (fun u v => normed u v k) (funext e) (funext fun k => kn_apply arg6 harg6 x5 k)
  rw [turnOf_apply, n, n, cos_apply, sin_apply]

set_option maxRecDepth 16384 in
/-- One number of a block of the queries. -/
theorem block_q (g : Fin 8) (a : Fin 256) (d : Fin 128) (y : Fin 128 → EReal) (hy : ∀ k : Fin 128, y k = x0 (ix2 a (colQ g k)))
    (hr : ∀ k, y k = ((y k).toReal : EReal)) :
    out0_A_6 (F := Ideal) c i arg1 harg1 arg2 harg2 arg3 harg3 arg4 harg4 arg5 harg5 arg6 harg6 arg7 harg7 arg8 harg8 arg9 harg9 x0 x1 x2 x3 x4 x5 (ix2 a (colQ g d))
      = (normed y (fun k => x4 (ix2 0 k)) d * x2 (ix2 a d) + normed y (fun k => x4 (ix2 0 k)) (other d) * x3 (ix2 a d))
        * Ideal.ofBits .f32 0x3E0293EE#32 := by
  unfold out0_A_6 kernelRun0_A
  match g, hy with
  | 0, hy =>
    refine (View.read_writes_cons_unit_of_not_mem _ _ inb_S256x1024_S256x128_0_896 _ _ _ rfl 1 (Or.inl (by show 128 * 0 + d.val < 896; omega))).trans <|
      (View.read_writes_cons_unit_of_not_mem _ _ inb_S256x1024_S256x128_0_768 _ _ _ rfl 1 (Or.inl (by show 128 * 0 + d.val < 768; omega))).trans <|
      (View.read_writes_cons_unit_of_not_mem _ _ inb_S256x1024_S256x128_0_640 _ _ _ rfl 1 (Or.inl (by show 128 * 0 + d.val < 640; omega))).trans <|
      (View.read_writes_cons_unit_of_not_mem _ _ inb_S256x1024_S256x128_0_512 _ _ _ rfl 1 (Or.inl (by show 128 * 0 + d.val < 512; omega))).trans <|
      (View.read_writes_cons_unit_of_not_mem _ _ inb_S256x1024_S256x128_0_384 _ _ _ rfl 1 (Or.inl (by show 128 * 0 + d.val < 384; omega))).trans <|
      (View.read_writes_cons_unit_of_not_mem _ _ inb_S256x1024_S256x128_0_256 _ _ _ rfl 1 (Or.inl (by show 128 * 0 + d.val < 256; omega))).trans <|
      (View.read_writes_cons_unit_of_not_mem _ _ inb_S256x1024_S256x128_0_128 _ _ _ rfl 1 (Or.inl (by show 128 * 0 + d.val < 128; omega))).trans <|
      (View.read_writes_cons_unit_of_mem _ _ inb_S256x1024_S256x128_0_0 _ _ _ (ix2 a d) rfl (fun k => ?_)).trans
      (of_q arg1 harg1 arg3 harg3 arg4 harg4 arg5 harg5 x0 x2 x3 x4 inb_S256x1024_S256x128_0_0 0 rfl _ ?_ a d y hy hr)
    · match k with
      | 0 => exact (Nat.zero_add _).symm
      | 1 => rfl
    · sl_unfold_run_names
      unfold_payloads
      rfl
  | 1, hy =>
    refine (View.read_writes_cons_unit_of_not_mem _ _ inb_S256x1024_S256x128_0_896 _ _ _ rfl 1 (Or.inl (by show 128 * 1 + d.val < 896; omega))).trans <|
      (View.read_writes_cons_unit_of_not_mem _ _ inb_S256x1024_S256x128_0_768 _ _ _ rfl 1 (Or.inl (by show 128 * 1 + d.val < 768; omega))).trans <|
      (View.read_writes_cons_unit_of_not_mem _ _ inb_S256x1024_S256x128_0_640 _ _ _ rfl 1 (Or.inl (by show 128 * 1 + d.val < 640; omega))).trans <|
      (View.read_writes_cons_unit_of_not_mem _ _ inb_S256x1024_S256x128_0_512 _ _ _ rfl 1 (Or.inl (by show 128 * 1 + d.val < 512; omega))).trans <|
      (View.read_writes_cons_unit_of_not_mem _ _ inb_S256x1024_S256x128_0_384 _ _ _ rfl 1 (Or.inl (by show 128 * 1 + d.val < 384; omega))).trans <|
      (View.read_writes_cons_unit_of_not_mem _ _ inb_S256x1024_S256x128_0_256 _ _ _ rfl 1 (Or.inl (by show 128 * 1 + d.val < 256; omega))).trans <|
      (View.read_writes_cons_unit_of_mem _ _ inb_S256x1024_S256x128_0_128 _ _ _ (ix2 a d) rfl (fun k => ?_)).trans
      (of_q arg1 harg1 arg3 harg3 arg4 harg4 arg5 harg5 x0 x2 x3 x4 inb_S256x1024_S256x128_0_128 1 rfl _ ?_ a d y hy hr)
    · match k with
      | 0 => exact (Nat.zero_add _).symm
      | 1 => rfl
    · sl_unfold_run_names
      unfold_payloads
      rfl
  | 2, hy =>
    refine (View.read_writes_cons_unit_of_not_mem _ _ inb_S256x1024_S256x128_0_896 _ _ _ rfl 1 (Or.inl (by show 128 * 2 + d.val < 896; omega))).trans <|
      (View.read_writes_cons_unit_of_not_mem _ _ inb_S256x1024_S256x128_0_768 _ _ _ rfl 1 (Or.inl (by show 128 * 2 + d.val < 768; omega))).trans <|
      (View.read_writes_cons_unit_of_not_mem _ _ inb_S256x1024_S256x128_0_640 _ _ _ rfl 1 (Or.inl (by show 128 * 2 + d.val < 640; omega))).trans <|
      (View.read_writes_cons_unit_of_not_mem _ _ inb_S256x1024_S256x128_0_512 _ _ _ rfl 1 (Or.inl (by show 128 * 2 + d.val < 512; omega))).trans <|
      (View.read_writes_cons_unit_of_not_mem _ _ inb_S256x1024_S256x128_0_384 _ _ _ rfl 1 (Or.inl (by show 128 * 2 + d.val < 384; omega))).trans <|
      (View.read_writes_cons_unit_of_mem _ _ inb_S256x1024_S256x128_0_256 _ _ _ (ix2 a d) rfl (fun k => ?_)).trans
      (of_q arg1 harg1 arg3 harg3 arg4 harg4 arg5 harg5 x0 x2 x3 x4 inb_S256x1024_S256x128_0_256 2 rfl _ ?_ a d y hy hr)
    · match k with
      | 0 => exact (Nat.zero_add _).symm
      | 1 => rfl
    · sl_unfold_run_names
      unfold_payloads
      rfl
  | 3, hy =>
    refine (View.read_writes_cons_unit_of_not_mem _ _ inb_S256x1024_S256x128_0_896 _ _ _ rfl 1 (Or.inl (by show 128 * 3 + d.val < 896; omega))).trans <|
      (View.read_writes_cons_unit_of_not_mem _ _ inb_S256x1024_S256x128_0_768 _ _ _ rfl 1 (Or.inl (by show 128 * 3 + d.val < 768; omega))).trans <|
      (View.read_writes_cons_unit_of_not_mem _ _ inb_S256x1024_S256x128_0_640 _ _ _ rfl 1 (Or.inl (by show 128 * 3 + d.val < 640; omega))).trans <|
      (View.read_writes_cons_unit_of_not_mem _ _ inb_S256x1024_S256x128_0_512 _ _ _ rfl 1 (Or.inl (by show 128 * 3 + d.val < 512; omega))).trans <|
      (View.read_writes_cons_unit_of_mem _ _ inb_S256x1024_S256x128_0_384 _ _ _ (ix2 a d) rfl (fun k => ?_)).trans
      (of_q arg1 harg1 arg3 harg3 arg4 harg4 arg5 harg5 x0 x2 x3 x4 inb_S256x1024_S256x128_0_384 3 rfl _ ?_ a d y hy hr)
    · match k with
      | 0 => exact (Nat.zero_add _).symm
      | 1 => rfl
    · sl_unfold_run_names
      unfold_payloads
      rfl
  | 4, hy =>
    refine (View.read_writes_cons_unit_of_not_mem _ _ inb_S256x1024_S256x128_0_896 _ _ _ rfl 1 (Or.inl (by show 128 * 4 + d.val < 896; omega))).trans <|
      (View.read_writes_cons_unit_of_not_mem _ _ inb_S256x1024_S256x128_0_768 _ _ _ rfl 1 (Or.inl (by show 128 * 4 + d.val < 768; omega))).trans <|
      (View.read_writes_cons_unit_of_not_mem _ _ inb_S256x1024_S256x128_0_640 _ _ _ rfl 1 (Or.inl (by show 128 * 4 + d.val < 640; omega))).trans <|
      (View.read_writes_cons_unit_of_mem _ _ inb_S256x1024_S256x128_0_512 _ _ _ (ix2 a d) rfl (fun k => ?_)).trans
      (of_q arg1 harg1 arg3 harg3 arg4 harg4 arg5 harg5 x0 x2 x3 x4 inb_S256x1024_S256x128_0_512 4 rfl _ ?_ a d y hy hr)
    · match k with
      | 0 => exact (Nat.zero_add _).symm
      | 1 => rfl
    · sl_unfold_run_names
      unfold_payloads
      rfl
  | 5, hy =>
    refine (View.read_writes_cons_unit_of_not_mem _ _ inb_S256x1024_S256x128_0_896 _ _ _ rfl 1 (Or.inl (by show 128 * 5 + d.val < 896; omega))).trans <|
      (View.read_writes_cons_unit_of_not_mem _ _ inb_S256x1024_S256x128_0_768 _ _ _ rfl 1 (Or.inl (by show 128 * 5 + d.val < 768; omega))).trans <|
      (View.read_writes_cons_unit_of_mem _ _ inb_S256x1024_S256x128_0_640 _ _ _ (ix2 a d) rfl (fun k => ?_)).trans
      (of_q arg1 harg1 arg3 harg3 arg4 harg4 arg5 harg5 x0 x2 x3 x4 inb_S256x1024_S256x128_0_640 5 rfl _ ?_ a d y hy hr)
    · match k with
      | 0 => exact (Nat.zero_add _).symm
      | 1 => rfl
    · sl_unfold_run_names
      unfold_payloads
      rfl
  | 6, hy =>
    refine (View.read_writes_cons_unit_of_not_mem _ _ inb_S256x1024_S256x128_0_896 _ _ _ rfl 1 (Or.inl (by show 128 * 6 + d.val < 896; omega))).trans <|
      (View.read_writes_cons_unit_of_mem _ _ inb_S256x1024_S256x128_0_768 _ _ _ (ix2 a d) rfl (fun k => ?_)).trans
      (of_q arg1 harg1 arg3 harg3 arg4 harg4 arg5 harg5 x0 x2 x3 x4 inb_S256x1024_S256x128_0_768 6 rfl _ ?_ a d y hy hr)
    · match k with
      | 0 => exact (Nat.zero_add _).symm
      | 1 => rfl
    · sl_unfold_run_names
      unfold_payloads
      rfl
  | 7, hy =>
    refine (View.read_writes_cons_unit_of_mem _ _ inb_S256x1024_S256x128_0_896 _ _ _ (ix2 a d) rfl (fun k => ?_)).trans
      (of_q arg1 harg1 arg3 harg3 arg4 harg4 arg5 harg5 x0 x2 x3 x4 inb_S256x1024_S256x128_0_896 7 rfl _ ?_ a d y hy hr)
    · match k with
      | 0 => exact (Nat.zero_add _).symm
      | 1 => rfl
    · sl_unfold_run_names
      unfold_payloads
      rfl

set_option maxRecDepth 16384 in
/-- One number of a block of the keys. -/
theorem block_k (g : Fin 2) (a : Fin 256) (d : Fin 128) (y : Fin 128 → EReal) (hy : ∀ k : Fin 128, y k = x1 (ix2 a ⟨(colK g k).val, by have := (colK g k).isLt; omega⟩))
    (hr : ∀ k, y k = ((y k).toReal : EReal)) :
    out0_A_7 (F := Ideal) c i arg1 harg1 arg2 harg2 arg3 harg3 arg4 harg4 arg5 harg5 arg6 harg6 arg7 harg7 arg8 harg8 arg9 harg9 x0 x1 x2 x3 x4 x5 (ix2 a (colK g d))
      = (normed y (fun k => x5 (ix2 0 k)) d * x2 (ix2 a d) + normed y (fun k => x5 (ix2 0 k)) (other d) * x3 (ix2 a d))
        * Ideal.ofBits .f32 0x3F800000#32 := by
  unfold out0_A_7 kernelRun0_A
  match g, hy with
  | 0, hy =>
    refine (View.read_writes_cons_unit_of_not_mem _ _ inb_S256x256_S256x128_0_128 _ _ _ rfl 1 (Or.inl (by show 128 * 0 + d.val < 128; omega))).trans <|
      (View.read_writes_cons_unit_of_mem _ _ inb_S256x256_S256x128_0_0 _ _ _ (ix2 a d) rfl (fun k => ?_)).trans
      (of_k arg2 harg2 arg3 harg3 arg4 harg4 arg6 harg6 x1 x2 x3 x5 inb_S256x512_S256x128_0_0 0 rfl _ ?_ a d y hy hr)
    · match k with
      | 0 => exact (Nat.zero_add _).symm
      | 1 => rfl
    · sl_unfold_run_names
      unfold_payloads
      rfl
  | 1, hy =>
    refine (View.read_writes_cons_unit_of_mem _ _ inb_S256x256_S256x128_0_128 _ _ _ (ix2 a d) rfl (fun k => ?_)).trans
      (of_k arg2 harg2 arg3 harg3 arg4 harg4 arg6 harg6 x1 x2 x3 x5 inb_S256x512_S256x128_0_128 1 rfl _ ?_ a d y hy hr)
    · match k with
      | 0 => exact (Nat.zero_add _).symm
      | 1 => rfl
    · sl_unfold_run_names
      unfold_payloads
      rfl

theorem tile0_apply (x : Vec Ideal S256x256 .f32) (r : Fin 144) (k : Fin 256) :
    k0_pay27 (F := Ideal) x (ix4 0 0 r k) = if h : r.val < 128 then x (ix2 k ⟨r.val, by omega⟩) else Ideal.ofBits .f32 0x3F800000#32 := by
  pointwise [k0_pay27, k0_pay25, k0_pay26]

theorem tile1_apply (x : Vec Ideal S256x256 .f32) (r : Fin 144) (k : Fin 256) :
    k0_pay1 (F := Ideal) (k0_pay28 x) (ix4 0 0 r k)
      = if h : r.val < 128 then x (ix2 k ⟨128 + r.val, by omega⟩) else Ideal.ofBits .f32 0x3F800000#32 := by
  pointwise [k0_pay1, k0_pay28, k0_pay25, k0_pay26]

/-- The tile of values `j`: the values, a row to a column, over rows of ones. -/
def tileOf (x1 : Vec Ideal S256x512 .f32) (j : Fin 2) (r : Fin 144) (k : Fin 256) : EReal :=
  if h : r.val < 128 then x1 (ix2 k ⟨256 + (128 * j.val + r.val), by omega⟩) else Ideal.ofBits .f32 0x3F800000#32

/-- One number of a block of the values. -/
theorem block_v (j : Fin 2) (r : Fin 144) (k : Fin 256) :
    out0_A_8 (F := Ideal) c i arg1 harg1 arg2 harg2 arg3 harg3 arg4 harg4 arg5 harg5 arg6 harg6 arg7 harg7 arg8 harg8 arg9 harg9 x0 x1 x2 x3 x4 x5 (ix4 0 j r k) = tileOf x1 j r k := by
  unfold out0_A_8 kernelRun0_A
  match j with
  | 0 =>
    refine (View.read_writes_cons_unit_of_not_mem _ _ inb_S1x2x144x256_S1x1x144x256_0_1_0_0 _ _ _ rfl 1 (Or.inl (by show 0 < 1; omega))).trans <|
      (View.read_writes_cons_unit_of_mem _ _ inb_S1x2x144x256_S1x1x144x256_0_0_0_0 _ _ _ (ix4 0 0 r k) rfl (fun b => ?_)).trans ?_
    · match b with
      | 0 => rfl
      | 1 => rfl
      | 2 => exact (Nat.zero_add _).symm
      | 3 => exact (Nat.zero_add _).symm
    · sl_unfold_run_names
      refine (tile0_apply _ r k).trans ?_
      unfold tileOf
      split_ifs with h
      · exact (v_apply arg2 harg2 x1 k ⟨r.val, by omega⟩).trans (congrArg (fun q => x1 (ix2 k q)) (Fin.ext (by show 256 + r.val = 256 + (128 * 0 + r.val); omega)))
      · rfl
  | 1 =>
    refine (View.read_writes_cons_unit_of_mem _ _ inb_S1x2x144x256_S1x1x144x256_0_1_0_0 _ _ _ (ix4 0 0 r k) rfl (fun b => ?_)).trans ?_
    · match b with
      | 0 => rfl
      | 1 => rfl
      | 2 => exact (Nat.zero_add _).symm
      | 3 => exact (Nat.zero_add _).symm
    · sl_unfold_run_names
      refine (tile1_apply _ r k).trans ?_
      unfold tileOf
      split_ifs with h
      · exact (v_apply arg2 harg2 x1 k ⟨128 + r.val, by omega⟩).trans (congrArg (fun q => x1 (ix2 k q)) (Fin.ext (by show 256 + (128 + r.val) = 256 + (128 * 1 + r.val); omega)))
      · rfl

end Cert.Prep

end
-- ==== Proof.Preparation.lean ====
/-
  The attention's preparation in terms of the arguments, against the reference, and its claims: every head of the queries and of
  the keys is normed and, in the latent rows, turned by the rotary tables; the queries are scaled; the values are laid in tiles with
  rows of ones.
-/
module

public import proofs.«01_k».proof.Defs
public import proofs.«01_k».proof.Proof.Attention
public import proofs.«01_k».proof.Proof.PrepBlock
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Pre_finite8
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

noncomputable section

namespace Cert.Prep

open Idealize.ShloMosaic Idealize.ShloMosaic.TcCoe Idealize.SL.Sem Finset

section Kernel

open Cert.Kernel8Ideal Cert.Kernel8Ideal.Gen

/-- A head's numbers in row `r`: the context's as they are, the latent's turned by the tables. -/
def turned (y : Fin 128 → EReal) (cos sin : S8192x64.Idx → EReal) (r : Fin 8448) (d : Fin 128) : EReal :=
  if h : r.val < 256 then y d
  else if hd : d.val < 64 then
    y d * cos (ix2 ⟨r.val - 256, by omega⟩ ⟨d.val, hd⟩) - y ⟨d.val + 64, by omega⟩ * sin (ix2 ⟨r.val - 256, by omega⟩ ⟨d.val, hd⟩)
  else
    y d * cos (ix2 ⟨r.val - 256, by omega⟩ ⟨d.val - 64, by omega⟩) + y ⟨d.val - 64, by omega⟩ * sin (ix2 ⟨r.val - 256, by omega⟩ ⟨d.val - 64, by omega⟩)

/-- The queries as they enter the attention. -/
def queries (z : S8448x5760.Idx → EReal) (cos sin : S8192x64.Idx → EReal) (gain : S1x128.Idx → EReal) (r : Fin 8448) (g : Fin 8) (d : Fin 128) : EReal :=
  turned (normed (fun k => z (ix2 r ⟨128 * g.val + k.val, by omega⟩)) (fun k => gain (ix2 0 k))) cos sin r d * Ideal.ofBits .f32 0x3E0293EE#32

/-- The keys as they enter the attention. -/
def keys (z : S8448x5760.Idx → EReal) (cos sin : S8192x64.Idx → EReal) (gain : S1x128.Idx → EReal) (r : Fin 8448) (g : Fin 2) (d : Fin 128) : EReal :=
  turned (normed (fun k => z (ix2 r ⟨2048 + (128 * g.val + k.val), by omega⟩)) (fun k => gain (ix2 0 k))) cos sin r d

/-- The values' tiles: tile `u` of head `j` has the value of row `256 u + k` in column `k`, and rows of ones below. -/
def tiles (z : S8448x5760.Idx → EReal) (u : Fin 33) (j : Fin 2) (r : Fin 144) (k : Fin 256) : EReal :=
  if h : r.val < 128 then z (ix2 ⟨256 * u.val + k.val, by omega⟩ ⟨2304 + (128 * j.val + r.val), by omega⟩) else Ideal.ofBits .f32 0x3F800000#32

variable (m : (ℓ : Loc nD τ sig) → Buf (Elt Ideal) ℓ) (c : Dev nD) (t : Fin cfg0.N)

/-- The windows' blocks at each grid point. -/
theorem places : ∀ t : Fin grid0.N,
    (win0_6.index t 0 < 33 ∧ win0_6.index t 1 = 0)
    ∧ (win0_7.index t 0 = win0_6.index t 0 ∧ win0_7.index t 1 = 0)
    ∧ (win0_8.index t 0 = win0_6.index t 0 ∧ win0_8.index t 1 = 0 ∧ win0_8.index t 2 = 0 ∧ win0_8.index t 3 = 0)
    ∧ (win0_0.index t 0 = win0_6.index t 0 ∧ win0_0.index t 1 = 0)
    ∧ (win0_1.index t 0 = win0_6.index t 0 ∧ win0_1.index t 1 = 4)
    ∧ (win0_2.index t 0 = win0_6.index t 0 ∧ win0_2.index t 1 = 0)
    ∧ (win0_3.index t 0 = win0_6.index t 0 ∧ win0_3.index t 1 = 0)
    ∧ (win0_4.index t 0 = 0 ∧ win0_4.index t 1 = 0)
    ∧ (win0_5.index t 0 = 0 ∧ win0_5.index t 1 = 0) := by
  decide +kernel

/-- The row that row `a` of the results' block is. -/
def rowOf (a : Fin 256) : Fin 8448 := ⟨256 * win0_6.index t 0 + a.val, by have := (places t).1.1; omega⟩

theorem X0_0_apply (a : Fin 256) (k : Fin 1024) :
    X0_0 m c t (ix2 a k) = m ((c : Thread nD τ).loc main_arg0) (ix2 (rowOf t a) ⟨k.val, by omega⟩) := by
  unfold X0_0 Pipeline.Window.fill
  rw [dif_pos (moved0_0 t (ix2 a k))]
  unfold iblk
  rw [View.read_apply]
  entry_read
  refine congrArg (m ((c : Thread nD τ).loc main_arg0)) (funext fun b => Fin.ext ?_)
  match b with
  | 0 => show win0_0.index t 0 * 256 + 1 * a.val = 256 * win0_6.index t 0 + a.val; rw [(places t).2.2.2.1.1]; omega
  | 1 => show win0_0.index t 1 * 1024 + 1 * k.val = k.val; rw [(places t).2.2.2.1.2]; omega

theorem X0_1_apply (a : Fin 256) (k : Fin 512) :
    X0_1 m c t (ix2 a k) = m ((c : Thread nD τ).loc main_arg0) (ix2 (rowOf t a) ⟨2048 + k.val, by omega⟩) := by
  unfold X0_1 Pipeline.Window.fill
  rw [dif_pos (moved0_1 t (ix2 a k))]
  unfold iblk
  rw [View.read_apply]
  entry_read
  refine congrArg (m ((c : Thread nD τ).loc main_arg0)) (funext fun b => Fin.ext ?_)
  match b with
  | 0 => show win0_1.index t 0 * 256 + 1 * a.val = 256 * win0_6.index t 0 + a.val; rw [(places t).2.2.2.2.1.1]; omega
  | 1 => show win0_1.index t 1 * 512 + 1 * k.val = 2048 + k.val; rw [(places t).2.2.2.2.1.2]; omega

theorem iblk2_apply (a : Fin 256) (d : Fin 128) :
    (iblk m c 2 t : Vec Ideal S256x128 .f32) (ix2 a d) = V m c main_v2 (ix2 (rowOf t a) d) := by
  unfold iblk
  rw [View.read_apply]
  show V m c main_v2 _ = V m c main_v2 _
  refine congrArg (V m c main_v2) (funext fun b => Fin.ext ?_)
  match b with
  | 0 => show win0_2.index t 0 * 256 + 1 * a.val = 256 * win0_6.index t 0 + a.val; rw [(places t).2.2.2.2.2.1.1]; omega
  | 1 => show win0_2.index t 1 * 128 + 1 * d.val = d.val; rw [(places t).2.2.2.2.2.1.2]; omega

theorem iblk3_apply (a : Fin 256) (d : Fin 128) :
    (iblk m c 3 t : Vec Ideal S256x128 .f32) (ix2 a d) = V m c main_v6 (ix2 (rowOf t a) d) := by
  unfold iblk
  rw [View.read_apply]
  show V m c main_v6 _ = V m c main_v6 _
  refine congrArg (V m c main_v6) (funext fun b => Fin.ext ?_)
  match b with
  | 0 => show win0_3.index t 0 * 256 + 1 * a.val = 256 * win0_6.index t 0 + a.val; rw [(places t).2.2.2.2.2.2.1.1]; omega
  | 1 => show win0_3.index t 1 * 128 + 1 * d.val = d.val; rw [(places t).2.2.2.2.2.2.1.2]; omega

theorem iblk4_apply (d : Fin 128) :
    (iblk m c 4 t : Vec Ideal S1x128 .f32) (ix2 0 d) = m ((c : Thread nD τ).loc main_arg3) (ix2 0 d) := by
  unfold iblk
  rw [View.read_apply]
  entry_read
  refine congrArg (m ((c : Thread nD τ).loc main_arg3)) (funext fun b => Fin.ext ?_)
  match b with
  | 0 => show win0_4.index t 0 * 1 + 1 * 0 = 0; rw [(places t).2.2.2.2.2.2.2.1.1]
  | 1 => show win0_4.index t 1 * 128 + 1 * d.val = d.val; rw [(places t).2.2.2.2.2.2.2.1.2]; omega

theorem iblk5_apply (d : Fin 128) :
    (iblk m c 5 t : Vec Ideal S1x128 .f32) (ix2 0 d) = m ((c : Thread nD τ).loc main_arg4) (ix2 0 d) := by
  unfold iblk
  rw [View.read_apply]
  entry_read
  refine congrArg (m ((c : Thread nD τ).loc main_arg4)) (funext fun b => Fin.ext ?_)
  match b with
  | 0 => show win0_5.index t 0 * 1 + 1 * 0 = 0; rw [(places t).2.2.2.2.2.2.2.2.1]
  | 1 => show win0_5.index t 1 * 128 + 1 * d.val = d.val; rw [(places t).2.2.2.2.2.2.2.2.2]; omega

/-- The rotary tables of the arguments. -/
def cosOf : S8192x64.Idx → EReal := m ((c : Thread nD τ).loc main_arg1)
def sinOf : S8192x64.Idx → EReal := m ((c : Thread nD τ).loc main_arg2)

/-- The table of cosines: ones in the context's rows, the cosines twice in the latent's. -/
theorem cosines (r : Fin 8448) (d : Fin 128) :
    (V m c main_v2 : Vec Ideal S8448x128 .f32) (ix2 r d)
      = if h : r.val < 256 then (1 : EReal)
        else if hd : d.val < 64 then cosOf m c (ix2 ⟨r.val - 256, by omega⟩ ⟨d.val, hd⟩)
        else cosOf m c (ix2 ⟨r.val - 256, by omega⟩ ⟨d.val - 64, by omega⟩) := by
  entry_read
  pointwise []
  split_ifs <;> rfl

/-- The table of sines: zeros in the context's rows, the sines negated and as they are in the latent's. -/
theorem sines (r : Fin 8448) (d : Fin 128) :
    (V m c main_v6 : Vec Ideal S8448x128 .f32) (ix2 r d)
      = if h : r.val < 256 then (0 : EReal)
        else if hd : d.val < 64 then - sinOf m c (ix2 ⟨r.val - 256, by omega⟩ ⟨d.val, hd⟩)
        else sinOf m c (ix2 ⟨r.val - 256, by omega⟩ ⟨d.val - 64, by omega⟩) := by
  entry_read
  pointwise []
  split_ifs <;> rfl

/-- Turning by the tables. -/
theorem turned_eq (y : Fin 128 → EReal) (r : Fin 8448) (d : Fin 128) :
    y d * (V m c main_v2 : Vec Ideal S8448x128 .f32) (ix2 r d) + y (other d) * (V m c main_v6 : Vec Ideal S8448x128 .f32) (ix2 r d)
      = turned y (cosOf m c) (sinOf m c) r d := by
  rw [cosines, sines]
  unfold turned
  split_ifs with h hd
  · rw [mul_one, mul_zero, add_zero]
  · have e : other d = ⟨d.val + 64, by omega⟩ := Fin.ext (by show (d.val + 128 - 64) % 128 = d.val + 64; omega)
    rw [e, mul_neg, ← sub_eq_add_neg]
  · have e : other d = ⟨d.val - 64, by omega⟩ := Fin.ext (by show (d.val + 128 - 64) % 128 = d.val - 64; omega)
    rw [e]

theorem one_eq : Ideal.ofBits .f32 0x3F800000#32 = 1 := by
  pointwise []

variable (hQ : ∀ (r : Fin 8448) (k : Fin 1024), (m ((c : Thread nD τ).loc main_arg0) (ix2 r ⟨k.val, by omega⟩) : EReal)
    = ((m ((c : Thread nD τ).loc main_arg0) (ix2 r ⟨k.val, by omega⟩) : EReal).toReal : EReal))
  (hK : ∀ (r : Fin 8448) (k : Fin 256), (m ((c : Thread nD τ).loc main_arg0) (ix2 r ⟨2048 + k.val, by omega⟩) : EReal)
    = ((m ((c : Thread nD τ).loc main_arg0) (ix2 r ⟨2048 + k.val, by omega⟩) : EReal).toReal : EReal))

include hQ in
theorem outs_q (g : Fin 8) (a : Fin 256) (d : Fin 128) :
    (outsAt0 m c t).1 (ix2 a (colQ g d))
      = queries (m ((c : Thread nD τ).loc main_arg0)) (cosOf m c) (sinOf m c)
          (m ((c : Thread nD τ).loc main_arg3)) (rowOf t a) g d := by
  unfold outsAt0
  dsimp only
  refine (block_q c (grid0.coords t) _ _ _ _ _ _ _ _ _ _ _ _ _ _ _ _ _ _ _ _ _ _ _ _ g a d
    (fun k => m ((c : Thread nD τ).loc main_arg0) (ix2 (rowOf t a) ⟨128 * g.val + k.val, by omega⟩))
    (fun k => (X0_0_apply m c t a (colQ g k)).symm) (fun k => hQ (rowOf t a) (colQ g k))).trans ?_
  unfold queries
  rw [← turned_eq m c, iblk2_apply, iblk3_apply]
  simp only [iblk4_apply]

include hK in
theorem outs_k (g : Fin 2) (a : Fin 256) (d : Fin 128) :
    (outsAt0 m c t).2.1 (ix2 a (colK g d))
      = keys (m ((c : Thread nD τ).loc main_arg0)) (cosOf m c) (sinOf m c)
          (m ((c : Thread nD τ).loc main_arg4)) (rowOf t a) g d := by
  unfold outsAt0
  dsimp only
  refine (block_k c (grid0.coords t) _ _ _ _ _ _ _ _ _ _ _ _ _ _ _ _ _ _ _ _ _ _ _ _ g a d
    (fun k => m ((c : Thread nD τ).loc main_arg0) (ix2 (rowOf t a) ⟨2048 + (128 * g.val + k.val), by omega⟩))
    (fun k => (X0_1_apply m c t a ⟨(colK g k).val, by have := (colK g k).isLt; omega⟩).symm) (fun k => hK (rowOf t a) (colK g k))).trans ?_
  unfold keys
  rw [← turned_eq m c, iblk2_apply, iblk3_apply, one_eq, mul_one]
  simp only [iblk5_apply]

theorem outs_v (j : Fin 2) (r : Fin 144) (k : Fin 256) :
    (outsAt0 m c t).2.2 (ix4 0 j r k)
      = tiles (m ((c : Thread nD τ).loc main_arg0)) ⟨win0_6.index t 0, (places t).1.1⟩ j r k := by
  unfold outsAt0
  dsimp only
  refine (block_v c (grid0.coords t) _ _ _ _ _ _ _ _ _ _ _ _ _ _ _ _ _ _ _ _ _ _ _ _ j r k).trans ?_
  unfold tileOf tiles
  split_ifs with h
  · refine (X0_1_apply m c t k _).trans (congrArg (fun q => m ((c : Thread nD τ).loc main_arg0) (ix2 (rowOf t k) q)) (Fin.ext ?_))
    show 2048 + (256 + (128 * j.val + r.val)) = 2304 + (128 * j.val + r.val)
    omega
  · rfl

include hQ in
/-- The queries' array after the run. -/
theorem array_q :
    (dats m 0 c).arrAt 6 cfg0.N
      = (fun i => queries (m ((c : Thread nD τ).loc main_arg0)) (cosOf m c) (sinOf m c)
          (m ((c : Thread nD τ).loc main_arg3)) (i 0) ⟨(i 1).val / 128, by have : (i 1).val < 1024 := (i 1).isLt; omega⟩
          ⟨(i 1).val % 128, Nat.mod_lt _ (by decide)⟩ : S8448x1024.Idx → EReal) := by
  refine (dats m 0 c).arrAt_eq_of_covers 6 _ (by decide +kernel) fun t hf y => ?_
  blk_simp
  rw [after0_6]
  have h0 : (y 0).val < 256 := (y 0).isLt
  have h1 : (y 1).val < 1024 := (y 1).isLt
  have hp := (places t).1
  have hy : (y : S256x1024.Idx) = ix2 (⟨(y 0).val, h0⟩ : Fin 256) (colQ ⟨(y 1).val / 128, by omega⟩ ⟨(y 1).val % 128, Nat.mod_lt _ (by decide)⟩) :=
    funext fun k => Fin.ext (by
      match k with
      | 0 => rfl
      | 1 => exact (Nat.div_add_mod (y 1).val 128).symm)
  have e0 : ((win0_6.blk t).view.emb y 0).val = win0_6.index t 0 * 256 + 1 * (y 0).val := rfl
  have e1 : ((win0_6.blk t).view.emb y 1).val = win0_6.index t 1 * 1024 + 1 * (y 1).val := rfl
  refine (congrArg (outsAt0 m c t).1 hy).trans ((outs_q m c t hQ _ _ _).trans ?_)
  congr 1
  · refine Fin.ext ?_
    show 256 * win0_6.index t 0 + (y 0).val = ((win0_6.blk t).view.emb y 0).val
    omega
  · refine Fin.ext ?_
    show (y 1).val / 128 = (win0_6.index t 1 * 1024 + (y 1).val) / 128
    omega
  · refine Fin.ext ?_
    show (y 1).val % 128 = (win0_6.index t 1 * 1024 + (y 1).val) % 128
    omega

include hK in
/-- The keys' array after the run. -/
theorem array_k :
    (dats m 0 c).arrAt 7 cfg0.N
      = (fun i => keys (m ((c : Thread nD τ).loc main_arg0)) (cosOf m c) (sinOf m c)
          (m ((c : Thread nD τ).loc main_arg4)) (i 0) ⟨(i 1).val / 128, by have : (i 1).val < 256 := (i 1).isLt; omega⟩
          ⟨(i 1).val % 128, Nat.mod_lt _ (by decide)⟩ : S8448x256.Idx → EReal) := by
  refine (dats m 0 c).arrAt_eq_of_covers 7 _ (by decide +kernel) fun t hf y => ?_
  blk_simp
  rw [after0_7]
  have h0 : (y 0).val < 256 := (y 0).isLt
  have h1 : (y 1).val < 256 := (y 1).isLt
  have hp := (places t).1
  have hp' := (places t).2.1
  have hy : (y : S256x256.Idx) = ix2 (⟨(y 0).val, h0⟩ : Fin 256) (colK ⟨(y 1).val / 128, by omega⟩ ⟨(y 1).val % 128, Nat.mod_lt _ (by decide)⟩) :=
    funext fun k => Fin.ext (by
      match k with
      | 0 => rfl
      | 1 => exact (Nat.div_add_mod (y 1).val 128).symm)
  have e0 : ((win0_7.blk t).view.emb y 0).val = win0_7.index t 0 * 256 + 1 * (y 0).val := rfl
  have e1 : ((win0_7.blk t).view.emb y 1).val = win0_7.index t 1 * 256 + 1 * (y 1).val := rfl
  refine (congrArg (outsAt0 m c t).2.1 hy).trans ((outs_k m c t hK _ _ _).trans ?_)
  congr 1
  · refine Fin.ext ?_
    show 256 * win0_6.index t 0 + (y 0).val = ((win0_7.blk t).view.emb y 0).val
    omega
  · refine Fin.ext ?_
    show (y 1).val / 128 = (win0_7.index t 1 * 256 + (y 1).val) / 128
    omega
  · refine Fin.ext ?_
    show (y 1).val % 128 = (win0_7.index t 1 * 256 + (y 1).val) % 128
    omega

/-- The values' array after the run. -/
theorem array_v :
    (dats m 0 c).arrAt 8 cfg0.N
      = (fun i => tiles (m ((c : Thread nD τ).loc main_arg0)) (i 0) (i 1) (i 2) (i 3) : S33x2x144x256.Idx → EReal) := by
  refine (dats m 0 c).arrAt_eq_of_covers 8 _ (by decide +kernel) fun t hf y => ?_
  blk_simp
  rw [after0_8]
  have h0 : (y 0).val < 1 := (y 0).isLt
  have hp := (places t).1
  have hp' := (places t).2.2.1
  have hy : (y : S1x2x144x256.Idx) = ix4 0 (⟨(y 1).val, (y 1).isLt⟩ : Fin 2) (⟨(y 2).val, (y 2).isLt⟩ : Fin 144) (⟨(y 3).val, (y 3).isLt⟩ : Fin 256) :=
    funext fun k => Fin.ext (by
      match k with
      | 0 => show (y 0).val = 0; omega
      | 1 => rfl
      | 2 => rfl
      | 3 => rfl)
  have e0 : ((win0_8.blk t).view.emb y 0).val = win0_8.index t 0 * 1 + 1 * (y 0).val := rfl
  have e1 : ((win0_8.blk t).view.emb y 1).val = win0_8.index t 1 * 2 + 1 * (y 1).val := rfl
  have e2 : ((win0_8.blk t).view.emb y 2).val = win0_8.index t 2 * 144 + 1 * (y 2).val := rfl
  have e3 : ((win0_8.blk t).view.emb y 3).val = win0_8.index t 3 * 256 + 1 * (y 3).val := rfl
  refine (congrArg (outsAt0 m c t).2.2 hy).trans ((outs_v m c t _ _ _).trans ?_)
  congr 1
  · refine Fin.ext ?_
    show win0_6.index t 0 = ((win0_8.blk t).view.emb y 0).val
    omega
  · refine Fin.ext ?_
    show (y 1).val = ((win0_8.blk t).view.emb y 1).val
    omega
  · refine Fin.ext ?_
    show (y 2).val = ((win0_8.blk t).view.emb y 2).val
    omega
  · refine Fin.ext ?_
    show (y 3).val = ((win0_8.blk t).view.emb y 3).val
    omega

end Kernel

section Reference

open Cert.Reference8Ideal Cert.Reference8Ideal.Gen Cert.Reference8Ideal.Read

variable (x0 : S8448x5760.Idx → EReal) (x1 x2 : S8192x64.Idx → EReal) (x3 x4 : S1x128.Idx → EReal)

/-- A query head normed in the reference. -/
theorem normed_q (r : Fin 8448) (g : Fin 8) (d : Fin 128) :
    val_main_v15 (F := Ideal) x0 x3 (ix3 r g d)
      = normed (fun k => x0 (ix2 r ⟨128 * g.val + k.val, by omega⟩)) (fun k => x3 (ix2 0 k)) d := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  unfold normed Cert.Mix.scaleOf Cert.Mix.headLen
  simp only [Nat.mul_comm 128]

/-- A key head normed in the reference. -/
theorem normed_k (r : Fin 8448) (g : Fin 2) (d : Fin 128) :
    val_main_v31 (F := Ideal) x0 x4 (ix3 r g d)
      = normed (fun k => x0 (ix2 r ⟨2048 + (128 * g.val + k.val), by omega⟩)) (fun k => x4 (ix2 0 k)) d := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_cst_2, val_main_cst_3, val_main_cst_4]
  unfold normed Cert.Mix.scaleOf Cert.Mix.headLen
  simp only [Nat.mul_comm 128]

/-- A head turned in the reference. -/
theorem turned_q (r : Fin 8448) (g : Fin 8) (d : Fin 128) :
    val_main_v49 (F := Ideal) x0 x1 x2 x3 (ix3 r g d)
      = turned (normed (fun k => x0 (ix2 r ⟨128 * g.val + k.val, by omega⟩)) (fun k => x3 (ix2 0 k))) x1 x2 r d := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32]
  simp only [normed_q]
  unfold turned
  by_cases h : r.val < 256
  · rw [dif_pos h, dif_pos h]
  · simp only [h, ↓reduceDIte]
    have er : ∀ hx, (⟨256 + (r.val - 256), hx⟩ : Fin 8448) = r := fun _ => Fin.ext (by show 256 + (r.val - 256) = r.val; omega)
    by_cases hd : d.val < 64
    · simp only [hd, ↓reduceDIte]
      have ed : ∀ hx hx', (⟨64 + d.val, hx⟩ : Fin 128) = ⟨d.val + 64, hx'⟩ := fun _ _ => Fin.ext (Nat.add_comm _ _)
      simp only [er]
      rw [ed _ (by omega)]
    · simp only [hd, ↓reduceDIte]
      have ed : ∀ hx, (⟨64 + (d.val - 64), hx⟩ : Fin 128) = d := fun _ => Fin.ext (by show 64 + (d.val - 64) = d.val; omega)
      simp only [er, ed]

theorem turned_k (r : Fin 8448) (g : Fin 2) (d : Fin 128) :
    val_main_v69 (F := Ideal) x0 x1 x2 x4 (ix3 r g d)
      = turned (normed (fun k => x0 (ix2 r ⟨2048 + (128 * g.val + k.val), by omega⟩)) (fun k => x4 (ix2 0 k))) x1 x2 r d := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52]
  simp only [normed_k]
  unfold turned
  by_cases h : r.val < 256
  · rw [dif_pos h, dif_pos h]
  · simp only [h, ↓reduceDIte]
    have er : ∀ hx, (⟨256 + (r.val - 256), hx⟩ : Fin 8448) = r := fun _ => Fin.ext (by show 256 + (r.val - 256) = r.val; omega)
    by_cases hd : d.val < 64
    · simp only [hd, ↓reduceDIte]
      have ed : ∀ hx hx', (⟨64 + d.val, hx⟩ : Fin 128) = ⟨d.val + 64, hx'⟩ := fun _ _ => Fin.ext (Nat.add_comm _ _)
      simp only [er]
      rw [ed _ (by omega)]
    · simp only [hd, ↓reduceDIte]
      have ed : ∀ hx, (⟨64 + (d.val - 64), hx⟩ : Fin 128) = d := fun _ => Fin.ext (by show 64 + (d.val - 64) = d.val; omega)
      simp only [er, ed]

/-- The reference's results in every row. -/
theorem queries_at (r : Fin 8448) (e : Fin 1024) :
    val_main_v76 (F := Ideal) x0 x1 x2 x3 (ix2 r e)
      = queries x0 x1 x2 x3 r ⟨e.val / 128, by omega⟩ ⟨e.val % 128, Nat.mod_lt _ (by decide)⟩ := by
  pointwise [val_main_v76, val_main_v75, val_main_v51, val_main_v50, val_main_cst_5]
  rw [turned_q]
  rfl

theorem keys_at (r : Fin 8448) (e : Fin 256) :
    val_main_v78 (F := Ideal) x0 x1 x2 x4 (ix2 r e)
      = keys x0 x1 x2 x4 r ⟨e.val / 128, by omega⟩ ⟨e.val % 128, Nat.mod_lt _ (by decide)⟩ := by
  pointwise [val_main_v78, val_main_v77]
  rw [turned_k]
  rfl

theorem tiles_at (u : Fin 33) (j : Fin 2) (r : Fin 144) (k : Fin 256) :
    val_main_v79 (F := Ideal) x0 (ix4 u j r k) = tiles x0 u j r k := by
  pointwise [val_main_v79, val_main_v74, val_main_v73, val_main_v72, val_main_v71, val_main_v70, val_main_cst_6]
  unfold tiles
  rw [one_eq]
  split_ifs with h
  · refine congrArg x0 (congrArg₂ ix2 (Fin.ext ?_) (Fin.ext ?_))
    · show u.val * 256 + k.val = 256 * u.val + k.val; omega
    · show 2304 + (j.val * 128 + r.val) = 2304 + (128 * j.val + r.val); omega
  · rfl

end Reference

theorem frame_p : Cert.quiescent_Kernel8 := fun m ρ _ => Cert.Kernel8.Gen.frame m ρ

theorem frame_pi : Cert.quiescent_Kernel8Ideal := fun m ρ _ => Cert.Kernel8Ideal.Gen.frame m ρ

theorem frame_pi_pre : Cert.quiescent_Kernel8Ideal_pre_finite8 := fun m ρ _ => Cert.Kernel8Ideal.Gen.frame m ρ

theorem frame_ri : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

theorem frame_ri_pre : Cert.quiescent_Reference8Ideal_pre_finite8 := fun m ρ _ => frame_ri m ρ trivial

theorem preserves : Cert.preserves_Kernel8_Kernel8Ideal := trivial

/-- A column of the queries among all columns. -/
theorem slice_q (x : FVec Ideal (⟨2, ![8448, 5760]⟩ : Shape) .f32)
    (h : Shape.Slices (⟨2, ![8448, 5760]⟩ : Shape) ![0, 0] (⟨2, ![8448, 1024]⟩ : Shape)) (r : Fin 8448) (e : Fin 1024) :
    extractStridedSlice (⟨2, ![8448, 1024]⟩ : Shape) ![0, 0] x h (ix2 r e) = x (ix2 r ⟨e.val, by omega⟩) :=
  extractStridedSlice_apply ![0, 0] x h (ix2 r e) (ix2 r ⟨e.val, by omega⟩) (fun a => match a with
    | ⟨0, _⟩ => (Nat.zero_add _).symm
    | ⟨1, _⟩ => (Nat.zero_add _).symm)

/-- A column of the keys among all columns. -/
theorem slice_k (x : FVec Ideal (⟨2, ![8448, 5760]⟩ : Shape) .f32)
    (h : Shape.Slices (⟨2, ![8448, 5760]⟩ : Shape) ![0, 2048] (⟨2, ![8448, 256]⟩ : Shape)) (r : Fin 8448) (e : Fin 256) :
    extractStridedSlice (⟨2, ![8448, 256]⟩ : Shape) ![0, 2048] x h (ix2 r e) = x (ix2 r ⟨2048 + e.val, by omega⟩) :=
  extractStridedSlice_apply ![0, 2048] x h (ix2 r e) (ix2 r ⟨2048 + e.val, by omega⟩) (fun a => match a with
    | ⟨0, _⟩ => (Nat.zero_add _).symm
    | ⟨1, _⟩ => rfl)

theorem algebraic : Cert.algebraic_Kernel8Ideal_Reference8Ideal_pre_finite8 := by
  intro m ρ m' ρ' hpre hagree
  have hQ (c : Dev Cert.Kernel8Ideal.nD) (r : Fin 8448) (k : Fin 1024) :
      (m ((c : Thread Cert.Kernel8Ideal.nD Cert.Kernel8Ideal.τ).loc Cert.Kernel8Ideal.main_arg0) (ix2 r ⟨k.val, by omega⟩) : EReal)
        = ((m ((c : Thread Cert.Kernel8Ideal.nD Cert.Kernel8Ideal.τ).loc Cert.Kernel8Ideal.main_arg0) (ix2 r ⟨k.val, by omega⟩) : EReal).toReal : EReal) := by
    have h := Cert.Attn.Claims.real_of_cmp _ (congrFun (hpre c).1 (ix2 r k))
    beta_reduce at h
    rw [slice_q] at h
    exact h
  have hK (c : Dev Cert.Kernel8Ideal.nD) (r : Fin 8448) (k : Fin 256) :
      (m ((c : Thread Cert.Kernel8Ideal.nD Cert.Kernel8Ideal.τ).loc Cert.Kernel8Ideal.main_arg0) (ix2 r ⟨2048 + k.val, by omega⟩) : EReal)
        = ((m ((c : Thread Cert.Kernel8Ideal.nD Cert.Kernel8Ideal.τ).loc Cert.Kernel8Ideal.main_arg0) (ix2 r ⟨2048 + k.val, by omega⟩) : EReal).toReal : EReal) := by
    have h := Cert.Attn.Claims.real_of_cmp _ (congrFun (hpre c).2 (ix2 r k))
    beta_reduce at h
    rw [slice_k] at h
    exact h
  refine ⟨_, _, _, (θ_run Cert.Kernel8Ideal.defs _ _).mono (fun _ h c => ⟨(h c).1.trans (array_q m c (hQ c)),
      (h c).2.1.trans (array_k m c (hK c)), (h c).2.2.1.trans (array_v m c), (h c).2.2.2⟩)
    (Cert.Kernel8Ideal.Value.run_blocks (F := Ideal) m ρ), ?_⟩
  refine (θ_run Cert.Reference8Ideal.defs _ _).mono (fun _ h c => ⟨(h c).1.trans ?_, (h c).2.1.trans ?_, (h c).2.2.1.trans ?_, (h c).2.2.2⟩)
    (Cert.Reference8Ideal.Value.run (F := Ideal) m' ρ')
  · refine (Cert.Reference8Ideal.Read.val_main_v76_eq m' c).trans ?_
    rw [(hagree c).1, (hagree c).2.1, (hagree c).2.2.1, (hagree c).2.2.2.1]
    refine funext fun i => ?_
    have hi : i = ix2 (i 0) (i 1) := funext fun a => by
      match a with
      | 0 => rfl
      | 1 => rfl
    rw [hi]
    exact queries_at _ _ _ _ _ _
  · refine (Cert.Reference8Ideal.Read.val_main_v78_eq m' c).trans ?_
    rw [(hagree c).1, (hagree c).2.1, (hagree c).2.2.1, (hagree c).2.2.2.2]
    refine funext fun i => ?_
    have hi : i = ix2 (i 0) (i 1) := funext fun a => by
      match a with
      | 0 => rfl
      | 1 => rfl
    rw [hi]
    exact keys_at _ _ _ _ _ _
  · rw [(hagree c).1]
    refine (Cert.Reference8Ideal.Read.val_main_v79_eq _).trans (funext fun i => ?_)
    have hi : i = ix4 (i 0) (i 1) (i 2) (i 3) := funext fun a => by
      match a with
      | 0 => rfl
      | 1 => rfl
      | 2 => rfl
      | 3 => rfl
    rw [hi]
    exact tiles_at _ _ _ _ _

end Cert.Prep

end
-- ==== Proof.lean ====
module

public import proofs.«01_k».proof.Defs
public import proofs.«01_k».proof.Proof.Attention
public import proofs.«01_k».proof.Proof.Projection
public import proofs.«01_k».proof.Proof.Mixing
public import proofs.«01_k».proof.Proof.Residual
public import proofs.«01_k».proof.Proof.Prenorm
public import proofs.«01_k».proof.Proof.Modulation
public import proofs.«01_k».proof.Proof.Context
public import proofs.«01_k».proof.Proof.Preparation
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Pre_finite
public import proofs.«01_k».proof.Proof.Gen.Pre_finite6
public import proofs.«01_k».proof.Proof.Gen.Pre_finite7
public import proofs.«01_k».proof.Proof.Gen.Pre_finite8

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite6.Gen.facts, Cert.Pre_finite7.Gen.facts, Cert.Pre_finite8.Gen.facts,
    Cert.Attn.Claims.frame_p, Cert.Attn.Claims.frame_pi, Cert.Attn.Claims.frame_pi_pre, Cert.Attn.Claims.frame_ri,
    Cert.Attn.Claims.frame_ri_pre, Cert.Proj.frame_p, Cert.Proj.frame_pi, Cert.Proj.frame_ri,
    Cert.Mix.frame_p, Cert.Mix.frame_pi, Cert.Mix.frame_ri,
    Cert.Res.frame_p, Cert.Res.frame_pi, Cert.Res.frame_ri, Cert.Pre.frame_p, Cert.Pre.frame_pi, Cert.Pre.frame_ri,
    Cert.Mod.frame_p, Cert.Mod.frame_pi, Cert.Mod.frame_pi_pre, Cert.Mod.frame_ri, Cert.Mod.frame_ri_pre,
    Cert.Ctx.frame_p, Cert.Ctx.frame_pi, Cert.Ctx.frame_pi_pre, Cert.Ctx.frame_ri, Cert.Ctx.frame_ri_pre,
    Cert.Prep.frame_p, Cert.Prep.frame_pi, Cert.Prep.frame_pi_pre, Cert.Prep.frame_ri, Cert.Prep.frame_ri_pre,
    Cert.Attn.Claims.preserves, Cert.Attn.Claims.algebraic, Cert.Proj.preserves, Cert.Proj.algebraic,
    Cert.Mix.preserves, Cert.Mix.algebraic, Cert.Res.preserves, Cert.Res.algebraic, Cert.Pre.preserves, Cert.Pre.algebraic,
    Cert.Mod.preserves, Cert.Mod.algebraic,
    Cert.Ctx.preserves, Cert.Ctx.algebraic, Cert.Prep.preserves, Cert.Prep.algebraic⟩

end Cert.Proof

end
